-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 2, 64]⟩ ⟨4, ![2, 8192, 2, 64]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 2, 64]⟩ ⟨4, ![2, 8192, 2, 64]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v215)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v215) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x768 : Shape := ⟨3, ![2, 256, 768]⟩
abbrev S768x512 : Shape := ⟨2, ![768, 512]⟩
abbrev S2x512x2x64 : Shape := ⟨4, ![2, 512, 2, 64]⟩
abbrev S512x768 : Shape := ⟨2, ![512, 768]⟩
abbrev S_ : Shape := ⟨0, ![]⟩

class Facts : Prop where
  bitsLt_bf16_f32 : FTy.bits .bf16 < FTy.bits .f32
  bcast_S_S2x256x768 : S_.BroadcastsInDim S2x256x768 (![] : Fin 0 → Fin S2x256x768.rank)
  reducesTo_S2x256x768_S_d0_1_2 : S2x256x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x2x64 : S_.BroadcastsInDim S2x512x2x64 (![] : Fin 0 → Fin S2x512x2x64.rank)
  reducesTo_S2x512x2x64_S_d0_1_2_3 : S2x512x2x64.ReducesTo [0, 1, 2, 3] S_

variable [Facts]

def fn {F : FTy → Type} [FloatOps F] (main_arg0 : FVec F S2x256x768 .bf16) (main_arg1 : FVec F S768x512 .bf16) (main_arg2 : FVec F S2x512x2x64 .bf16) (main_arg3 : FVec F S2x512x2x64 .bf16) (main_arg4 : FVec F S512x768 .bf16) : IVec S_ 1 :=
  let main_v0 : FVec F S2x256x768 .f32 := (extf .f32 · bitsLt_bf16_f32) main_arg0
  let main_v1 : FVec F S2x256x768 .f32 := Host.absf main_v0
  let main_cst : FVec F S_ .f32 := constant S_ .f32 0x7F800000#32
  let main_v2 : FVec F S2x256x768 .f32 := broadcastInDim S2x256x768 ![] bcast_S_S2x256x768 main_cst
  let main_v3 : IVec S2x256x768 1 := cmpf .olt main_v1 main_v2
  let main_c : IVec S_ 1 := constantI S_ 1 1#1
  let main_v4 : IVec S_ 1 := (fun x v => Host.reduce IntOp.andi x v reducesTo_S2x256x768_S_d0_1_2 h_S_) main_v3 main_c
  let main_v5 : FVec F S768x512 .f32 := (extf .f32 · bitsLt_bf16_f32) main_arg1
  let main_v6 : FVec F S768x512 .f32 := Host.absf main_v5
  let main_cst_0 : FVec F S_ .f32 := constant S_ .f32 0x7F800000#32
  let main_v7 : FVec F S768x512 .f32 := broadcastInDim S768x512 ![] bcast_S_S768x512 main_cst_0
  let main_v8 : IVec S768x512 1 := cmpf .olt main_v6 main_v7
  let main_c_1 : IVec S_ 1 := constantI S_ 1 1#1
  let main_v9 : IVec S_ 1 := (fun x v => Host.reduce IntOp.andi x v reducesTo_S768x512_S_d0_1 h_S_) main_v8 main_c_1
  let main_v10 : IVec S_ 1 := andi main_v4 main_v9
  let main_v11 : FVec F S2x512x2x64 .f32 := (extf .f32 · bitsLt_bf16_f32) main_arg2
  let main_v12 : FVec F S2x512x2x64 .f32 := Host.absf main_v11
  let main_cst_2 : FVec F S_ .f32 := constant S_ .f32 0x7F800000#32
  let main_v13 : FVec F S2x512x2x64 .f32 := broadcastInDim S2x512x2x64 ![] bcast_S_S2x512x2x64 main_cst_2
  let main_v14 : IVec S2x512x2x64 1 := cmpf .olt main_v12 main_v13
  let main_c_3 : IVec S_ 1 := constantI S_ 1 1#1
  let main_v15 : IVec S_ 1 := (fun x v => Host.reduce IntOp.andi x v reducesTo_S2x512x2x64_S_d0_1_2_3 h_S_) main_v14 main_c_3
  let main_v16 : IVec S_ 1 := andi main_v10 main_v15
  main_v16
-- ==== Pre_finite_ReferenceIdeal.lean ====
abbrev S2x256x768 : Shape := ⟨3, ![2, 256, 768]⟩
abbrev S768x512 : Shape := ⟨2, ![768, 512]⟩
abbrev S2x8192x2x64 : Shape := ⟨4, ![2, 8192, 2, 64]⟩
abbrev S512x768 : Shape := ⟨2, ![512, 768]⟩
abbrev S_ : Shape := ⟨0, ![]⟩

class Facts : Prop where
  bitsLt_bf16_f32 : FTy.bits .bf16 < FTy.bits .f32
  bcast_S_S2x256x768 : S_.BroadcastsInDim S2x256x768 (![] : Fin 0 → Fin S2x256x768.rank)
  reducesTo_S2x256x768_S_d0_1_2 : S2x256x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x8192x2x64 : S_.BroadcastsInDim S2x8192x2x64 (![] : Fin 0 → Fin S2x8192x2x64.rank)
  reducesTo_S2x8192x2x64_S_d0_1_2_3 : S2x8192x2x64.ReducesTo [0, 1, 2, 3] S_

variable [Facts]

def fn {F : FTy → Type} [FloatOps F] (main_arg0 : FVec F S2x256x768 .bf16) (main_arg1 : FVec F S768x512 .bf16) (main_arg2 : FVec F S2x8192x2x64 .bf16) (main_arg3 : FVec F S2x8192x2x64 .bf16) (main_arg4 : FVec F S512x768 .bf16) : IVec S_ 1 :=
  let main_v0 : FVec F S2x256x768 .f32 := (extf .f32 · bitsLt_bf16_f32) main_arg0
  let main_v1 : FVec F S2x256x768 .f32 := Host.absf main_v0
  let main_cst : FVec F S_ .f32 := constant S_ .f32 0x7F800000#32
  let main_v2 : FVec F S2x256x768 .f32 := broadcastInDim S2x256x768 ![] bcast_S_S2x256x768 main_cst
  let main_v3 : IVec S2x256x768 1 := cmpf .olt main_v1 main_v2
  let main_c : IVec S_ 1 := constantI S_ 1 1#1
  let main_v4 : IVec S_ 1 := (fun x v => Host.reduce IntOp.andi x v reducesTo_S2x256x768_S_d0_1_2 h_S_) main_v3 main_c
  let main_v5 : FVec F S768x512 .f32 := (extf .f32 · bitsLt_bf16_f32) main_arg1
  let main_v6 : FVec F S768x512 .f32 := Host.absf main_v5
  let main_cst_0 : FVec F S_ .f32 := constant S_ .f32 0x7F800000#32
  let main_v7 : FVec F S768x512 .f32 := broadcastInDim S768x512 ![] bcast_S_S768x512 main_cst_0
  let main_v8 : IVec S768x512 1 := cmpf .olt main_v6 main_v7
  let main_c_1 : IVec S_ 1 := constantI S_ 1 1#1
  let main_v9 : IVec S_ 1 := (fun x v => Host.reduce IntOp.andi x v reducesTo_S768x512_S_d0_1 h_S_) main_v8 main_c_1
  let main_v10 : IVec S_ 1 := andi main_v4 main_v9
  let main_v11 : FVec F S2x8192x2x64 .f32 := (extf .f32 · bitsLt_bf16_f32) main_arg2
  let main_v12 : FVec F S2x8192x2x64 .f32 := Host.absf main_v11
  let main_cst_2 : FVec F S_ .f32 := constant S_ .f32 0x7F800000#32
  let main_v13 : FVec F S2x8192x2x64 .f32 := broadcastInDim S2x8192x2x64 ![] bcast_S_S2x8192x2x64 main_cst_2
  let main_v14 : IVec S2x8192x2x64 1 := cmpf .olt main_v12 main_v13
  let main_c_3 : IVec S_ 1 := constantI S_ 1 1#1
  let main_v15 : IVec S_ 1 := (fun x v => Host.reduce IntOp.andi x v reducesTo_S2x8192x2x64_S_d0_1_2_3 h_S_) main_v14 main_c_3
  let main_v16 : IVec S_ 1 := andi main_v10 main_v15
  main_v16
-- ==== Kernel.lean ====
abbrev S2x256x768 : Shape := ⟨3, ![2, 256, 768]⟩
abbrev S768x512 : Shape := ⟨2, ![768, 512]⟩
abbrev S2x512x2x64 : Shape := ⟨4, ![2, 512, 2, 64]⟩
abbrev S512x768 : Shape := ⟨2, ![512, 768]⟩
abbrev S512x520 : Shape := ⟨2, ![512, 520]⟩
abbrev S480x520 : Shape := ⟨2, ![480, 520]⟩
abbrev S12 : Shape := ⟨1, ![12]⟩
abbrev S1x256x768 : Shape := ⟨3, ![1, 256, 768]⟩
abbrev S256x768 : Shape := ⟨2, ![256, 768]⟩
abbrev S256x512 : Shape := ⟨2, ![256, 512]⟩
abbrev S1x512x2x64 : Shape := ⟨4, ![1, 512, 2, 64]⟩
abbrev S512x2x64 : Shape := ⟨3, ![512, 2, 64]⟩
abbrev S512x128 : Shape := ⟨2, ![512, 128]⟩
abbrev S256x64 : Shape := ⟨2, ![256, 64]⟩
abbrev S1024x64 : Shape := ⟨2, ![1024, 64]⟩
abbrev S512x64 : Shape := ⟨2, ![512, 64]⟩
abbrev S1024x512 : Shape := ⟨2, ![1024, 512]⟩
abbrev S1024 : Shape := ⟨1, ![1024]⟩
abbrev S1024x1 : Shape := ⟨2, ![1024, 1]⟩
abbrev S256x1 : Shape := ⟨2, ![256, 1]⟩
abbrev S_ : Shape := ⟨0, ![]⟩
abbrev S256x520 : Shape := ⟨2, ![256, 520]⟩
abbrev S1 : Shape := ⟨1, ![1]⟩
abbrev S128x520 : Shape := ⟨2, ![128, 520]⟩
abbrev S64x520 : Shape := ⟨2, ![64, 520]⟩
abbrev S32x520 : Shape := ⟨2, ![32, 520]⟩
abbrev S32x1 : Shape := ⟨2, ![32, 1]⟩
abbrev S32x64 : Shape := ⟨2, ![32, 64]⟩
abbrev S32x512 : Shape := ⟨2, ![32, 512]⟩
abbrev S32x768 : Shape := ⟨2, ![32, 768]⟩
abbrev S64x768 : Shape := ⟨2, ![64, 768]⟩
abbrev S128x768 : Shape := ⟨2, ![128, 768]⟩

abbrev nBuf : Space → Nat
  | .hbm => 6
  | .vmem => 10
  | .smem => 0
  | _ => 0

abbrev bufTy : (tb : Table) → Fin (tcTables nBuf tb) → BufTy
  | .hbm, ⟨0, _⟩ => ⟨S2x256x768, .bf16⟩
  | .hbm, ⟨1, _⟩ => ⟨S768x512, .bf16⟩
  | .hbm, ⟨2, _⟩ => ⟨S2x512x2x64, .bf16⟩
  | .hbm, ⟨3, _⟩ => ⟨S2x512x2x64, .bf16⟩
  | .hbm, ⟨4, _⟩ => ⟨S512x768, .bf16⟩
  | .hbm, ⟨5, _⟩ => ⟨S512x768, .f32⟩
  | .local _ .vmem, ⟨0, _⟩ => ⟨S2x256x768, .bf16⟩
  | .local _ .vmem, ⟨1, _⟩ => ⟨S768x512, .bf16⟩
  | .local _ .vmem, ⟨2, _⟩ => ⟨S512x768, .bf16⟩
  | .local _ .vmem, ⟨3, _⟩ => ⟨S2x512x2x64, .bf16⟩
  | .local _ .vmem, ⟨4, _⟩ => ⟨S2x512x2x64, .bf16⟩
  | .local _ .vmem, ⟨5, _⟩ => ⟨S512x768, .f32⟩
  | .local _ .vmem, ⟨6, _⟩ => ⟨S512x520, .f32⟩
  | .local _ .vmem, ⟨7, _⟩ => ⟨S480x520, .bf16⟩
  | .local _ .vmem, ⟨8, _⟩ => ⟨S480x520, .bf16⟩
  | .local _ .vmem, ⟨9, _⟩ => ⟨S512x768, .bf16⟩
  | _, _ => ⟨S2x256x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v22 : BitVec 32 := Scalar.xori v2 c1_i32_7
  let c1_i32_9 : BitVec 32 := 1#32
  let v23 : BitVec 32 := Scalar.muli v22 c1_i32_9
  let v24 : BitVec 32 := Scalar.addi c0_i32_10 v23
  v24.toNat
def k0_dev2 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_11 : BitVec 32 := 2#32
  let v25 : BitVec 32 := Scalar.xori v2 c2_i32_11
  let c1_i32_13 : BitVec 32 := 1#32
  let v26 : BitVec 32 := Scalar.muli v25 c1_i32_13
  let v27 : BitVec 32 := Scalar.addi c0_i32_14 v26
  v27.toNat
def k0_dev3 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_15 : BitVec 32 := 4#32
  let v28 : BitVec 32 := Scalar.xori v2 c4_i32_15
  let c1_i32_17 : BitVec 32 := 1#32
  let v29 : BitVec 32 := Scalar.muli v28 c1_i32_17
  let v30 : BitVec 32 := Scalar.addi c0_i32_18 v29
  v30.toNat
def k0_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_19 : BitVec 32 := 8#32
  let v31 : BitVec 32 := Scalar.xori v2 c8_i32_19
  let c1_i32_21 : BitVec 32 := 1#32
  let v32 : BitVec 32 := Scalar.muli v31 c1_i32_21
  let v33 : BitVec 32 := Scalar.addi c0_i32_22 v32
  v33.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c3_i32 : BitVec 32 := 3#32
  let v4 : BitVec 32 := Scalar.shli v3 c3_i32
  let c2_i32 : BitVec 32 := 2#32
  let v5 : BitVec 32 := Scalar.andi v2 c2_i32
  let c1_i32_1 : BitVec 32 := 1#32
  let v6 : BitVec 32 := Scalar.shli v5 c1_i32_1
  let v7 : BitVec 32 := Scalar.ori v4 v6
  let c4_i32 : BitVec 32 := 4#32
  let v8 : BitVec 32 := Scalar.andi v2 c4_i32
  let c1_i32_2 : BitVec 32 := 1#32
  let v9 : BitVec 32 := Scalar.shrsi v8 c1_i32_2
  let v10 : BitVec 32 := Scalar.ori v7 v9
  let c8_i32 : BitVec 32 := 8#32
  let v11 : BitVec 32 := Scalar.andi v2 c8_i32
  let c3_i32_3 : BitVec 32 := 3#32
  let v12 : BitVec 32 := Scalar.shrsi v11 c3_i32_3
  let v13 : BitVec 32 := Scalar.ori v10 v12
  let c3_i32_26 : BitVec 32 := 3#32
  let v35 : BitVec 32 := Scalar.shrsi v13 c3_i32_26
  let c3_i32_27 : BitVec 32 := 3#32
  let v36 : BitVec 32 := Scalar.shli v35 c3_i32_27
  let c8_i32_28 : BitVec 32 := 8#32
  let v37 : BitVec 32 := Scalar.xori v36 c8_i32_28
  let c32_i32 : BitVec 32 := 32#32
  let v38 : BitVec 32 := Scalar.muli v37 c32_i32
  let v39 : Index := Scalar.indexCast v38
  let c0 : Index := 0#32
  ![v39.toNat, 0]
def k0_dev5 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_25 : BitVec 32 := 1#32
  let v34 : BitVec 32 := Scalar.xori v2 c1_i32_25
  let c1_i32_33 : BitVec 32 := 1#32
  let v45 : BitVec 32 := Scalar.muli v34 c1_i32_33
  let v46 : BitVec 32 := Scalar.addi c0_i32_34 v45
  v46.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c3_i32 : BitVec 32 := 3#32
  let v4 : BitVec 32 := Scalar.shli v3 c3_i32
  let c2_i32 : BitVec 32 := 2#32
  let v5 : BitVec 32 := Scalar.andi v2 c2_i32
  let c1_i32_1 : BitVec 32 := 1#32
  let v6 : BitVec 32 := Scalar.shli v5 c1_i32_1
  let v7 : BitVec 32 := Scalar.ori v4 v6
  let c4_i32 : BitVec 32 := 4#32
  let v8 : BitVec 32 := Scalar.andi v2 c4_i32
  let c1_i32_2 : BitVec 32 := 1#32
  let v9 : BitVec 32 := Scalar.shrsi v8 c1_i32_2
  let v10 : BitVec 32 := Scalar.ori v7 v9
  let c8_i32 : BitVec 32 := 8#32
  let v11 : BitVec 32 := Scalar.andi v2 c8_i32
  let c3_i32_3 : BitVec 32 := 3#32
  let v12 : BitVec 32 := Scalar.shrsi v11 c3_i32_3
  let v13 : BitVec 32 := Scalar.ori v10 v12
  let c3_i32_26 : BitVec 32 := 3#32
  let v35 : BitVec 32 := Scalar.shrsi v13 c3_i32_26
  let c3_i32_27 : BitVec 32 := 3#32
  let v36 : BitVec 32 := Scalar.shli v35 c3_i32_27
  let c32_i32_50 : BitVec 32 := 32#32
  let v64 : BitVec 32 := Scalar.muli v36 c32_i32_50
  let v65 : Index := Scalar.indexCast v64
  let c0_51 : Index := 0#32
  ![v65.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c3_i32 : BitVec 32 := 3#32
  let v4 : BitVec 32 := Scalar.shli v3 c3_i32
  let c2_i32 : BitVec 32 := 2#32
  let v5 : BitVec 32 := Scalar.andi v2 c2_i32
  let c1_i32_1 : BitVec 32 := 1#32
  let v6 : BitVec 32 := Scalar.shli v5 c1_i32_1
  let v7 : BitVec 32 := Scalar.ori v4 v6
  let c4_i32 : BitVec 32 := 4#32
  let v8 : BitVec 32 := Scalar.andi v2 c4_i32
  let c1_i32_2 : BitVec 32 := 1#32
  let v9 : BitVec 32 := Scalar.shrsi v8 c1_i32_2
  let v10 : BitVec 32 := Scalar.ori v7 v9
  let c8_i32 : BitVec 32 := 8#32
  let v11 : BitVec 32 := Scalar.andi v2 c8_i32
  let c3_i32_3 : BitVec 32 := 3#32
  let v12 : BitVec 32 := Scalar.shrsi v11 c3_i32_3
  let v13 : BitVec 32 := Scalar.ori v10 v12
  let c2_i32_57 : BitVec 32 := 2#32
  let v76 : BitVec 32 := Scalar.shrsi v13 c2_i32_57
  let c2_i32_58 : BitVec 32 := 2#32
  let v77 : BitVec 32 := Scalar.shli v76 c2_i32_58
  let c4_i32_59 : BitVec 32 := 4#32
  let v78 : BitVec 32 := Scalar.xori v77 c4_i32_59
  let c32_i32_60 : BitVec 32 := 32#32
  let v79 : BitVec 32 := Scalar.muli v78 c32_i32_60
  let v80 : Index := Scalar.indexCast v79
  let c0_61 : Index := 0#32
  ![v80.toNat, 0]
def k0_dev6 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_56 : BitVec 32 := 2#32
  let v75 : BitVec 32 := Scalar.xori v2 c2_i32_56
  let c1_i32_65 : BitVec 32 := 1#32
  let v86 : BitVec 32 := Scalar.muli v75 c1_i32_65
  let v87 : BitVec 32 := Scalar.addi c0_i32_66 v86
  v87.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c3_i32 : BitVec 32 := 3#32
  let v4 : BitVec 32 := Scalar.shli v3 c3_i32
  let c2_i32 : BitVec 32 := 2#32
  let v5 : BitVec 32 := Scalar.andi v2 c2_i32
  let c1_i32_1 : BitVec 32 := 1#32
  let v6 : BitVec 32 := Scalar.shli v5 c1_i32_1
  let v7 : BitVec 32 := Scalar.ori v4 v6
  let c4_i32 : BitVec 32 := 4#32
  let v8 : BitVec 32 := Scalar.andi v2 c4_i32
  let c1_i32_2 : BitVec 32 := 1#32
  let v9 : BitVec 32 := Scalar.shrsi v8 c1_i32_2
  let v10 : BitVec 32 := Scalar.ori v7 v9
  let c8_i32 : BitVec 32 := 8#32
  let v11 : BitVec 32 := Scalar.andi v2 c8_i32
  let c3_i32_3 : BitVec 32 := 3#32
  let v12 : BitVec 32 := Scalar.shrsi v11 c3_i32_3
  let v13 : BitVec 32 := Scalar.ori v10 v12
  let c2_i32_57 : BitVec 32 := 2#32
  let v76 : BitVec 32 := Scalar.shrsi v13 c2_i32_57
  let c2_i32_58 : BitVec 32 := 2#32
  let v77 : BitVec 32 := Scalar.shli v76 c2_i32_58
  let c32_i32_78 : BitVec 32 := 32#32
  let v100 : BitVec 32 := Scalar.muli v77 c32_i32_78
  let v101 : Index := Scalar.indexCast v100
  let c0_79 : Index := 0#32
  ![v101.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c3_i32 : BitVec 32 := 3#32
  let v4 : BitVec 32 := Scalar.shli v3 c3_i32
  let c2_i32 : BitVec 32 := 2#32
  let v5 : BitVec 32 := Scalar.andi v2 c2_i32
  let c1_i32_1 : BitVec 32 := 1#32
  let v6 : BitVec 32 := Scalar.shli v5 c1_i32_1
  let v7 : BitVec 32 := Scalar.ori v4 v6
  let c4_i32 : BitVec 32 := 4#32
  let v8 : BitVec 32 := Scalar.andi v2 c4_i32
  let c1_i32_2 : BitVec 32 := 1#32
  let v9 : BitVec 32 := Scalar.shrsi v8 c1_i32_2
  let v10 : BitVec 32 := Scalar.ori v7 v9
  let c8_i32 : BitVec 32 := 8#32
  let v11 : BitVec 32 := Scalar.andi v2 c8_i32
  let c3_i32_3 : BitVec 32 := 3#32
  let v12 : BitVec 32 := Scalar.shrsi v11 c3_i32_3
  let v13 : BitVec 32 := Scalar.ori v10 v12
  let c1_i32_85 : BitVec 32 := 1#32
  let v112 : BitVec 32 := Scalar.shrsi v13 c1_i32_85
  let c1_i32_86 : BitVec 32 := 1#32
  let v113 : BitVec 32 := Scalar.shli v112 c1_i32_86
  let c2_i32_87 : BitVec 32 := 2#32
  let v114 : BitVec 32 := Scalar.xori v113 c2_i32_87
  let c32_i32_88 : BitVec 32 := 32#32
  let v115 : BitVec 32 := Scalar.muli v114 c32_i32_88
  let v116 : Index := Scalar.indexCast v115
  let c0_89 : Index := 0#32
  ![v116.toNat, 0]
def k0_dev7 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_84 : BitVec 32 := 4#32
  let v111 : BitVec 32 := Scalar.xori v2 c4_i32_84
  let c1_i32_93 : BitVec 32 := 1#32
  let v122 : BitVec 32 := Scalar.muli v111 c1_i32_93
  let v123 : BitVec 32 := Scalar.addi c0_i32_94 v122
  v123.toNat
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c3_i32 : BitVec 32 := 3#32
  let v4 : BitVec 32 := Scalar.shli v3 c3_i32
  let c2_i32 : BitVec 32 := 2#32
  let v5 : BitVec 32 := Scalar.andi v2 c2_i32
  let c1_i32_1 : BitVec 32 := 1#32
  let v6 : BitVec 32 := Scalar.shli v5 c1_i32_1
  let v7 : BitVec 32 := Scalar.ori v4 v6
  let c4_i32 : BitVec 32 := 4#32
  let v8 : BitVec 32 := Scalar.andi v2 c4_i32
  let c1_i32_2 : BitVec 32 := 1#32
  let v9 : BitVec 32 := Scalar.shrsi v8 c1_i32_2
  let v10 : BitVec 32 := Scalar.ori v7 v9
  let c8_i32 : BitVec 32 := 8#32
  let v11 : BitVec 32 := Scalar.andi v2 c8_i32
  let c3_i32_3 : BitVec 32 := 3#32
  let v12 : BitVec 32 := Scalar.shrsi v11 c3_i32_3
  let v13 : BitVec 32 := Scalar.ori v10 v12
  let c1_i32_85 : BitVec 32 := 1#32
  let v112 : BitVec 32 := Scalar.shrsi v13 c1_i32_85
  let c1_i32_86 : BitVec 32 := 1#32
  let v113 : BitVec 32 := Scalar.shli v112 c1_i32_86
  let c32_i32_106 : BitVec 32 := 32#32
  let v136 : BitVec 32 := Scalar.muli v113 c32_i32_106
  let v137 : Index := Scalar.indexCast v136
  let c0_107 : Index := 0#32
  ![v137.toNat, 0]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c3_i32 : BitVec 32 := 3#32
  let v4 : BitVec 32 := Scalar.shli v3 c3_i32
  let c2_i32 : BitVec 32 := 2#32
  let v5 : BitVec 32 := Scalar.andi v2 c2_i32
  let c1_i32_1 : BitVec 32 := 1#32
  let v6 : BitVec 32 := Scalar.shli v5 c1_i32_1
  let v7 : BitVec 32 := Scalar.ori v4 v6
  let c4_i32 : BitVec 32 := 4#32
  let v8 : BitVec 32 := Scalar.andi v2 c4_i32
  let c1_i32_2 : BitVec 32 := 1#32
  let v9 : BitVec 32 := Scalar.shrsi v8 c1_i32_2
  let v10 : BitVec 32 := Scalar.ori v7 v9
  let c8_i32 : BitVec 32 := 8#32
  let v11 : BitVec 32 := Scalar.andi v2 c8_i32
  let c3_i32_3 : BitVec 32 := 3#32
  let v12 : BitVec 32 := Scalar.shrsi v11 c3_i32_3
  let v13 : BitVec 32 := Scalar.ori v10 v12
  let c0_i32_113 : BitVec 32 := 0#32
  let v148 : BitVec 32 := Scalar.shrsi v13 c0_i32_113
  let c0_i32_114 : BitVec 32 := 0#32
  let v149 : BitVec 32 := Scalar.shli v148 c0_i32_114
  let c1_i32_115 : BitVec 32 := 1#32
  let v150 : BitVec 32 := Scalar.xori v149 c1_i32_115
  let c32_i32_116 : BitVec 32 := 32#32
  let v151 : BitVec 32 := Scalar.muli v150 c32_i32_116
  let v152 : Index := Scalar.indexCast v151
  let c0_117 : Index := 0#32
  ![v152.toNat, 0]
def k0_dev8 (d0 : Dev nD) : Nat :=
  let c0_i32_122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_112 : BitVec 32 := 8#32
  let v147 : BitVec 32 := Scalar.xori v2 c8_i32_112
  let c1_i32_121 : BitVec 32 := 1#32
  let v158 : BitVec 32 := Scalar.muli v147 c1_i32_121
  let v159 : BitVec 32 := Scalar.addi c0_i32_122 v158
  v159.toNat
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c3_i32 : BitVec 32 := 3#32
  let v4 : BitVec 32 := Scalar.shli v3 c3_i32
  let c2_i32 : BitVec 32 := 2#32
  let v5 : BitVec 32 := Scalar.andi v2 c2_i32
  let c1_i32_1 : BitVec 32 := 1#32
  let v6 : BitVec 32 := Scalar.shli v5 c1_i32_1
  let v7 : BitVec 32 := Scalar.ori v4 v6
  let c4_i32 : BitVec 32 := 4#32
  let v8 : BitVec 32 := Scalar.andi v2 c4_i32
  let c1_i32_2 : BitVec 32 := 1#32
  let v9 : BitVec 32 := Scalar.shrsi v8 c1_i32_2
  let v10 : BitVec 32 := Scalar.ori v7 v9
  let c8_i32 : BitVec 32 := 8#32
  let v11 : BitVec 32 := Scalar.andi v2 c8_i32
  let c3_i32_3 : BitVec 32 := 3#32
  let v12 : BitVec 32 := Scalar.shrsi v11 c3_i32_3
  let v13 : BitVec 32 := Scalar.ori v10 v12
  let c0_i32_113 : BitVec 32 := 0#32
  let v148 : BitVec 32 := Scalar.shrsi v13 c0_i32_113
  let c0_i32_114 : BitVec 32 := 0#32
  let v149 : BitVec 32 := Scalar.shli v148 c0_i32_114
  let c32_i32_134 : BitVec 32 := 32#32
  let v172 : BitVec 32 := Scalar.muli v149 c32_i32_134
  let v173 : Index := Scalar.indexCast v172
  let c0_135 : Index := 0#32
  ![v173.toNat, 0]
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c3_i32 : BitVec 32 := 3#32
  let v4 : BitVec 32 := Scalar.shli v3 c3_i32
  let c2_i32 : BitVec 32 := 2#32
  let v5 : BitVec 32 := Scalar.andi v2 c2_i32
  let c1_i32_1 : BitVec 32 := 1#32
  let v6 : BitVec 32 := Scalar.shli v5 c1_i32_1
  let v7 : BitVec 32 := Scalar.ori v4 v6
  let c4_i32 : BitVec 32 := 4#32
  let v8 : BitVec 32 := Scalar.andi v2 c4_i32
  let c1_i32_2 : BitVec 32 := 1#32
  let v9 : BitVec 32 := Scalar.shrsi v8 c1_i32_2
  let v10 : BitVec 32 := Scalar.ori v7 v9
  let c8_i32 : BitVec 32 := 8#32
  let v11 : BitVec 32 := Scalar.andi v2 c8_i32
  let c3_i32_3 : BitVec 32 := 3#32
  let v12 : BitVec 32 := Scalar.shrsi v11 c3_i32_3
  let v13 : BitVec 32 := Scalar.ori v10 v12
  let c32_i32_140 : BitVec 32 := 32#32
  let v183 : BitVec 32 := Scalar.muli v13 c32_i32_140
  let v184 : Index := Scalar.indexCast v183
  let c0_141 : Index := 0#32
  ![v184.toNat, 0]
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c3_i32 : BitVec 32 := 3#32
  let v4 : BitVec 32 := Scalar.shli v3 c3_i32
  let c2_i32 : BitVec 32 := 2#32
  let v5 : BitVec 32 := Scalar.andi v2 c2_i32
  let c1_i32_1 : BitVec 32 := 1#32
  let v6 : BitVec 32 := Scalar.shli v5 c1_i32_1
  let v7 : BitVec 32 := Scalar.ori v4 v6
  let c4_i32 : BitVec 32 := 4#32
  let v8 : BitVec 32 := Scalar.andi v2 c4_i32
  let c1_i32_2 : BitVec 32 := 1#32
  let v9 : BitVec 32 := Scalar.shrsi v8 c1_i32_2
  let v10 : BitVec 32 := Scalar.ori v7 v9
  let c8_i32 : BitVec 32 := 8#32
  let v11 : BitVec 32 := Scalar.andi v2 c8_i32
  let c3_i32_3 : BitVec 32 := 3#32
  let v12 : BitVec 32 := Scalar.shrsi v11 c3_i32_3
  let v13 : BitVec 32 := Scalar.ori v10 v12
  let c32_i32_144 : BitVec 32 := 32#32
  let v224 : BitVec 32 := Scalar.muli v13 c32_i32_144
  let v225 : Index := Scalar.indexCast v224
  let c0_145 : Index := 0#32
  ![v225.toNat, 0]
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c3_i32 : BitVec 32 := 3#32
  let v4 : BitVec 32 := Scalar.shli v3 c3_i32
  let c2_i32 : BitVec 32 := 2#32
  let v5 : BitVec 32 := Scalar.andi v2 c2_i32
  let c1_i32_1 : BitVec 32 := 1#32
  let v6 : BitVec 32 := Scalar.shli v5 c1_i32_1
  let v7 : BitVec 32 := Scalar.ori v4 v6
  let c4_i32 : BitVec 32 := 4#32
  let v8 : BitVec 32 := Scalar.andi v2 c4_i32
  let c1_i32_2 : BitVec 32 := 1#32
  let v9 : BitVec 32 := Scalar.shrsi v8 c1_i32_2
  let v10 : BitVec 32 := Scalar.ori v7 v9
  let c8_i32 : BitVec 32 := 8#32
  let v11 : BitVec 32 := Scalar.andi v2 c8_i32
  let c3_i32_3 : BitVec 32 := 3#32
  let v12 : BitVec 32 := Scalar.shrsi v11 c3_i32_3
  let v13 : BitVec 32 := Scalar.ori v10 v12
  let c0_i32_150 : BitVec 32 := 0#32
  let v233 : BitVec 32 := Scalar.shrsi v13 c0_i32_150
  let c0_i32_151 : BitVec 32 := 0#32
  let v234 : BitVec 32 := Scalar.shli v233 c0_i32_151
  let c32_i32_153 : BitVec 32 := 32#32
  let v236 : BitVec 32 := Scalar.muli v234 c32_i32_153
  let c0_i32_158 : BitVec 32 := 0#32
  ![v236.toNat, 0]
def k0_dev9 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_146 : BitVec 32 := 8#32
  let v229 : BitVec 32 := Scalar.xori v2 c8_i32_146
  let c1_i32_156 : BitVec 32 := 1#32
  let v237 : BitVec 32 := Scalar.muli v229 c1_i32_156
  let v238 : BitVec 32 := Scalar.addi c0_i32_157 v237
  v238.toNat
def k0_dev10 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_147 : BitVec 32 := 4#32
  let v230 : BitVec 32 := Scalar.xori v2 c4_i32_147
  let c1_i32_165 : BitVec 32 := 1#32
  let v249 : BitVec 32 := Scalar.muli v230 c1_i32_165
  let v250 : BitVec 32 := Scalar.addi c0_i32_166 v249
  v250.toNat
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c3_i32 : BitVec 32 := 3#32
  let v4 : BitVec 32 := Scalar.shli v3 c3_i32
  let c2_i32 : BitVec 32 := 2#32
  let v5 : BitVec 32 := Scalar.andi v2 c2_i32
  let c1_i32_1 : BitVec 32 := 1#32
  let v6 : BitVec 32 := Scalar.shli v5 c1_i32_1
  let v7 : BitVec 32 := Scalar.ori v4 v6
  let c4_i32 : BitVec 32 := 4#32
  let v8 : BitVec 32 := Scalar.andi v2 c4_i32
  let c1_i32_2 : BitVec 32 := 1#32
  let v9 : BitVec 32 := Scalar.shrsi v8 c1_i32_2
  let v10 : BitVec 32 := Scalar.ori v7 v9
  let c8_i32 : BitVec 32 := 8#32
  let v11 : BitVec 32 := Scalar.andi v2 c8_i32
  let c3_i32_3 : BitVec 32 := 3#32
  let v12 : BitVec 32 := Scalar.shrsi v11 c3_i32_3
  let v13 : BitVec 32 := Scalar.ori v10 v12
  let c0_i32_175 : BitVec 32 := 0#32
  let v263 : BitVec 32 := Scalar.shrsi v13 c0_i32_175
  let c0_i32_176 : BitVec 32 := 0#32
  let v264 : BitVec 32 := Scalar.shli v263 c0_i32_176
  let c1_i32_177 : BitVec 32 := 1#32
  let v265 : BitVec 32 := Scalar.xori v264 c1_i32_177
  let c32_i32_179 : BitVec 32 := 32#32
  let v267 : BitVec 32 := Scalar.muli v265 c32_i32_179
  let c0_i32_183 : BitVec 32 := 0#32
  ![v267.toNat, 0]
def k0_dev11 (d0 : Dev nD) : Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_147 : BitVec 32 := 4#32
  let v230 : BitVec 32 := Scalar.xori v2 c4_i32_147
  let c1_i32_181 : BitVec 32 := 1#32
  let v268 : BitVec 32 := Scalar.muli v230 c1_i32_181
  let v269 : BitVec 32 := Scalar.addi c0_i32_182 v268
  v269.toNat
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c3_i32 : BitVec 32 := 3#32
  let v4 : BitVec 32 := Scalar.shli v3 c3_i32
  let c2_i32 : BitVec 32 := 2#32
  let v5 : BitVec 32 := Scalar.andi v2 c2_i32
  let c1_i32_1 : BitVec 32 := 1#32
  let v6 : BitVec 32 := Scalar.shli v5 c1_i32_1
  let v7 : BitVec 32 := Scalar.ori v4 v6
  let c4_i32 : BitVec 32 := 4#32
  let v8 : BitVec 32 := Scalar.andi v2 c4_i32
  let c1_i32_2 : BitVec 32 := 1#32
  let v9 : BitVec 32 := Scalar.shrsi v8 c1_i32_2
  let v10 : BitVec 32 := Scalar.ori v7 v9
  let c8_i32 : BitVec 32 := 8#32
  let v11 : BitVec 32 := Scalar.andi v2 c8_i32
  let c3_i32_3 : BitVec 32 := 3#32
  let v12 : BitVec 32 := Scalar.shrsi v11 c3_i32_3
  let v13 : BitVec 32 := Scalar.ori v10 v12
  let c1_i32_185 : BitVec 32 := 1#32
  let v276 : BitVec 32 := Scalar.shrsi v13 c1_i32_185
  let c1_i32_186 : BitVec 32 := 1#32
  let v277 : BitVec 32 := Scalar.shli v276 c1_i32_186
  let c32_i32_188 : BitVec 32 := 32#32
  let v279 : BitVec 32 := Scalar.muli v277 c32_i32_188
  let c0_i32_192 : BitVec 32 := 0#32
  ![v279.toNat, 0]
def k0_dev12 (d0 : Dev nD) : Nat :=
  let c0_i32_191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_148 : BitVec 32 := 2#32
  let v231 : BitVec 32 := Scalar.xori v2 c2_i32_148
  let c1_i32_190 : BitVec 32 := 1#32
  let v280 : BitVec 32 := Scalar.muli v231 c1_i32_190
  let v281 : BitVec 32 := Scalar.addi c0_i32_191 v280
  v281.toNat
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c3_i32 : BitVec 32 := 3#32
  let v4 : BitVec 32 := Scalar.shli v3 c3_i32
  let c2_i32 : BitVec 32 := 2#32
  let v5 : BitVec 32 := Scalar.andi v2 c2_i32
  let c1_i32_1 : BitVec 32 := 1#32
  let v6 : BitVec 32 := Scalar.shli v5 c1_i32_1
  let v7 : BitVec 32 := Scalar.ori v4 v6
  let c4_i32 : BitVec 32 := 4#32
  let v8 : BitVec 32 := Scalar.andi v2 c4_i32
  let c1_i32_2 : BitVec 32 := 1#32
  let v9 : BitVec 32 := Scalar.shrsi v8 c1_i32_2
  let v10 : BitVec 32 := Scalar.ori v7 v9
  let c8_i32 : BitVec 32 := 8#32
  let v11 : BitVec 32 := Scalar.andi v2 c8_i32
  let c3_i32_3 : BitVec 32 := 3#32
  let v12 : BitVec 32 := Scalar.shrsi v11 c3_i32_3
  let v13 : BitVec 32 := Scalar.ori v10 v12
  let c1_i32_206 : BitVec 32 := 1#32
  let v300 : BitVec 32 := Scalar.shrsi v13 c1_i32_206
  let c1_i32_207 : BitVec 32 := 1#32
  let v301 : BitVec 32 := Scalar.shli v300 c1_i32_207
  let c2_i32_208 : BitVec 32 := 2#32
  let v302 : BitVec 32 := Scalar.xori v301 c2_i32_208
  let c32_i32_210 : BitVec 32 := 32#32
  let v304 : BitVec 32 := Scalar.muli v302 c32_i32_210
  let c0_i32_214 : BitVec 32 := 0#32
  ![v304.toNat, 0]
def k0_dev13 (d0 : Dev nD) : Nat :=
  let c0_i32_213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_148 : BitVec 32 := 2#32
  let v231 : BitVec 32 := Scalar.xori v2 c2_i32_148
  let c1_i32_212 : BitVec 32 := 1#32
  let v305 : BitVec 32 := Scalar.muli v231 c1_i32_212
  let v306 : BitVec 32 := Scalar.addi c0_i32_213 v305
  v306.toNat
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c3_i32 : BitVec 32 := 3#32
  let v4 : BitVec 32 := Scalar.shli v3 c3_i32
  let c2_i32 : BitVec 32 := 2#32
  let v5 : BitVec 32 := Scalar.andi v2 c2_i32
  let c1_i32_1 : BitVec 32 := 1#32
  let v6 : BitVec 32 := Scalar.shli v5 c1_i32_1
  let v7 : BitVec 32 := Scalar.ori v4 v6
  let c4_i32 : BitVec 32 := 4#32
  let v8 : BitVec 32 := Scalar.andi v2 c4_i32
  let c1_i32_2 : BitVec 32 := 1#32
  let v9 : BitVec 32 := Scalar.shrsi v8 c1_i32_2
  let v10 : BitVec 32 := Scalar.ori v7 v9
  let c8_i32 : BitVec 32 := 8#32
  let v11 : BitVec 32 := Scalar.andi v2 c8_i32
  let c3_i32_3 : BitVec 32 := 3#32
  let v12 : BitVec 32 := Scalar.shrsi v11 c3_i32_3
  let v13 : BitVec 32 := Scalar.ori v10 v12
  let c2_i32_216 : BitVec 32 := 2#32
  let v313 : BitVec 32 := Scalar.shrsi v13 c2_i32_216
  let c2_i32_217 : BitVec 32 := 2#32
  let v314 : BitVec 32 := Scalar.shli v313 c2_i32_217
  let c32_i32_219 : BitVec 32 := 32#32
  let v316 : BitVec 32 := Scalar.muli v314 c32_i32_219
  let c0_i32_223 : BitVec 32 := 0#32
  ![v316.toNat, 0]
def k0_dev14 (d0 : Dev nD) : Nat :=
  let c0_i32_222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_149 : BitVec 32 := 1#32
  let v232 : BitVec 32 := Scalar.xori v2 c1_i32_149
  let c1_i32_221 : BitVec 32 := 1#32
  let v317 : BitVec 32 := Scalar.muli v232 c1_i32_221
  let v318 : BitVec 32 := Scalar.addi c0_i32_222 v317
  v318.toNat
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.andi v2 c1_i32_0
  let c3_i32 : BitVec 32 := 3#32
  let v4 : BitVec 32 := Scalar.shli v3 c3_i32
  let c2_i32 : BitVec 32 := 2#32
  let v5 : BitVec 32 := Scalar.andi v2 c2_i32
  let c1_i32_1 : BitVec 32 := 1#32
  let v6 : BitVec 32 := Scalar.shli v5 c1_i32_1
  let v7 : BitVec 32 := Scalar.ori v4 v6
  let c4_i32 : BitVec 32 := 4#32
  let v8 : BitVec 32 := Scalar.andi v2 c4_i32
  let c1_i32_2 : BitVec 32 := 1#32
  let v9 : BitVec 32 := Scalar.shrsi v8 c1_i32_2
  let v10 : BitVec 32 := Scalar.ori v7 v9
  let c8_i32 : BitVec 32 := 8#32
  let v11 : BitVec 32 := Scalar.andi v2 c8_i32
  let c3_i32_3 : BitVec 32 := 3#32
  let v12 : BitVec 32 := Scalar.shrsi v11 c3_i32_3
  let v13 : BitVec 32 := Scalar.ori v10 v12
  let c2_i32_237 : BitVec 32 := 2#32
  let v337 : BitVec 32 := Scalar.shrsi v13 c2_i32_237
  let c2_i32_238 : BitVec 32 := 2#32
  let v338 : BitVec 32 := Scalar.shli v337 c2_i32_238
  let c4_i32_239 : BitVec 32 := 4#32
  let v339 : BitVec 32 := Scalar.xori v338 c4_i32_239
  let c32_i32_241 : BitVec 32 := 32#32
  let v341 : BitVec 32 := Scalar.muli v339 c32_i32_241
  let c0_i32_245 : BitVec 32 := 0#32
  ![v341.toNat, 0]
def k0_dev15 (d0 : Dev nD) : Nat :=
  let c0_i32_244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_149 : BitVec 32 := 1#32
  let v232 : BitVec 32 := Scalar.xori v2 c1_i32_149
  let c1_i32_243 : BitVec 32 := 1#32
  let v342 : BitVec 32 := Scalar.muli v232 c1_i32_243
  let v343 : BitVec 32 := Scalar.addi c0_i32_244 v342
  v343.toNat
abbrev stage0_0 : Fin 1 → Memref sig .tc .vmem S2x256x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x2x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x512x2x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x768 : Shape := ⟨3, ![2, 256, 768]⟩
abbrev S768x512 : Shape := ⟨2, ![768, 512]⟩
abbrev S2x8192x2x64 : Shape := ⟨4, ![2, 8192, 2, 64]⟩
abbrev S512x768 : Shape := ⟨2, ![512, 768]⟩
abbrev S2x256x512 : Shape := ⟨3, ![2, 256, 512]⟩
abbrev S2x256x8x64 : Shape := ⟨4, ![2, 256, 8, 64]⟩
abbrev S2x8192x2x4x64 : Shape := ⟨5, ![2, 8192, 2, 4, 64]⟩
abbrev S2x8192x8x64 : Shape := ⟨4, ![2, 8192, 8, 64]⟩
abbrev S_ : Shape := ⟨0, ![]⟩
abbrev S2x8x256x1 : Shape := ⟨4, ![2, 8, 256, 1]⟩
abbrev S2x1024x8x64 : Shape := ⟨4, ![2, 1024, 8, 64]⟩
abbrev S2x8x256x1024 : Shape := ⟨4, ![2, 8, 256, 1024]⟩
abbrev S2x8x256 : Shape := ⟨3, ![2, 8, 256]⟩
abbrev S2x256x8x1 : Shape := ⟨4, ![2, 256, 8, 1]⟩
abbrev S2x8x64x256 : Shape := ⟨4, ![2, 8, 64, 256]⟩

abbrev nBuf : Space → Nat
  | .hbm => 248
  | .vmem => 0
  | .smem => 0
  | _ => 0

abbrev hbmTy0_0 (i : Nat) : BufTy := match i % 128 with
  | 0 => ⟨S2x256x768, .bf16⟩
  | 1 => ⟨S768x512, .bf16⟩
  | 2 => ⟨S2x8192x2x64, .bf16⟩
  | 3 => ⟨S2x8192x2x64, .bf16⟩
  | 4 => ⟨S512x768, .bf16⟩
  | 5 => ⟨S2x256x512, .f32⟩
  | 6 => ⟨S2x256x512, .bf16⟩
  | 7 => ⟨S2x256x8x64, .bf16⟩
  | 8 => ⟨S2x8192x2x4x64, .bf16⟩
  | 9 => ⟨S2x8192x8x64, .bf16⟩
  | 10 => ⟨S2x8192x2x4x64, .bf16⟩
  | 11 => ⟨S2x8192x8x64, .bf16⟩
  | 12 => ⟨S_, .f32⟩
  | 13 => ⟨S2x256x8x64, .f32⟩
  | 14 => ⟨S_, .f32⟩
  | 15 => ⟨S2x8x256x1, .f32⟩
  | 16 => ⟨S_, .f32⟩
  | 17 => ⟨S2x8x256x1, .f32⟩
  | 18 => ⟨S2x1024x8x64, .bf16⟩
  | 19 => ⟨S2x1024x8x64, .bf16⟩
  | 20 => ⟨S2x8x256x1024, .f32⟩
  | 21 => ⟨S2x8x256x1024, .bf16⟩
  | 22 => ⟨S2x8x256x1024, .f32⟩
  | 23 => ⟨S_, .f32⟩
  | 24 => ⟨S2x8x256x1024, .f32⟩
  | 25 => ⟨S2x8x256x1024, .f32⟩
  | 26 => ⟨S_, .f32⟩
  | 27 => ⟨S2x8x256, .f32⟩
  | 28 => ⟨S2x8x256x1, .f32⟩
  | 29 => ⟨S2x8x256x1, .f32⟩
  | 30 => ⟨S2x8x256x1, .f32⟩
  | 31 => ⟨S2x8x256x1, .f32⟩
  | 32 => ⟨S2x8x256x1024, .f32⟩
  | 33 => ⟨S2x8x256x1024, .f32⟩
  | 34 => ⟨S2x8x256x1024, .f32⟩
  | 35 => ⟨S2x8x256x1, .f32⟩
  | 36 => ⟨S_, .f32⟩
  | 37 => ⟨S2x8x256, .f32⟩
  | 38 => ⟨S2x8x256x1, .f32⟩
  | 39 => ⟨S2x8x256x1, .f32⟩
  | 40 => ⟨S2x256x8x1, .f32⟩
  | 41 => ⟨S2x256x8x64, .f32⟩
  | 42 => ⟨S2x256x8x64, .f32⟩
  | 43 => ⟨S2x8x64x256, .f32⟩
  | 44 => ⟨S2x256x8x64, .f32⟩
  | 45 => ⟨S2x256x8x64, .f32⟩
  | 46 => ⟨S2x1024x8x64, .bf16⟩
  | 47 => ⟨S2x1024x8x64, .bf16⟩
  | 48 => ⟨S2x8x256x1024, .f32⟩
  | 49 => ⟨S2x8x256x1024, .bf16⟩
  | 50 => ⟨S2x8x256x1024, .f32⟩
  | 51 => ⟨S_, .f32⟩
  | 52 => ⟨S2x8x256x1024, .f32⟩
  | 53 => ⟨S2x8x256x1024, .f32⟩
  | 54 => ⟨S_, .f32⟩
  | 55 => ⟨S2x8x256, .f32⟩
  | 56 => ⟨S2x8x256x1, .f32⟩
  | 57 => ⟨S2x8x256x1, .f32⟩
  | 58 => ⟨S2x8x256x1, .f32⟩
  | 59 => ⟨S2x8x256x1, .f32⟩
  | 60 => ⟨S2x8x256x1024, .f32⟩
  | 61 => ⟨S2x8x256x1024, .f32⟩
  | 62 => ⟨S2x8x256x1024, .f32⟩
  | 63 => ⟨S2x8x256x1, .f32⟩
  | 64 => ⟨S_, .f32⟩
  | 65 => ⟨S2x8x256, .f32⟩
  | 66 => ⟨S2x8x256x1, .f32⟩
  | 67 => ⟨S2x8x256x1, .f32⟩
  | 68 => ⟨S2x256x8x1, .f32⟩
  | 69 => ⟨S2x256x8x64, .f32⟩
  | 70 => ⟨S2x256x8x64, .f32⟩
  | 71 => ⟨S2x8x64x256, .f32⟩
  | 72 => ⟨S2x256x8x64, .f32⟩
  | 73 => ⟨S2x256x8x64, .f32⟩
  | 74 => ⟨S2x1024x8x64, .bf16⟩
  | 75 => ⟨S2x1024x8x64, .bf16⟩
  | 76 => ⟨S2x8x256x1024, .f32⟩
  | 77 => ⟨S2x8x256x1024, .bf16⟩
  | 78 => ⟨S2x8x256x1024, .f32⟩
  | 79 => ⟨S_, .f32⟩
  | 80 => ⟨S2x8x256x1024, .f32⟩
  | 81 => ⟨S2x8x256x1024, .f32⟩
  | 82 => ⟨S_, .f32⟩
  | 83 => ⟨S2x8x256, .f32⟩
  | 84 => ⟨S2x8x256x1, .f32⟩
  | 85 => ⟨S2x8x256x1, .f32⟩
  | 86 => ⟨S2x8x256x1, .f32⟩
  | 87 => ⟨S2x8x256x1, .f32⟩
  | 88 => ⟨S2x8x256x1024, .f32⟩
  | 89 => ⟨S2x8x256x1024, .f32⟩
  | 90 => ⟨S2x8x256x1024, .f32⟩
  | 91 => ⟨S2x8x256x1, .f32⟩
  | 92 => ⟨S_, .f32⟩
  | 93 => ⟨S2x8x256, .f32⟩
  | 94 => ⟨S2x8x256x1, .f32⟩
  | 95 => ⟨S2x8x256x1, .f32⟩
  | 96 => ⟨S2x256x8x1, .f32⟩
  | 97 => ⟨S2x256x8x64, .f32⟩
  | 98 => ⟨S2x256x8x64, .f32⟩
  | 99 => ⟨S2x8x64x256, .f32⟩
  | 100 => ⟨S2x256x8x64, .f32⟩
  | 101 => ⟨S2x256x8x64, .f32⟩
  | 102 => ⟨S2x1024x8x64, .bf16⟩
  | 103 => ⟨S2x1024x8x64, .bf16⟩
  | 104 => ⟨S2x8x256x1024, .f32⟩
  | 105 => ⟨S2x8x256x1024, .bf16⟩
  | 106 => ⟨S2x8x256x1024, .f32⟩
  | 107 => ⟨S_, .f32⟩
  | 108 => ⟨S2x8x256x1024, .f32⟩
  | 109 => ⟨S2x8x256x1024, .f32⟩
  | 110 => ⟨S_, .f32⟩
  | 111 => ⟨S2x8x256, .f32⟩
  | 112 => ⟨S2x8x256x1, .f32⟩
  | 113 => ⟨S2x8x256x1, .f32⟩
  | 114 => ⟨S2x8x256x1, .f32⟩
  | 115 => ⟨S2x8x256x1, .f32⟩
  | 116 => ⟨S2x8x256x1024, .f32⟩
  | 117 => ⟨S2x8x256x1024, .f32⟩
  | 118 => ⟨S2x8x256x1024, .f32⟩
  | 119 => ⟨S2x8x256x1, .f32⟩
  | 120 => ⟨S_, .f32⟩
  | 121 => ⟨S2x8x256, .f32⟩
  | 122 => ⟨S2x8x256x1, .f32⟩
  | 123 => ⟨S2x8x256x1, .f32⟩
  | 124 => ⟨S2x256x8x1, .f32⟩
  | 125 => ⟨S2x256x8x64, .f32⟩
  | 126 => ⟨S2x256x8x64, .f32⟩
  | 127 => ⟨S2x8x64x256, .f32⟩
  | _ => ⟨S2x256x768, .bf16⟩

abbrev hbmTy0_1 (i : Nat) : BufTy := match i % 128 with
  | 0 => ⟨S2x256x8x64, .f32⟩
  | 1 => ⟨S2x256x8x64, .f32⟩
  | 2 => ⟨S2x1024x8x64, .bf16⟩
  | 3 => ⟨S2x1024x8x64, .bf16⟩
  | 4 => ⟨S2x8x256x1024, .f32⟩
  | 5 => ⟨S2x8x256x1024, .bf16⟩
  | 6 => ⟨S2x8x256x1024, .f32⟩
  | 7 => ⟨S_, .f32⟩
  | 8 => ⟨S2x8x256x1024, .f32⟩
  | 9 => ⟨S2x8x256x1024, .f32⟩
  | 10 => ⟨S_, .f32⟩
  | 11 => ⟨S2x8x256, .f32⟩
  | 12 => ⟨S2x8x256x1, .f32⟩
  | 13 => ⟨S2x8x256x1, .f32⟩
  | 14 => ⟨S2x8x256x1, .f32⟩
  | 15 => ⟨S2x8x256x1, .f32⟩
  | 16 => ⟨S2x8x256x1024, .f32⟩
  | 17 => ⟨S2x8x256x1024, .f32⟩
  | 18 => ⟨S2x8x256x1024, .f32⟩
  | 19 => ⟨S2x8x256x1, .f32⟩
  | 20 => ⟨S_, .f32⟩
  | 21 => ⟨S2x8x256, .f32⟩
  | 22 => ⟨S2x8x256x1, .f32⟩
  | 23 => ⟨S2x8x256x1, .f32⟩
  | 24 => ⟨S2x256x8x1, .f32⟩
  | 25 => ⟨S2x256x8x64, .f32⟩
  | 26 => ⟨S2x256x8x64, .f32⟩
  | 27 => ⟨S2x8x64x256, .f32⟩
  | 28 => ⟨S2x256x8x64, .f32⟩
  | 29 => ⟨S2x256x8x64, .f32⟩
  | 30 => ⟨S2x1024x8x64, .bf16⟩
  | 31 => ⟨S2x1024x8x64, .bf16⟩
  | 32 => ⟨S2x8x256x1024, .f32⟩
  | 33 => ⟨S2x8x256x1024, .bf16⟩
  | 34 => ⟨S2x8x256x1024, .f32⟩
  | 35 => ⟨S_, .f32⟩
  | 36 => ⟨S2x8x256x1024, .f32⟩
  | 37 => ⟨S2x8x256x1024, .f32⟩
  | 38 => ⟨S_, .f32⟩
  | 39 => ⟨S2x8x256, .f32⟩
  | 40 => ⟨S2x8x256x1, .f32⟩
  | 41 => ⟨S2x8x256x1, .f32⟩
  | 42 => ⟨S2x8x256x1, .f32⟩
  | 43 => ⟨S2x8x256x1, .f32⟩
  | 44 => ⟨S2x8x256x1024, .f32⟩
  | 45 => ⟨S2x8x256x1024, .f32⟩
  | 46 => ⟨S2x8x256x1024, .f32⟩
  | 47 => ⟨S2x8x256x1, .f32⟩
  | 48 => ⟨S_, .f32⟩
  | 49 => ⟨S2x8x256, .f32⟩
  | 50 => ⟨S2x8x256x1, .f32⟩
  | 51 => ⟨S2x8x256x1, .f32⟩
  | 52 => ⟨S2x256x8x1, .f32⟩
  | 53 => ⟨S2x256x8x64, .f32⟩
  | 54 => ⟨S2x256x8x64, .f32⟩
  | 55 => ⟨S2x8x64x256, .f32⟩
  | 56 => ⟨S2x256x8x64, .f32⟩
  | 57 => ⟨S2x256x8x64, .f32⟩
  | 58 => ⟨S2x1024x8x64, .bf16⟩
  | 59 => ⟨S2x1024x8x64, .bf16⟩
  | 60 => ⟨S2x8x256x1024, .f32⟩
  | 61 => ⟨S2x8x256x1024, .bf16⟩
  | 62 => ⟨S2x8x256x1024, .f32⟩
  | 63 => ⟨S_, .f32⟩
  | 64 => ⟨S2x8x256x1024, .f32⟩
  | 65 => ⟨S2x8x256x1024, .f32⟩
  | 66 => ⟨S_, .f32⟩
  | 67 => ⟨S2x8x256, .f32⟩
  | 68 => ⟨S2x8x256x1, .f32⟩
  | 69 => ⟨S2x8x256x1, .f32⟩
  | 70 => ⟨S2x8x256x1, .f32⟩
  | 71 => ⟨S2x8x256x1, .f32⟩
  | 72 => ⟨S2x8x256x1024, .f32⟩
  | 73 => ⟨S2x8x256x1024, .f32⟩
  | 74 => ⟨S2x8x256x1024, .f32⟩
  | 75 => ⟨S2x8x256x1, .f32⟩
  | 76 => ⟨S_, .f32⟩
  | 77 => ⟨S2x8x256, .f32⟩
  | 78 => ⟨S2x8x256x1, .f32⟩
  | 79 => ⟨S2x8x256x1, .f32⟩
  | 80 => ⟨S2x256x8x1, .f32⟩
  | 81 => ⟨S2x256x8x64, .f32⟩
  | 82 => ⟨S2x256x8x64, .f32⟩
  | 83 => ⟨S2x8x64x256, .f32⟩
  | 84 => ⟨S2x256x8x64, .f32⟩
  | 85 => ⟨S2x256x8x64, .f32⟩
  | 86 => ⟨S2x1024x8x64, .bf16⟩
  | 87 => ⟨S2x1024x8x64, .bf16⟩
  | 88 => ⟨S2x8x256x1024, .f32⟩
  | 89 => ⟨S2x8x256x1024, .bf16⟩
  | 90 => ⟨S2x8x256x1024, .f32⟩
  | 91 => ⟨S_, .f32⟩
  | 92 => ⟨S2x8x256x1024, .f32⟩
  | 93 => ⟨S2x8x256x1024, .f32⟩
  | 94 => ⟨S_, .f32⟩
  | 95 => ⟨S2x8x256, .f32⟩
  | 96 => ⟨S2x8x256x1, .f32⟩
  | 97 => ⟨S2x8x256x1, .f32⟩
  | 98 => ⟨S2x8x256x1, .f32⟩
  | 99 => ⟨S2x8x256x1, .f32⟩
  | 100 => ⟨S2x8x256x1024, .f32⟩
  | 101 => ⟨S2x8x256x1024, .f32⟩
  | 102 => ⟨S2x8x256x1024, .f32⟩
  | 103 => ⟨S2x8x256x1, .f32⟩
  | 104 => ⟨S_, .f32⟩
  | 105 => ⟨S2x8x256, .f32⟩
  | 106 => ⟨S2x8x256x1, .f32⟩
  | 107 => ⟨S2x8x256x1, .f32⟩
  | 108 => ⟨S2x256x8x1, .f32⟩
  | 109 => ⟨S2x256x8x64, .f32⟩
  | 110 => ⟨S2x256x8x64, .f32⟩
  | 111 => ⟨S2x8x64x256, .f32⟩
  | 112 => ⟨S2x256x8x64, .f32⟩
  | 113 => ⟨S2x256x8x64, .f32⟩
  | 114 => ⟨S2x256x8x1, .f32⟩
  | 115 => ⟨S2x256x8x64, .f32⟩
  | 116 => ⟨S2x256x8x64, .f32⟩
  | 117 => ⟨S2x256x512, .f32⟩
  | 118 => ⟨S2x256x768, .f32⟩
  | 119 => ⟨S512x768, .f32⟩
  | _ => ⟨S2x256x768, .bf16⟩

abbrev hbmTy (i : Nat) : BufTy := match i / 128 with
  | 0 => hbmTy0_0 i
  | 1 => hbmTy0_1 i
  | _ => ⟨S2x256x768, .bf16⟩

abbrev bufTy : (tb : Table) → Fin (tcTables nBuf tb) → BufTy
  | .hbm, ⟨i, _⟩ => hbmTy i
  | _, _ => ⟨S2x256x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_7 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_8 : Ref sig .tc := ⟨.hbm, 79, rfl⟩
abbrev main_v65 : Ref sig .tc := ⟨.hbm, 80, rfl⟩
abbrev main_v66 : Ref sig .tc := ⟨.hbm, 81, rfl⟩
abbrev main_cst_9 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_cst_10 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_cst_11 : Ref sig .tc := ⟨.hbm, 107, rfl⟩
abbrev main_v90 : Ref sig .tc := ⟨.hbm, 108, rfl⟩
abbrev main_v91 : Ref sig .tc := ⟨.hbm, 109, rfl⟩
abbrev main_cst_12 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_cst_13 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_cst_14 : Ref sig .tc := ⟨.hbm, 135, rfl⟩
abbrev main_v115 : Ref sig .tc := ⟨.hbm, 136, rfl⟩
abbrev main_v116 : Ref sig .tc := ⟨.hbm, 137, rfl⟩
abbrev main_cst_15 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_cst_16 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_cst_17 : Ref sig .tc := ⟨.hbm, 163, rfl⟩
abbrev main_v140 : Ref sig .tc := ⟨.hbm, 164, rfl⟩
abbrev main_v141 : Ref sig .tc := ⟨.hbm, 165, rfl⟩
abbrev main_cst_18 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_cst_19 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_cst_20 : Ref sig .tc := ⟨.hbm, 191, rfl⟩
abbrev main_v165 : Ref sig .tc := ⟨.hbm, 192, rfl⟩
abbrev main_v166 : Ref sig .tc := ⟨.hbm, 193, rfl⟩
abbrev main_cst_21 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_cst_22 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_cst_23 : Ref sig .tc := ⟨.hbm, 219, rfl⟩
abbrev main_v190 : Ref sig .tc := ⟨.hbm, 220, rfl⟩
abbrev main_v191 : Ref sig .tc := ⟨.hbm, 221, rfl⟩
abbrev main_cst_24 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_cst_25 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩
abbrev main_v214 : Ref sig .tc := ⟨.hbm, 246, rfl⟩
abbrev main_v215 : Ref sig .tc := ⟨.hbm, 247, rfl⟩

abbrev nD : Nat := 1
abbrev τ : Topo := Topo.v7x

variable {F : FTy → Type} [FloatOps F]
-- ==== Proof.KernelIdealGeo.lean ====
/-
# The mesh, the row windows and the buffers of the kernel

Sixteen devices; in step `r` a device exchanges with the device whose number differs in bit `r`. Block `b` of the
output's sixteen 32-row blocks belongs to the device whose number, its four bits reversed, is `b`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.ValueKit.Geometry
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The mesh -/

/-- The device whose number differs from `c`'s in bit `r`. -/
def pt (r : Fin 4) (c : Dev nD) : Dev nD :=
  ⟨c.val ^^^ (2 ^ r.val), Nat.xor_lt_two_pow (n := 4) c.isLt (Nat.pow_lt_pow_right (by decide) r.isLt)⟩

/-- `c`'s number with its four bits reversed: the 32-row block `c` reduces and publishes. -/
def pos (c : Dev nD) : Fin 16 :=
  ⟨8 * (c.val % 2) + 4 * (c.val / 2 % 2) + 2 * (c.val / 4 % 2) + c.val / 8 % 2, by omega⟩

/-- The device that publishes block `b`. -/
def ofPos (b : Fin 16) : Dev nD :=
  ⟨8 * (b.val % 2) + 4 * (b.val / 2 % 2) + 2 * (b.val / 4 % 2) + b.val / 8 % 2, by show _ < 16; omega⟩

/-- The partner's partner is the device. -/
theorem pt_pt (r : Fin 4) (c : Dev nD) : pt r (pt r c) = c := by revert r c; decide
/-- No device is its own partner. -/
theorem pt_ne (r : Fin 4) (c : Dev nD) : pt r c ≠ c := by revert r c; decide
/-- Different steps have different partners. -/
theorem pt_inj (r r' : Fin 4) (c : Dev nD) (h : pt r c = pt r' c) : r = r' := by revert r r' c; decide
/-- The device at a position has that position. -/
theorem pos_ofPos (b : Fin 16) : pos (ofPos b) = b := by revert b; decide
/-- The device at a device's position is that device. -/
theorem ofPos_pos (c : Dev nD) : ofPos (pos c) = c := by revert c; decide

/-- Exchanging with the partner of step `r`, as a permutation of the devices. -/
def swap (r : Fin 4) : Dev nD ≃ Dev nD := ⟨pt r, pt r, pt_pt r, pt_pt r⟩

/-! ## The `device_id` chains -/

/-- The first barrier signal goes to the partner of step 0. -/
theorem dev1_eq (c : Dev nD) : (⟨k0_dev1 c, k0_dev1_lt c⟩ : Dev nD) = pt 0 c := Fin.ext (by revert c; decide +kernel)
/-- The second barrier signal goes to the partner of step 1. -/
theorem dev2_eq (c : Dev nD) : (⟨k0_dev2 c, k0_dev2_lt c⟩ : Dev nD) = pt 1 c := Fin.ext (by revert c; decide +kernel)
/-- The third barrier signal goes to the partner of step 2. -/
theorem dev3_eq (c : Dev nD) : (⟨k0_dev3 c, k0_dev3_lt c⟩ : Dev nD) = pt 2 c := Fin.ext (by revert c; decide +kernel)
/-- The fourth barrier signal goes to the partner of step 3. -/
theorem dev4_eq (c : Dev nD) : (⟨k0_dev4 c, k0_dev4_lt c⟩ : Dev nD) = pt 3 c := Fin.ext (by revert c; decide +kernel)
/-- The reduce copy of step 0 goes to that step's partner. -/
theorem dev5_eq (c : Dev nD) : (⟨k0_dev5 c, k0_dev5_lt c⟩ : Dev nD) = pt 0 c := Fin.ext (by revert c; decide +kernel)
/-- The reduce copy of step 1 goes to that step's partner. -/
theorem dev6_eq (c : Dev nD) : (⟨k0_dev6 c, k0_dev6_lt c⟩ : Dev nD) = pt 1 c := Fin.ext (by revert c; decide +kernel)
/-- The reduce copy of step 2 goes to that step's partner. -/
theorem dev7_eq (c : Dev nD) : (⟨k0_dev7 c, k0_dev7_lt c⟩ : Dev nD) = pt 2 c := Fin.ext (by revert c; decide +kernel)
/-- The reduce copy of step 3 goes to that step's partner. -/
theorem dev8_eq (c : Dev nD) : (⟨k0_dev8 c, k0_dev8_lt c⟩ : Dev nD) = pt 3 c := Fin.ext (by revert c; decide +kernel)
/-- The gather's copy 4 goes to the partner of step 3. -/
theorem dev9_eq (c : Dev nD) : (⟨k0_dev9 c, k0_dev9_lt c⟩ : Dev nD) = pt 3 c := Fin.ext (by revert c; decide +kernel)
/-- The gather's copy 5 goes to the partner of step 2. -/
theorem dev10_eq (c : Dev nD) : (⟨k0_dev10 c, k0_dev10_lt c⟩ : Dev nD) = pt 2 c := Fin.ext (by revert c; decide +kernel)
/-- The gather's copy 9 goes to the partner of step 2. -/
theorem dev11_eq (c : Dev nD) : (⟨k0_dev11 c, k0_dev11_lt c⟩ : Dev nD) = pt 2 c := Fin.ext (by revert c; decide +kernel)
/-- The gather's copy 6 goes to the partner of step 1. -/
theorem dev12_eq (c : Dev nD) : (⟨k0_dev12 c, k0_dev12_lt c⟩ : Dev nD) = pt 1 c := Fin.ext (by revert c; decide +kernel)
/-- The gather's copy 10 goes to the partner of step 1. -/
theorem dev13_eq (c : Dev nD) : (⟨k0_dev13 c, k0_dev13_lt c⟩ : Dev nD) = pt 1 c := Fin.ext (by revert c; decide +kernel)
/-- The gather's copy 7 goes to the partner of step 0. -/
theorem dev14_eq (c : Dev nD) : (⟨k0_dev14 c, k0_dev14_lt c⟩ : Dev nD) = pt 0 c := Fin.ext (by revert c; decide +kernel)
/-- The gather's copy 11 goes to the partner of step 0. -/
theorem dev15_eq (c : Dev nD) : (⟨k0_dev15 c, k0_dev15_lt c⟩ : Dev nD) = pt 0 c := Fin.ext (by revert c; decide +kernel)

/-! ## The transfers

Transfer `i` completes on entry `i` of the two semaphore arrays. Transfers 0–3 carry partial sums, 4, 5, 9, 6, 10, 7, 11
finished blocks; entry 8 is unused. -/

/-- The bit in which sender and receiver of transfer `i` differ. -/
def par : Fin 12 → Fin 4 := ![0, 1, 2, 3, 3, 2, 1, 0, 3, 2, 1, 0]

/-- First 32-row block of the window device `c` sends in transfer `i`. -/
def wlo (i : Fin 12) (c : Dev nD) : ℕ :=
  ![0, 0, 0, 0, (pos c).val, (pos c).val, 2 * ((pos c).val / 2), 4 * ((pos c).val / 4), 0,
    (pos c).val ^^^ 1, (2 * ((pos c).val / 2)) ^^^ 2, (4 * ((pos c).val / 4)) ^^^ 4] i

/-- How many blocks that window has. -/
def wn : Fin 12 → ℕ := ![0, 0, 0, 0, 1, 1, 2, 4, 0, 1, 2, 4]

/-- The blocks of that window. -/
def win (i : Fin 12) (c : Dev nD) : Finset (Fin 16) := Finset.univ.filter fun b => wlo i c ≤ b.val ∧ b.val < wlo i c + wn i

/-- The window device `c` receives in transfer `i`: its partner's. -/
def rwin (i : Fin 12) (c : Dev nD) : Finset (Fin 16) := win i (pt (par i) c)

/-- What lands at the partner is what the device sent. -/
theorem rwin_pt (i : Fin 12) (c : Dev nD) : rwin i (pt (par i) c) = win i c := by unfold rwin; rw [pt_pt]

/-- Copy 4 sends the device's own block. -/
theorem win4 (c : Dev nD) : win 4 c = {pos c} := by revert c; decide +kernel
/-- Copy 5 sends the device's own block too. -/
theorem win5 (c : Dev nD) : win 5 c = {pos c} := by revert c; decide +kernel
/-- Copy 9 sends on what copy 4 brought. -/
theorem win9 (c : Dev nD) : win 9 c = rwin 4 c := by revert c; decide +kernel
/-- Copy 6 sends the own block and what copy 4 brought. -/
theorem win6 (c : Dev nD) : win 6 c = {pos c} ∪ rwin 4 c := by revert c; decide +kernel
/-- The own block and what copy 4 brought are disjoint. -/
theorem win6_disj (c : Dev nD) : Disjoint {pos c} (rwin 4 c) := by revert c; decide +kernel
/-- Copy 10 sends on what copies 5 and 9 brought. -/
theorem win10 (c : Dev nD) : win 10 c = rwin 5 c ∪ rwin 9 c := by revert c; decide +kernel
/-- What copies 5 and 9 brought is disjoint. -/
theorem win10_disj (c : Dev nD) : Disjoint (rwin 5 c) (rwin 9 c) := by revert c; decide +kernel
/-- Copy 7 sends what copies 6 and 10 sent. -/
theorem win7 (c : Dev nD) : win 7 c = win 6 c ∪ win 10 c := by revert c; decide +kernel
/-- What copies 6 and 10 send is disjoint. -/
theorem win7_disj (c : Dev nD) : Disjoint (win 6 c) (win 10 c) := by revert c; decide +kernel
/-- Copy 11 sends on what copies 6 and 10 brought. -/
theorem win11 (c : Dev nD) : win 11 c = rwin 6 c ∪ rwin 10 c := by revert c; decide +kernel
/-- What copies 6 and 10 brought is disjoint. -/
theorem win11_disj (c : Dev nD) : Disjoint (rwin 6 c) (rwin 10 c) := by revert c; decide +kernel

/-- The two four-block windows of the last step, received. -/
def last (c : Dev nD) : Finset (Fin 16) := rwin 7 c ∪ rwin 11 c
/-- The last two arrivals are disjoint. -/
theorem last_disj (c : Dev nD) : Disjoint (rwin 7 c) (rwin 11 c) := by revert c; decide +kernel
/-- The first half of the rows, seen from `c`: what `c` holds before the last step. -/
def most (c : Dev nD) : Finset (Fin 16) := win 7 c ∪ win 11 c
/-- The last two sends are disjoint. -/
theorem most_disj (c : Dev nD) : Disjoint (win 7 c) (win 11 c) := by revert c; decide +kernel
/-- What a device holds before the last step and what the last step brings are disjoint. -/
theorem all_disj (c : Dev nD) : Disjoint (most c) (last c) := by revert c; decide +kernel
/-- What a device holds before the last step and what the last step brings are together the sixteen blocks. -/
theorem all_eq (c : Dev nD) : most c ∪ last c = Finset.univ := by revert c; decide +kernel

/-! ## The offsets -/

/-- Which half of the rows (0 the first, 1 the second) device `c` reduces into. -/
def half (c : Dev nD) : ℕ := c.val % 2

/-- The rows sent in step 0. -/
theorem off1_eq (c : Dev nD) : k0_off1 c = ![256 * (1 - c.val % 2), 0] := by revert c; decide +kernel
/-- The rows kept in step 0. -/
theorem off2_eq (c : Dev nD) : k0_off2 c = ![256 * (c.val % 2), 0] := by revert c; decide +kernel
/-- The rows sent in step 1. -/
theorem off3_eq (c : Dev nD) : k0_off3 c = ![32 * ((4 * ((pos c).val / 4)) ^^^ 4), 0] := by revert c; decide +kernel
/-- The rows kept in step 1. -/
theorem off4_eq (c : Dev nD) : k0_off4 c = ![32 * (4 * ((pos c).val / 4)), 0] := by revert c; decide +kernel
/-- The rows sent in step 2. -/
theorem off5_eq (c : Dev nD) : k0_off5 c = ![32 * ((2 * ((pos c).val / 2)) ^^^ 2), 0] := by revert c; decide +kernel
/-- The rows kept in step 2. -/
theorem off6_eq (c : Dev nD) : k0_off6 c = ![32 * (2 * ((pos c).val / 2)), 0] := by revert c; decide +kernel
/-- The rows sent in step 3. -/
theorem off7_eq (c : Dev nD) : k0_off7 c = ![32 * ((pos c).val ^^^ 1), 0] := by revert c; decide +kernel
/-- The rows kept in step 3. -/
theorem off8_eq (c : Dev nD) : k0_off8 c = ![32 * (pos c).val, 0] := by revert c; decide +kernel
/-- The reduced rows that the device divides. -/
theorem off9_eq (c : Dev nD) : k0_off9 c = ![32 * (pos c).val, 0] := by revert c; decide +kernel
/-- The rows where the device stores its own result. -/
theorem off10_eq (c : Dev nD) : k0_off10 c = ![32 * (pos c).val, 0] := by revert c; decide +kernel
/-- Where the window of copies 4 and 5 begins. -/
theorem off11_eq (c : Dev nD) : k0_off11 c = ![32 * wlo 4 c, 0] := by revert c; decide +kernel
/-- Where the window of copy 9 begins. -/
theorem off12_eq (c : Dev nD) : k0_off12 c = ![32 * wlo 9 c, 0] := by revert c; decide +kernel
/-- Where the window of copy 6 begins. -/
theorem off13_eq (c : Dev nD) : k0_off13 c = ![32 * wlo 6 c, 0] := by revert c; decide +kernel
/-- Where the window of copy 10 begins. -/
theorem off14_eq (c : Dev nD) : k0_off14 c = ![32 * wlo 10 c, 0] := by revert c; decide +kernel
/-- Where the window of copy 7 begins. -/
theorem off15_eq (c : Dev nD) : k0_off15 c = ![32 * wlo 7 c, 0] := by revert c; decide +kernel
/-- Where the window of copy 11 begins. -/
theorem off16_eq (c : Dev nD) : k0_off16 c = ![32 * wlo 11 c, 0] := by revert c; decide +kernel

/-! ## The memrefs -/

abbrev xM : Memref sig .tc .vmem S2x256x768 .bf16 := Memref.whole cc0_stg0_0
abbrev qM : Memref sig .tc .vmem S768x512 .bf16 := Memref.whole cc0_stg1_0
abbrev woM : Memref sig .tc .vmem S512x768 .bf16 := Memref.whole cc0_stg2_0
abbrev kM : Memref sig .tc .vmem S2x512x2x64 .bf16 := Memref.whole cc0_stg3_0
abbrev vM : Memref sig .tc .vmem S2x512x2x64 .bf16 := Memref.whole cc0_stg4_0
abbrev outM : Memref sig .tc .vmem S512x768 .f32 := Memref.whole cc0_stg5_0
abbrev accM : Memref sig .tc .vmem S512x520 .f32 := Memref.whole cc0_scratch0
abbrev txM : Memref sig .tc .vmem S480x520 .bf16 := Memref.whole cc0_scratch1
abbrev rxM : Memref sig .tc .vmem S480x520 .bf16 := Memref.whole cc0_scratch2
abbrev bfM : Memref sig .tc .vmem S512x768 .bf16 := Memref.whole cc0_scratch3

/-! ## Row sets -/

/-- The 32-row block an element of the output buffer lies in. -/
def blk (i : S512x768.Idx) : Fin 16 := ⟨(i 0).val / 32, by have h : (i 0).val < 512 := (i 0).isLt; omega⟩

/-- The elements of the blocks `B`. -/
def rows (B : Finset (Fin 16)) : Finset S512x768.Idx := Finset.univ.filter fun i => blk i ∈ B

/-- An index is in the rows of some blocks when its block is among them. -/
theorem mem_rows {B : Finset (Fin 16)} {i : S512x768.Idx} : i ∈ rows B ↔ blk i ∈ B := by simp [rows]
/-- The rows of all blocks are all rows. -/
theorem rows_univ : rows Finset.univ = Finset.univ := by ext i; simp [mem_rows]
/-- The rows of a union of blocks. -/
theorem rows_union (A B : Finset (Fin 16)) : rows (A ∪ B) = rows A ∪ rows B := by ext i; simp [mem_rows]
/-- Disjoint sets of blocks have disjoint rows. -/
theorem rows_disj {A B : Finset (Fin 16)} (h : Disjoint A B) : Disjoint (rows A) (rows B) :=
  Finset.disjoint_left.mpr fun i ha hb => Finset.disjoint_left.mp h (mem_rows.mp ha) (mem_rows.mp hb)

/-- A window of `n` whole blocks from block `lo` on, as an element set. -/
theorem slice_rows {off : Fin 2 → ℕ} {n R lo : ℕ} (inb : ∀ a, off a + (![R, 768] : Fin 2 → ℕ) a ≤ S512x768.size a)
    (ho : off = ![32 * lo, 0]) (hR : R = 32 * n) :
    ((View.whole cc0_scratch3).slice (Rect.unit (s := S512x768) off ![R, 768] inb)).set
      = rows (Finset.univ.filter fun b : Fin 16 => lo ≤ b.val ∧ b.val < lo + n) := by
  subst ho hR
  ext i
  rw [ValueKit.mem_set_slice_whole_iff cc0_scratch3 _ i (Rect.mem_set_unit), mem_rows, Finset.mem_filter]
  have h0 : (i 0).val < 512 := (i 0).isLt
  have h1 : (i 1).val < 768 := (i 1).isLt
  constructor
  · intro h
    have h := h 0
    have ha : 32 * lo ≤ (i 0).val := h.1
    have hb : (i 0).val < 32 * lo + 32 * n := h.2
    refine ⟨Finset.mem_univ _, ?_, ?_⟩ <;> dsimp only [blk] <;> omega
  · rintro ⟨-, ha, hb⟩ a
    dsimp only [blk] at ha hb
    fin_cases a
    · show 32 * lo ≤ (i 0).val ∧ (i 0).val < 32 * lo + 32 * n
      omega
    · show 0 ≤ (i 1).val ∧ (i 1).val < 0 + 768
      omega

end Cert.KernelIdealProof
-- ==== Proof.KernelIdealProto.lean ====
/-
# The protocol of the kernel: contents, cells, schedule, levels

Every device waits on one barrier cell (four units, one from each partner) and on one send and one receive cell per
transfer. A barrier unit from a partner hands over the partner's landing areas this device will write: one slice of its
receive buffer and its windows of the block buffer. A receive cell hands over the landed rows with their contents; a send
cell hands back the share of the source rows that the transfer read.
-/
module

public import proofs.«01_k».proof.Proof.KernelIdealGeo

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resource algebra -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- An index of a matrix from its two coordinates. -/
def mk2 {n0 n1 : ℕ} (a b : ℕ) (ha : a < n0) (hb : b < n1) : (⟨2, ![n0, n1]⟩ : Shape).Idx :=
  Shape.pair ⟨a, ha⟩ ⟨b, hb⟩

/-- The five argument blocks as staged on device `c`. -/
def xst (c : Dev nD) : Vec F S2x256x768 .bf16 := (win0_0.blk (0 : Fin 1)).view.read (Elt F) ((s₀ m ρ).mem ((c : Thread nD τ).loc main_arg0))
def qst (c : Dev nD) : Vec F S768x512 .bf16 := (win0_1.blk (0 : Fin 1)).view.read (Elt F) ((s₀ m ρ).mem ((c : Thread nD τ).loc main_arg1))
def wst (c : Dev nD) : Vec F S512x768 .bf16 := (win0_2.blk (0 : Fin 1)).view.read (Elt F) ((s₀ m ρ).mem ((c : Thread nD τ).loc main_arg4))
def kst (c : Dev nD) : Vec F S2x512x2x64 .bf16 := (win0_3.blk (0 : Fin 1)).view.read (Elt F) ((s₀ m ρ).mem ((c : Thread nD τ).loc main_arg2))
def vst (c : Dev nD) : Vec F S2x512x2x64 .bf16 := (win0_4.blk (0 : Fin 1)).view.read (Elt F) ((s₀ m ρ).mem ((c : Thread nD τ).loc main_arg3))

/-- One batch entry of the four inputs, as the kernel loads it. -/
def xld (b : ℕ) (hb : ∀ a, (![b, 0, 0] : Fin 3 → ℕ) a + S1x256x768.size a ≤ S2x256x768.size a) (f : Vec F S2x256x768 .bf16) : Vec F S1x256x768 .bf16 :=
  xM.view.readAt (Elt F) (Rect.unit (s := S2x256x768) ![b, 0, 0] S1x256x768.size hb).toLoadRect f
def qld (f : Vec F S768x512 .bf16) : Vec F S768x512 .bf16 :=
  qM.view.readAt (Elt F) (Rect.unit (s := S768x512) ![0, 0] S768x512.size inb_S768x512_S768x512_0_0).toLoadRect f
def kld (b : ℕ) (hb : ∀ a, (![b, 0, 0, 0] : Fin 4 → ℕ) a + S1x512x2x64.size a ≤ S2x512x2x64.size a) (f : Vec F S2x512x2x64 .bf16) : Vec F S1x512x2x64 .bf16 :=
  kM.view.readAt (Elt F) (Rect.unit (s := S2x512x2x64) ![b, 0, 0, 0] S1x512x2x64.size hb).toLoadRect f
def vld (b : ℕ) (hb : ∀ a, (![b, 0, 0, 0] : Fin 4 → ℕ) a + S1x512x2x64.size a ≤ S2x512x2x64.size a) (f : Vec F S2x512x2x64 .bf16) : Vec F S1x512x2x64 .bf16 :=
  vM.view.readAt (Elt F) (Rect.unit (s := S2x512x2x64) ![b, 0, 0, 0] S1x512x2x64.size hb).toLoadRect f
def wld (f : Vec F S512x768 .bf16) : Vec F S512x768 .bf16 :=
  woM.view.readAt (Elt F) (Rect.unit (s := S512x768) ![0, 0] S512x768.size inb_S512x768_S512x768_0_0).toLoadRect f

/-- One batch entry's partial sums: in column `64 h + d` the unnormalised output of head `h`, in column `512 + h` its
    denominator. -/
def part (xv : Vec F S1x256x768 .bf16) (wq : Vec F S768x512 .bf16) (kv vv : Vec F S1x512x2x64 .bf16)
    (r col : ℕ) (hr : r < 256) (hc : col < 520) : F .f32 :=
  if h : col < 512 then
    (if h4 : col < 256 then k0_pay6 xv wq kv vv (mk2 (256 * (col / 64) + r) (col % 64) (by omega) (by omega))
     else k0_pay18 (k0_pay1 xv wq) (k0_pay2 kv) (k0_pay3 vv) (mk2 (256 * (col / 64 - 4) + r) (col % 64) (by omega) (by omega)))
  else
    (if h4 : col < 516 then k0_pay5 xv wq kv (mk2 (256 * (col - 512) + r) 0 (by omega) (by omega))
     else k0_pay17 (k0_pay1 xv wq) (k0_pay2 kv) (mk2 (256 * (col - 516) + r) 0 (by omega) (by omega)))

/-- A batch entry lies in `x`. -/
theorem inbX (b : ℕ) (hb : b < 2) : ∀ a, (![b, 0, 0] : Fin 3 → ℕ) a + S1x256x768.size a ≤ S2x256x768.size a := by
  intro a; fin_cases a
  · show b + 1 ≤ 2; omega
  · show 0 + 256 ≤ 256; omega
  · show 0 + 768 ≤ 768; omega
/-- A batch entry lies in the keys. -/
theorem inbK (b : ℕ) (hb : b < 2) : ∀ a, (![b, 0, 0, 0] : Fin 4 → ℕ) a + S1x512x2x64.size a ≤ S2x512x2x64.size a := by
  intro a; fin_cases a
  · show b + 1 ≤ 2; omega
  · show 0 + 512 ≤ 512; omega
  · show 0 + 2 ≤ 2; omega
  · show 0 + 64 ≤ 64; omega

/-- Batch entry `b` of a device's partial sums, from its staged inputs. -/
def partB (x : Vec F S2x256x768 .bf16) (q : Vec F S768x512 .bf16) (k v : Vec F S2x512x2x64 .bf16) (b : ℕ) (hb : b < 2) (r col : ℕ) (hr : r < 256) (hc : col < 520) : F .f32 :=
  part (xld b (inbX b hb) x) (qld q) (kld b (inbK b hb) k) (vld b (inbK b hb) v) r col hr hc

/-- The accumulator once both batch entries are in. -/
def accOf (x : Vec F S2x256x768 .bf16) (q : Vec F S768x512 .bf16) (k v : Vec F S2x512x2x64 .bf16) : Vec F S512x520 .f32 := fun i =>
  partB x q k v ((i 0).val / 256) (by have h : (i 0).val < 512 := (i 0).isLt; omega) ((i 0).val % 256) (i 1).val (by omega) (i 1).isLt

def acc0 (c : Dev nD) : Vec F S512x520 .f32 := accOf (xst m ρ c) (qst m ρ c) (kst m ρ c) (vst m ρ c)

/-- Rows of the accumulator, read. -/
abbrev rdA (off : Fin 2 → ℕ) (sz : Fin 2 → ℕ) (inb : ∀ a, off a + sz a ≤ S512x520.size a) (f : Vec F S512x520 .f32) : (⟨2, sz⟩ : Shape).Idx → F .f32 :=
  accM.view.readAt (Elt F) (Rect.unit (s := S512x520) off sz inb).toLoadRect f
/-- Rows of the accumulator, overwritten. -/
abbrev wrA (off : Fin 2 → ℕ) (sz : Fin 2 → ℕ) (inb : ∀ a, off a + sz a ≤ S512x520.size a) (f : Vec F S512x520 .f32) (w : (⟨2, sz⟩ : Shape).Idx → F .f32) : Vec F S512x520 .f32 :=
  (accM.access (Rect.unit (s := S512x520) off sz inb)).write (Elt F) f w Finset.univ

/-- What device `c` sends in step 0, and its accumulator after step 0; the same for the later steps. -/
def snd0 (c : Dev nD) : FVec F S256x520 .bf16 := k0_pay93 (rdA (k0_off1 c) S256x520.size (k0_off1_inb c) (acc0 m ρ c))
def acc1 (c : Dev nD) : Vec F S512x520 .f32 :=
  wrA (k0_off2 c) S256x520.size (k0_off2_inb c) (acc0 m ρ c) (k0_pay110 (rdA (k0_off2 c) S256x520.size (k0_off2_inb c) (acc0 m ρ c)) (snd0 m ρ (pt 0 c)))
def snd1 (c : Dev nD) : FVec F S128x520 .bf16 := k0_pay111 (rdA (k0_off3 c) S128x520.size (k0_off3_inb c) (acc1 m ρ c))
def acc2 (c : Dev nD) : Vec F S512x520 .f32 :=
  wrA (k0_off4 c) S128x520.size (k0_off4_inb c) (acc1 m ρ c) (k0_pay112 (rdA (k0_off4 c) S128x520.size (k0_off4_inb c) (acc1 m ρ c)) (snd1 m ρ (pt 1 c)))
def snd2 (c : Dev nD) : FVec F S64x520 .bf16 := k0_pay114 (k0_pay113 (rdA (k0_off5 c) S64x520.size (k0_off5_inb c) (acc2 m ρ c)))
def acc3 (c : Dev nD) : Vec F S512x520 .f32 :=
  wrA (k0_off6 c) S64x520.size (k0_off6_inb c) (acc2 m ρ c) (k0_pay115 (rdA (k0_off6 c) S64x520.size (k0_off6_inb c) (acc2 m ρ c)) (snd2 m ρ (pt 2 c)))
def snd3 (c : Dev nD) : FVec F S32x520 .bf16 := k0_pay116 (rdA (k0_off7 c) S32x520.size (k0_off7_inb c) (acc3 m ρ c))
def acc4 (c : Dev nD) : Vec F S512x520 .f32 :=
  wrA (k0_off8 c) S32x520.size (k0_off8_inb c) (acc3 m ρ c) (k0_pay118 (k0_pay117 (rdA (k0_off8 c) S32x520.size (k0_off8_inb c) (acc3 m ρ c)) (snd3 m ρ (pt 3 c))))

/-- The finished block device `c` publishes. -/
def fin (c : Dev nD) : FVec F S32x768 .bf16 := k0_pay119 (rdA (k0_off9 c) S32x520.size (k0_off9_inb c) (acc4 m ρ c)) (wld (wst m ρ c))

/-- The block buffer once every block is in: the same on every device. -/
def out : Vec F S512x768 .bf16 := fun i => fin m ρ (ofPos (blk i)) (mk2 ((i 0).val % 32) (i 1).val (by omega) (i 1).isLt)

/-! ## Slices of the two 480-row buffers -/

def blo : Fin 4 → ℕ := ![0, 256, 384, 448]
def bln : Fin 4 → ℕ := ![256, 128, 64, 32]
/-- The rows of step `k`'s slice. -/
def band (k : Fin 4) : Finset S480x520.Idx := Finset.univ.filter fun i => blo k ≤ (i 0).val ∧ (i 0).val < blo k + bln k

/-- The rows of a band. -/
theorem mem_band {k : Fin 4} {i : S480x520.Idx} : i ∈ band k ↔ blo k ≤ (i 0).val ∧ (i 0).val < blo k + bln k := by simp [band]

/-- A slice of whole rows of a 480-row buffer, as an element set. -/
theorem slice_band (b : Ref sig .tc) (hb : b.ty.shape = S480x520) {off sz : Fin 2 → ℕ} (inb : ∀ a, off a + sz a ≤ S480x520.size a) (k : Fin 4)
    (ho : off = ![blo k, 0]) (hs : sz = ![bln k, 520]) : (Rect.unit (s := S480x520) off sz inb).set = band k := by
  subst ho hs
  ext i
  rw [Rect.mem_set_unit, mem_band]
  have h1 : (i 1).val < 520 := (i 1).isLt
  constructor
  · intro h; exact h 0
  · intro h a
    fin_cases a
    · exact h
    · show 0 ≤ (i 1).val ∧ (i 1).val < 0 + 520
      omega

/-! ## Cells -/

abbrev barS : Sem sig := (SemArray.scalar (sig.barrier 0 rfl) : Sems sig S_).sem
abbrev sS (i : Fin 12) : DmaSem sig := ⟨6 + i.val, by show _ < 30; omega⟩
abbrev rS (i : Fin 12) : DmaSem sig := ⟨18 + i.val, by show _ < 30; omega⟩

abbrev barCell (c : Dev nD) : GSem nD τ sig := ((c : Thread nD τ), .reg barS)
abbrev sendCell (i : Fin 12) (c : Dev nD) : GSem nD τ sig := ((c : Thread nD τ), .dma (sS i))
abbrev recvCell (i : Fin 12) (c : Dev nD) : GSem nD τ sig := ((c : Thread nD τ), .dma (rS i))

/-- The kernel's own scoped semaphores; -/
abbrev osem : Fin 24 → SemLoc sig := fun k => .dma ⟨6 + k.val, by show _ < 30; omega⟩
/-- and all of the protocol's: the barrier, then the own ones. -/
abbrev csem : Fin 25 → SemLoc sig := fun k => if k.val = 0 then .reg barS else .dma ⟨5 + k.val, by show _ < 30; omega⟩
abbrev kcell (ck : Dev nD × Fin 25) : GSem nD τ sig := ((ck.1 : Thread nD τ), csem ck.2)

abbrev ks (i : Fin 12) : Fin 25 := ⟨1 + i.val, by omega⟩
abbrev kr (i : Fin 12) : Fin 25 := ⟨13 + i.val, by omega⟩
/-- The numbered send semaphores. -/
theorem csem_ks (i : Fin 12) : csem (ks i) = .dma (sS i) := by revert i; decide
/-- The numbered receive semaphores. -/
theorem csem_kr (i : Fin 12) : csem (kr i) = .dma (rS i) := by revert i; decide

/-- The credit of transfer `i`. -/
def N : Fin 12 → ℕ := fun i => RefSig.tileCredit (![S256x520, S128x520, S64x520, S32x520, S32x768, S32x768, S64x768, S128x768, S32x768, S32x768, S64x768, S128x768] i) .bf16
/-- Every copy has a positive amount. -/
theorem N_pos (i : Fin 12) : 0 < N i := RefSig.tileCredit_pos _ _ (by revert i; decide)

/-! ## Points-to's of the three shared buffers -/

def txPts (k : Fin 4) (c : Dev nD) (f : Vec F S480x520 .bf16) : sProp 𝕄 := ((c : Thread nD τ).loc cc0_scratch1) ↦[band k]{fullShare} f
def rxPts (k : Fin 4) (c : Dev nD) (f : Vec F S480x520 .bf16) : sProp 𝕄 := ((c : Thread nD τ).loc cc0_scratch2) ↦[band k]{fullShare} f
def bfPts (B : Finset (Fin 16)) (q : PosShare TreeShare) (c : Dev nD) (f : Vec F S512x768 .bf16) : sProp 𝕄 := ((c : Thread nD τ).loc cc0_scratch3) ↦[rows B]{q} f

instance txPts_storable (k : Fin 4) (c : Dev nD) (f) : BI.Storable (upEmb : UEmb _ 𝕄) (txPts (F := F) k c f) := by unfold txPts; infer_instance
instance rxPts_storable (k : Fin 4) (c : Dev nD) (f) : BI.Storable (upEmb : UEmb _ 𝕄) (rxPts (F := F) k c f) := by unfold rxPts; infer_instance
instance bfPts_storable (B) (q) (c : Dev nD) (f) : BI.Storable (upEmb : UEmb _ 𝕄) (bfPts (F := F) B q c f) := by unfold bfPts; infer_instance

/-- The full share halved `j` times, the left half each time; and the right half of that. -/
def sl : ℕ → PosShare TreeShare
  | 0 => fullShare
  | j + 1 => (sl j).left
def sr (j : ℕ) : PosShare TreeShare := (sl j).right

/-- A share of the publication buffer, split in two: one part stays, one is lent to a copy. -/
theorem bf_share (B) (j : ℕ) (c : Dev nD) (f : Vec F S512x768 .bf16) : bfPts B (sl j) c f ⊣⊢ iprop(bfPts B (sl (j + 1)) c f ∗ bfPts B (sr j) c f) :=
  pointsTo_share (PosShare.mem_left_op_right _)

/-- Disjoint sets of blocks are held together or apart. -/
theorem bf_union {A B : Finset (Fin 16)} (h : Disjoint A B) (q) (c : Dev nD) (f : Vec F S512x768 .bf16) :
    bfPts (A ∪ B) q c f ⊣⊢ iprop(bfPts A q c f ∗ bfPts B q c f) := by
  unfold bfPts; rw [rows_union]; exact pointsTo_union (rows_disj h)

/-! ## The schedule -/

/-- What has landed in the receive buffer of `c` in step `k`: the partner's rows. -/
def rxGood (c : Dev nD) (f : Vec F S480x520 .bf16) : Fin 12 → Prop
  | 0 => rxM.view.readAt (Elt F) (Rect.unit (s := S480x520) ![0, 0] S256x520.size inb_S480x520_S256x520_0_0).toLoadRect f = snd0 m ρ (pt 0 c)
  | 1 => rxM.view.readAt (Elt F) (Rect.unit (s := S480x520) ![256, 0] S128x520.size inb_S480x520_S128x520_256_0).toLoadRect f = snd1 m ρ (pt 1 c)
  | 2 => rxM.view.readAt (Elt F) (Rect.unit (s := S480x520) ![384, 0] S64x520.size inb_S480x520_S64x520_384_0).toLoadRect f = snd2 m ρ (pt 2 c)
  | 3 => rxM.view.readAt (Elt F) (Rect.unit (s := S480x520) ![448, 0] S32x520.size inb_S480x520_S32x520_448_0).toLoadRect f = snd3 m ρ (pt 3 c)
  | _ => True

def sendPay (i : Fin 12) (c : Dev nD) : sProp 𝕄 :=
  if i.val < 4 then iprop(∃ f, txPts (par i) c f) else bfPts (win i c) (sr (par i).val) c (out m ρ)
def recvPay (i : Fin 12) (c : Dev nD) : sProp 𝕄 :=
  if i.val < 4 then iprop(∃ f, ⌜rxGood m ρ c f i⌝ ∗ rxPts (par i) c f) else bfPts (rwin i c) fullShare c (out m ρ)
/-- What device `p` hands the partner of step `r` with its barrier unit: the landing areas that partner writes. -/
def give (r : Fin 4) (p : Dev nD) : sProp 𝕄 :=
  iprop((∃ f, rxPts r p f) ∗ bigSep (Finset.univ.filter fun i : Fin 12 => 4 ≤ i.val ∧ i ≠ 8 ∧ par i = r) fun i => iprop(∃ f, bfPts (rwin i p) fullShare p f))

instance sendPay_storable (i : Fin 12) (c : Dev nD) : BI.Storable (upEmb : UEmb _ 𝕄) (sendPay m ρ i c) := by
  unfold sendPay; split <;> infer_instance
instance recvPay_storable (i : Fin 12) (c : Dev nD) : BI.Storable (upEmb : UEmb _ 𝕄) (recvPay m ρ i c) := by
  unfold recvPay; split <;> infer_instance
instance give_storable (r : Fin 4) (p : Dev nD) : BI.Storable (upEmb : UEmb _ 𝕄) (give (F := F) r p) := by
  unfold give; infer_instance

/-- Which transfer a DMA semaphore of the kernel belongs to. -/
def ixOf (q : DmaSem sig) : Fin 12 := ⟨(q.val + 6) % 12, Nat.mod_lt _ (by decide)⟩
/-- The duties of a DMA cell: one, unless it is a staging cell or one of entry 8. -/
def dut (q : DmaSem sig) : Finset (Fin 4) := if 6 ≤ q.val ∧ ixOf q ≠ 8 then {0} else ∅

/-- The number of a send semaphore. -/
theorem ixOf_s (i : Fin 12) : ixOf (sS i) = i := by revert i; decide
/-- The number of a receive semaphore. -/
theorem ixOf_r (i : Fin 12) : ixOf (rS i) = i := by revert i; decide

def rd : Rounds.Schedule (GSem nD τ sig) (Fin 4) 𝕄 where
  duties g r := if r = 0 ∧ g.1.2 = .tc then (match g.2 with | .reg s => if s = barS then Finset.univ else ∅ | .dma q => dut q) else ∅
  unitless _ := False
  amount g _ _ := match g.2 with | .reg _ => 1 | .dma q => N (ixOf q)
  payload g _ d := match g.2 with
    | .reg _ => give d (pt d g.1.1)
    | .dma q => if q.val < 18 then sendPay m ρ (ixOf q) g.1.1 else recvPay m ρ (ixOf q) g.1.1
  amount_pos g _ _ _ := by
    rcases g with ⟨t, s | q⟩
    · exact Nat.one_pos
    · exact N_pos _

instance rd_payload_storable (g : GSem nD τ sig) (r : ℕ) (d : Fin 4) : BI.Storable (upEmb : UEmb _ 𝕄) ((rd (F := F) m ρ).payload g r d) := by
  rcases g with ⟨t, s | q⟩
  · show BI.Storable upEmb (give (F := F) d (pt d t.1)); infer_instance
  · show BI.Storable upEmb (if q.val < 18 then sendPay m ρ (ixOf q) t.1 else recvPay m ρ (ixOf q) t.1)
    split <;> infer_instance

section Sched
variable (c : Dev nD) (i : Fin 12)

/-- The barrier's round has four duties. -/
theorem duties_bar : (rd (F := F) m ρ).duties (barCell c) 0 = Finset.univ := by
  dsimp only [rd]; rw [if_pos ⟨rfl, rfl⟩, if_pos rfl]
/-- A send cell's round has one duty. -/
theorem duties_send (h : i ≠ 8) : (rd (F := F) m ρ).duties (sendCell i c) 0 = {0} := by
  dsimp only [rd]; rw [if_pos ⟨rfl, rfl⟩]; unfold dut; rw [ixOf_s, if_pos ⟨Nat.le_add_right _ _, h⟩]
/-- A receive cell's round has one duty. -/
theorem duties_recv (h : i ≠ 8) : (rd (F := F) m ρ).duties (recvCell i c) 0 = {0} := by
  dsimp only [rd]; rw [if_pos ⟨rfl, rfl⟩]; unfold dut; rw [ixOf_r, if_pos ⟨by show 6 ≤ 18 + i.val; omega, h⟩]
/-- No cell has a second round. -/
theorem duties_later (g : GSem nD τ sig) : ∀ r, 1 ≤ r → (rd (F := F) m ρ).duties g r = ∅ :=
  fun r hr => by dsimp only [rd]; rw [if_neg fun h => by omega]
/-- A semaphore of the unused number 8 has no duty. -/
theorem dut_8 (q : DmaSem sig) (h : ixOf q = 8) : dut q = ∅ := if_neg fun h' => h'.2 h
/-- The unused send cell has no duty. -/
theorem duties_s8 (r : ℕ) : (rd (F := F) m ρ).duties (sendCell 8 c) r = ∅ := by
  dsimp only [rd]; rw [dut_8 _ (ixOf_s 8), ite_self]
/-- The unused receive cell has no duty. -/
theorem duties_r8 (r : ℕ) : (rd (F := F) m ρ).duties (recvCell 8 c) r = ∅ := by
  dsimp only [rd]; rw [dut_8 _ (ixOf_r 8), ite_self]

/-- A barrier duty is one unit. -/
theorem amount_bar (d : Fin 4) : (rd (F := F) m ρ).amount (barCell c) 0 d = 1 := rfl
/-- A send duty is the copy's amount. -/
theorem amount_send (d : Fin 4) : (rd (F := F) m ρ).amount (sendCell i c) 0 d = N i := by show N (ixOf (sS i)) = _; rw [ixOf_s]
/-- A receive duty is the copy's amount. -/
theorem amount_recv (d : Fin 4) : (rd (F := F) m ρ).amount (recvCell i c) 0 d = N i := by show N (ixOf (rS i)) = _; rw [ixOf_r]

/-- The barrier's round is four units. -/
theorem expect_bar : (rd (F := F) m ρ).expect (barCell c) 0 = 4 := by
  unfold Schedule.expect Schedule.amountOf
  rw [duties_bar, Finset.sum_congr rfl fun d _ => amount_bar m ρ c d]; rfl
/-- A send cell's round is the copy's amount. -/
theorem expect_send (h : i ≠ 8) : (rd (F := F) m ρ).expect (sendCell i c) 0 = N i := by
  unfold Schedule.expect Schedule.amountOf; rw [duties_send m ρ c i h, Finset.sum_singleton, amount_send]
/-- A receive cell's round is the copy's amount. -/
theorem expect_recv (h : i ≠ 8) : (rd (F := F) m ρ).expect (recvCell i c) 0 = N i := by
  unfold Schedule.expect Schedule.amountOf; rw [duties_recv m ρ c i h, Finset.sum_singleton, amount_recv]

/-- A barrier duty hands over the partner's landing places for the step. -/
theorem payload_bar (d : Fin 4) : (rd (F := F) m ρ).payload (barCell c) 0 d = give d (pt d c) := rfl
/-- A send duty gives back what the copy read. -/
theorem payload_send (d : Fin 4) : (rd (F := F) m ρ).payload (sendCell i c) 0 d = sendPay m ρ i c := by
  show (if 6 + i.val < 18 then sendPay m ρ (ixOf (sS i)) c else _) = _
  rw [if_pos (by omega), ixOf_s]
/-- A receive duty hands over what has landed. -/
theorem payload_recv (d : Fin 4) : (rd (F := F) m ρ).payload (recvCell i c) 0 d = recvPay m ρ i c := by
  show (if 18 + i.val < 18 then _ else recvPay m ρ (ixOf (rS i)) c) = _
  rw [if_neg (by omega), ixOf_r]

/-- What the wait on the barrier yields: all four partners' landing places. -/
theorem rest_bar : bigSep ((rd (F := F) m ρ).duties (barCell c) 0 \ ∅) (fun d => (rd (F := F) m ρ).payload (barCell c) 0 d)
    = iprop(give 0 (pt 0 c) ∗ give 1 (pt 1 c) ∗ give 2 (pt 2 c) ∗ give 3 (pt 3 c)) := by
  rw [Finset.sdiff_empty, duties_bar, bigSep_univ_eq_bigSepL [0, 1, 2, 3] (by decide) (by decide), bigSepL_cons_cons, bigSepL_cons_cons, bigSepL_cons_cons, bigSepL_singleton]
  rfl
/-- What the wait on a send cell yields. -/
theorem rest_send (h : i ≠ 8) : bigSep ((rd (F := F) m ρ).duties (sendCell i c) 0 \ ∅) (fun d => (rd (F := F) m ρ).payload (sendCell i c) 0 d) = sendPay m ρ i c := by
  rw [Finset.sdiff_empty, duties_send m ρ c i h, bigSep_singleton, payload_send]
/-- What the wait on a receive cell yields. -/
theorem rest_recv (h : i ≠ 8) : bigSep ((rd (F := F) m ρ).duties (recvCell i c) 0 \ ∅) (fun d => (rd (F := F) m ρ).payload (recvCell i c) 0 d) = recvPay m ρ i c := by
  rw [Finset.sdiff_empty, duties_recv m ρ c i h, bigSep_singleton, payload_recv]

end Sched

/-! ## What each core owes; the levels -/

/-- Device `c` still owes the receive cells of the transfers of `l`, in the order it issues them. -/
def owR (c : Dev nD) : List (Fin 12) → CellTallies nD τ sig Unit
  | [] => 0
  | i :: l => owR c l + tallyAt (recvCell i (pt (par i) c)) () (N i)
/-- The order in which a device issues its transfers. -/
def order : List (Fin 12) := [0, 1, 2, 3, 4, 5, 9, 6, 10, 7, 11]
/-- The barrier cells of the partners in `l`, and all its receive cells. -/
def owB (c : Dev nD) : List (Fin 4) → CellTallies nD τ sig Unit
  | [] => owR c order
  | r :: l => owB c l + tallyAt (barCell (pt r c)) () 1
def O₀ (c : Dev nD) : CellTallies nD τ sig Unit := owB c [0, 1, 2, 3]

def L (g : GSem nD τ sig) : Finset Unit := if g.1.2 = .tc then {()} else ∅
/-- Place of a receive cell in the order of the waits: barrier cells are at 1, the receive cells above it, everything
    else at 0. -/
def place : Fin 12 → ℕ := ![2, 3, 4, 5, 6, 7, 9, 11, 0, 8, 10, 12]
def lv (g : GSem nD τ sig) (_ : Unit) : ℕ := match g.2 with | .reg _ => 1 | .dma q => if 18 ≤ q.val then place (ixOf q) else 0

/-- Every copy has a place above the barrier's. -/
theorem place_pos : ∀ i ∈ order, 0 < place i := by decide
/-- Only the tensor cores' cells have a level. -/
theorem L_of_ne (g : GSem nD τ sig) (h : g.1.2 ≠ .tc) : L g = ∅ := if_neg h
/-- A tensor core's cell has one level. -/
theorem L_tc (c : Dev nD) (sm : SemLoc sig) : L ((c : Thread nD τ), sm) = {()} := if_pos rfl
/-- The level of a receive cell is its copy's place. -/
theorem lv_recv (i : Fin 12) (c : Dev nD) (u : Unit) : lv (recvCell i c) u = place i := by
  show (if 18 ≤ 18 + i.val then place (ixOf (rS i)) else 0) = _
  rw [if_pos (by omega), ixOf_r]

/-- Owed copies owe only to their receive cells. -/
theorem owR_pos {c : Dev nD} {g : GSem nD τ sig} {u : Unit} : ∀ {l : List (Fin 12)}, 0 < owR c l g u → ∃ i ∈ l, g = recvCell i (pt (par i) c)
  | [], h => absurd h (Nat.lt_irrefl 0)
  | i :: l, h => by
    unfold owR at h
    rw [Pi.add_apply, Finsupp.add_apply, tallyAt_apply] at h
    by_cases hg : g = recvCell i (pt (par i) c) ∧ u = ()
    · exact ⟨i, List.mem_cons_self, hg.1⟩
    · rw [if_neg hg, Nat.add_zero] at h
      obtain ⟨j, hj, e⟩ := owR_pos h
      exact ⟨j, List.mem_cons_of_mem _ hj, e⟩

/-- Owed signals owe only to the partners' barriers, or are owed copies. -/
theorem owB_pos {c : Dev nD} {g : GSem nD τ sig} {u : Unit} : ∀ {l : List (Fin 4)}, 0 < owB c l g u →
    (∃ r ∈ l, g = barCell (pt r c)) ∨ ∃ i ∈ order, g = recvCell i (pt (par i) c)
  | [], h => .inr (owR_pos h)
  | r :: l, h => by
    unfold owB at h
    rw [Pi.add_apply, Finsupp.add_apply, tallyAt_apply] at h
    by_cases hg : g = barCell (pt r c) ∧ u = ()
    · exact .inl ⟨r, List.mem_cons_self, hg.1⟩
    · rw [if_neg hg, Nat.add_zero] at h
      rcases owB_pos h with ⟨j, hj, e⟩ | h
      · exact .inl ⟨j, List.mem_cons_of_mem _ hj, e⟩
      · exact .inr h

/-- A wait at a cell below every receive cell still owed is allowed. -/
theorem mayWait (c : Dev nD) (sm : SemLoc sig) (l : List (Fin 12)) (h : ∀ i ∈ l, lv ((c : Thread nD τ), sm) () < place i) :
    (levAts L lv : sProp 𝕄) ⊢ MayWait (c : Thread nD τ) sm () (owR c l) :=
  MayOwe.of_cut (L := L) (lev := lv) (lv ((c : Thread nD τ), sm) ()) (fun p hp => by rw [Finset.mem_singleton.mp hp, L_tc]; exact Finset.mem_singleton_self _)
    (fun g u hg => by obtain ⟨i, -, rfl⟩ := owR_pos hg; exact Finset.mem_singleton_self _)
    (fun p hp => by rw [Finset.mem_singleton.mp hp])
    (fun g u hg => by obtain ⟨i, hi, rfl⟩ := owR_pos hg; rw [lv_recv]; exact h i hi)

/-- The staging cells may be waited on from the start. -/
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  have h0 : lv ((c : Thread nD τ), .dma q) () = 0 := by show (if 18 ≤ q.val then _ else 0) = 0; rw [if_neg (by omega)]
  rcases hO with rfl | rfl
  · refine MayOwe.of_cut (L := L) (lev := lv) 0 (fun p hp => by rw [Finset.mem_singleton.mp hp, L_tc]; exact Finset.mem_singleton_self _)
      (fun g u hg => by rcases owB_pos hg with ⟨r, -, rfl⟩ | ⟨i, -, rfl⟩ <;> exact Finset.mem_singleton_self _)
      (fun p hp => by rw [Finset.mem_singleton.mp hp, h0])
      (fun g u hg => by
        rcases owB_pos hg with ⟨r, -, rfl⟩ | ⟨i, hi, rfl⟩
        · exact Nat.one_pos
        · rw [lv_recv]; exact place_pos i hi)
  · rw [MayWait_zero]; iintro -; iempintro

end Cert.KernelIdealProof
-- ==== Proof.KernelIdealPartial.lean ====
/-
# One batch entry's partial sums

The kernel computes a batch entry's partial sums in four places: before and after the first send, on even and on odd
devices. All four are the same program at batch entry 0 or 1: four loads, then sixteen stores of the pieces of two
accumulators. Here that program is stated once and what it leaves in the accumulator buffer is worked out.
-/
module

public import proofs.«01_k».proof.Proof.KernelIdealProto

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A piece stored into the accumulator: its place and its values. -/
structure Pc (F : FTy → Type) where
  off : Fin 2 → ℕ
  sz : Fin 2 → ℕ
  inb : ∀ a, off a + sz a ≤ S512x520.size a
  pos : 0 < (⟨2, sz⟩ : Shape).numel
  w : (⟨2, sz⟩ : Shape).Idx → F .f32

abbrev Pc.rect (p : Pc F) : Rect S512x520 := Rect.unit (s := S512x520) p.off p.sz p.inb

/-- Store the pieces in turn, each after a load of the same place, as printed. -/
def stores : List (Pc F) → Prog (TpuEff nD τ sig (Elt F) Λ₀ .tc) PUnit
  | [] => pure ⟨⟩
  | p :: l => do
    let _ ← Prog.lift (.load accM p.rect.toLoadRect (View.loadsAt_vmem p.pos))
    Prog.lift (.store accM p.rect p.w Finset.univ (View.stores_vmem_bits_univ p.pos rfl) (.inl rfl))
    stores l

/-- What they leave. -/
def storeAll (f : Vec F S512x520 .f32) : List (Pc F) → Vec F S512x520 .f32
  | [] => f
  | p :: l => storeAll ((accM.access p.rect).write (Elt F) f p.w Finset.univ) l

/-- A run of stores keeps the accumulator's points-to, with the stored contents. -/
theorem wp_stores (c : Dev nD) {α : Type} (k : PUnit → Prog (TpuEff nD τ sig (Elt F) Λ₀ .tc) α) (Q : α → sProp 𝕄) (𝒱) (bd) :
    ∀ (l : List (Pc F)) (f : Vec F S512x520 .f32),
    (((c : Thread nD τ).loc cc0_scratch0) ↦{fullShare} f)
      ⊢ iprop(((((c : Thread nD τ).loc cc0_scratch0) ↦{fullShare} (storeAll f l)) -∗ wp frame (wpE (Λ := Λ₀) (defs₀ (F := F)) 𝒱 (c : Thread nD τ) bd) Set.univ (k ⟨⟩) Q)
        -∗ wp frame (wpE (Λ := Λ₀) (defs₀ (F := F)) 𝒱 (c : Thread nD τ) bd) Set.univ (stores l >>= k) Q)
  | [], f => by
    iintro Hf Hk
    iapply Hk
    iexact Hf
  | p :: l, f => by
    have ih := wp_stores c k Q 𝒱 bd l ((accM.access p.rect).write (Elt F) f p.w Finset.univ)
    have e : (stores (p :: l) >>= k) = .op (.load accM p.rect.toLoadRect (View.loadsAt_vmem p.pos)) fun _ =>
        .op (.store accM p.rect p.w Finset.univ (View.stores_vmem_bits_univ p.pos rfl) (.inl rfl)) fun _ => stores l >>= k := rfl
    rw [e]
    iintro Hf Hk
    iapply (wp_load 𝒱 (c : Thread nD τ) bd Set.univ (m := accM) (Finset.subset_univ _)) $$ Hf
    iintro Hf
    iapply (wp_store 𝒱 (c : Thread nD τ) bd Set.univ (m := accM) (r := p.rect) (Mk := Finset.univ) (Finset.subset_univ _)) $$ Hf
    iintro Hf
    iapply ih $$ Hf
    iexact Hk

/-- A piece holds what `g` has at its place. -/
def Pc.of (g : Vec F S512x520 .f32) (p : Pc F) : Prop := p.w = accM.view.readAt (Elt F) p.rect.toLoadRect g

/-- Pieces of `g` stored into `f`: `g` where a piece is, `f` elsewhere. -/
theorem storeAll_of (g : Vec F S512x520 .f32) : ∀ (l : List (Pc F)) (f : Vec F S512x520 .f32), (∀ p ∈ l, p.of g) →
    ∀ i, ((∃ p ∈ l, i ∈ p.rect.set) ∨ f i = g i → storeAll f l i = g i) ∧ ((∀ p ∈ l, i ∉ p.rect.set) → storeAll f l i = f i)
  | [], f, _, i => ⟨fun h => by rcases h with ⟨p, hp, -⟩ | h; · exact absurd hp List.not_mem_nil
                                · exact h, fun _ => rfl⟩
  | p :: l, f, hl, i => by
    have hp : p.w = accM.view.readAt (Elt F) p.rect.toLoadRect g := hl p List.mem_cons_self
    obtain ⟨h1, h2⟩ := storeAll_of g l ((accM.access p.rect).write (Elt F) f p.w Finset.univ) (fun q hq => hl q (List.mem_cons_of_mem _ hq)) i
    have hs : (accM.access p.rect).set = p.rect.set := View.set_slice_whole _ _
    have hin : i ∈ p.rect.set → (accM.access p.rect).write (Elt F) f p.w Finset.univ i = g i := by
      intro hi
      rw [← hs] at hi
      obtain ⟨j, -, rfl⟩ := Finset.mem_map.mp hi
      have e := View.write_emb_of_mem (Val := Elt F) (v := accM.access p.rect) f p.w (M := Finset.univ) (Finset.mem_univ j)
      exact (e.trans (congrFun hp j))
    have hout : i ∉ p.rect.set → (accM.access p.rect).write (Elt F) f p.w Finset.univ i = f i := by
      intro hi
      rw [← hs] at hi
      exact View.write_of_not_mem (Val := Elt F) f p.w Finset.univ hi
    constructor
    · rintro (⟨q, hq, hi⟩ | h)
      · rcases List.mem_cons.mp hq with rfl | hq
        · exact h1 (.inr (hin hi))
        · exact h1 (.inl ⟨q, hq, hi⟩)
      · by_cases hi : i ∈ p.rect.set
        · exact h1 (.inr (hin hi))
        · exact h1 (.inr ((hout hi).trans h))
    · intro h
      exact (h2 fun q hq => h q (List.mem_cons_of_mem _ hq)).trans (hout (h p List.mem_cons_self))

/-! ## The sixteen pieces -/

/-- A denominator column lies in the accumulator. -/
theorem inbL (b h : ℕ) (hb : b < 2) (hh : h < 8) : ∀ a, (![256 * b, 512 + h] : Fin 2 → ℕ) a + S256x1.size a ≤ S512x520.size a := by
  intro a; fin_cases a
  · show 256 * b + 256 ≤ 512; omega
  · show 512 + h + 1 ≤ 520; omega
/-- An output block lies in the accumulator. -/
theorem inbO (b h : ℕ) (hb : b < 2) (hh : h < 8) : ∀ a, (![256 * b, 64 * h] : Fin 2 → ℕ) a + S256x64.size a ≤ S512x520.size a := by
  intro a; fin_cases a
  · show 256 * b + 256 ≤ 512; omega
  · show 64 * h + 64 ≤ 520; omega

/-- The denominators of head `h`, and its unnormalised outputs. -/
def pcL (b : ℕ) (hb : b < 2) (h : ℕ) (hh : h < 8) (w : FVec F S256x1 .f32) : Pc F := ⟨![256 * b, 512 + h], S256x1.size, inbL b h hb hh, h_S256x1, w⟩
def pcO (b : ℕ) (hb : b < 2) (h : ℕ) (hh : h < 8) (w : FVec F S256x64 .f32) : Pc F := ⟨![256 * b, 64 * h], S256x64.size, inbO b h hb hh, h_S256x64, w⟩

def pieces (b : ℕ) (hb : b < 2) (xv : Vec F S1x256x768 .bf16) (wq : Vec F S768x512 .bf16) (kv vv : Vec F S1x512x2x64 .bf16) : List (Pc F) :=
  [pcL b hb 0 (by decide) (k0_pay7 xv wq kv), pcO b hb 0 (by decide) (k0_pay8 xv wq kv vv),
   pcL b hb 1 (by decide) (k0_pay10 (k0_pay9 xv wq kv)), pcO b hb 1 (by decide) (k0_pay11 (k0_pay6 xv wq kv vv)),
   pcL b hb 2 (by decide) (k0_pay12 (k0_pay5 xv wq kv)), pcO b hb 2 (by decide) (k0_pay13 (k0_pay6 xv wq kv vv)),
   pcL b hb 3 (by decide) (k0_pay14 (k0_pay5 xv wq kv)), pcO b hb 3 (by decide) (k0_pay15 (k0_pay6 xv wq kv vv)),
   pcL b hb 4 (by decide) (k0_pay77 (k0_pay19 (k0_pay1 xv wq) (k0_pay2 kv))), pcO b hb 4 (by decide) (k0_pay78 (k0_pay18 (k0_pay1 xv wq) (k0_pay2 kv) (k0_pay3 vv))),
   pcL b hb 5 (by decide) (k0_pay79 (k0_pay17 (k0_pay1 xv wq) (k0_pay2 kv))), pcO b hb 5 (by decide) (k0_pay80 (k0_pay18 (k0_pay1 xv wq) (k0_pay2 kv) (k0_pay3 vv))),
   pcL b hb 6 (by decide) (k0_pay81 (k0_pay17 (k0_pay1 xv wq) (k0_pay2 kv))), pcO b hb 6 (by decide) (k0_pay82 (k0_pay18 (k0_pay1 xv wq) (k0_pay2 kv) (k0_pay3 vv))),
   pcL b hb 7 (by decide) (k0_pay83 (k0_pay17 (k0_pay1 xv wq) (k0_pay2 kv))), pcO b hb 7 (by decide) (k0_pay84 (k0_pay18 (k0_pay1 xv wq) (k0_pay2 kv) (k0_pay3 vv)))]

/-- The whole program of one batch entry. -/
def partialP (b : ℕ) (hb : b < 2) : Prog (TpuEff nD τ sig (Elt F) Λ₀ .tc) PUnit := do
  let xv : Vec F S1x256x768 .bf16 ← Prog.lift (.load xM (Rect.unit (s := S2x256x768) ![b, 0, 0] S1x256x768.size (inbX b hb)).toLoadRect (View.loadsAt_vmem h_S1x256x768))
  let wq : Vec F S768x512 .bf16 ← Prog.lift (.load qM (Rect.unit (s := S768x512) ![0, 0] S768x512.size inb_S768x512_S768x512_0_0).toLoadRect (View.loadsAt_vmem h_S768x512))
  let kv : Vec F S1x512x2x64 .bf16 ← Prog.lift (.load kM (Rect.unit (s := S2x512x2x64) ![b, 0, 0, 0] S1x512x2x64.size (inbK b hb)).toLoadRect (View.loadsAt_vmem h_S1x512x2x64))
  let vv : Vec F S1x512x2x64 .bf16 ← Prog.lift (.load vM (Rect.unit (s := S2x512x2x64) ![b, 0, 0, 0] S1x512x2x64.size (inbK b hb)).toLoadRect (View.loadsAt_vmem h_S1x512x2x64))
  stores (pieces b hb xv wq kv vv)

/-- A block of rows of an accumulator, cut out and stored, at an index. -/
theorem cut_apply {n w o : ℕ} (v : (⟨2, ![1024, w]⟩ : Shape).Idx → F .f32) (h : (⟨2, ![1024, w]⟩ : Shape).Slices ![o, 0] ⟨2, ![256, w]⟩)
    (h' : (⟨2, ![256, w]⟩ : Shape).ShapeCasts ⟨2, ![256, w]⟩) (j : (⟨2, ![256, w]⟩ : Shape).Idx) (k : (⟨2, ![1024, w]⟩ : Shape).Idx)
    (h0 : (k 0).val = o + (j 0).val) (h1 : (k 1).val = (j 1).val) :
    shapeCast ⟨2, ![256, w]⟩ (extractStridedSlice ⟨2, ![256, w]⟩ ![o, 0] v h) h' j = v k := by
  rw [shapeCast_self]
  refine extractStridedSlice_apply ![o, 0] v h j k fun a => ?_
  fin_cases a
  · exact h0
  · exact h1.trans (Nat.zero_add _).symm

/-- Indices from equal numbers are equal. -/
theorem mk2_congr {n0 n1 a b a' b' : ℕ} (ha hb ha' hb') (h : a = a') (h' : b = b') : (mk2 a b ha hb : (⟨2, ![n0, n1]⟩ : Shape).Idx) = mk2 a' b' ha' hb' := by
  subst h h'; rfl

section Places
variable (x : Vec F S2x256x768 .bf16) (q : Vec F S768x512 .bf16) (kk vv : Vec F S2x512x2x64 .bf16)

/-- The accumulator at a row and column of a batch entry is that entry's partial sum. -/
theorem accOf_at (b : ℕ) (hb : b < 2) (i : S512x520.Idx) (r col : ℕ) (hr : r < 256) (hc : col < 520)
    (h0 : (i 0).val = 256 * b + r) (h1 : (i 1).val = col) :
    accOf x q kk vv i = partB x q kk vv b hb r col hr hc := by
  unfold accOf
  have e1 : (i 0).val / 256 = b := by omega
  have e2 : (i 0).val % 256 = r := by omega
  subst h1
  simp only [e1, e2]

/-- A denominator piece is the accumulator's own column. -/
theorem pcL_of (b : ℕ) (hb : b < 2) (h : ℕ) (hh : h < 8) (w : FVec F S256x1 .f32)
    (hw : ∀ j : S256x1.Idx, w j = partB x q kk vv b hb (j 0).val (512 + h) (j 0).isLt (by omega)) : (pcL b hb h hh w).of (accOf x q kk vv) := by
  funext j
  refine (hw j).trans (accOf_at x q kk vv b hb _ _ _ _ _ ?_ ?_).symm
  · exact ValueKit.rect_emb_unit_val (s := S512x520) _ _ _ _ 0
  · refine (ValueKit.rect_emb_unit_val (s := S512x520) _ _ _ _ 1).trans ?_
    have : (j 1).val = 0 := Nat.lt_one_iff.mp (j 1).isLt
    show 512 + h + (j 1).val = _
    omega

/-- A stored output block agrees with the accumulator's function when its elements are the partial sums. -/
theorem pcO_of (b : ℕ) (hb : b < 2) (h : ℕ) (hh : h < 8) (w : FVec F S256x64 .f32)
    (hw : ∀ j : S256x64.Idx, w j = partB x q kk vv b hb (j 0).val (64 * h + (j 1).val) (j 0).isLt (by have : (j 1).val < 64 := (j 1).isLt; omega)) : (pcO b hb h hh w).of (accOf x q kk vv) := by
  funext j
  refine (hw j).trans (accOf_at x q kk vv b hb _ _ _ _ _ ?_ ?_).symm
  · exact ValueKit.rect_emb_unit_val (s := S512x520) _ _ _ _ 0
  · exact ValueKit.rect_emb_unit_val (s := S512x520) _ _ _ _ 1

/-- The denominators of the first four heads, as partial sums. -/
theorem part_L0 (xv : Vec F S1x256x768 .bf16) (wq : Vec F S768x512 .bf16) (kv vv : Vec F S1x512x2x64 .bf16) (h : ℕ) (hh : h < 4) (r : ℕ) (hr : r < 256) (k : S1024x1.Idx)
    (h0 : (k 0).val = 256 * h + r) : k0_pay5 xv wq kv k = part xv wq kv vv r (512 + h) hr (by omega) := by
  unfold part
  rw [dif_neg (by omega), dif_pos (by omega)]
  refine congrArg _ (funext fun a => Fin.ext ?_)
  fin_cases a
  · show (k 0).val = 256 * (512 + h - 512) + r; omega
  · exact Nat.lt_one_iff.mp (k 1).isLt
/-- The denominators of the last four heads, as partial sums. -/
theorem part_L1 (xv : Vec F S1x256x768 .bf16) (wq : Vec F S768x512 .bf16) (kv vv : Vec F S1x512x2x64 .bf16) (h : ℕ) (hh : h < 4) (r : ℕ) (hr : r < 256) (k : S1024x1.Idx)
    (h0 : (k 0).val = 256 * h + r) : k0_pay17 (k0_pay1 xv wq) (k0_pay2 kv) k = part xv wq kv vv r (512 + (4 + h)) hr (by omega) := by
  unfold part
  rw [dif_neg (by omega), dif_neg (by omega)]
  refine congrArg _ (funext fun a => Fin.ext ?_)
  fin_cases a
  · show (k 0).val = 256 * (512 + (4 + h) - 516) + r; omega
  · exact Nat.lt_one_iff.mp (k 1).isLt
/-- The outputs of the first four heads, as partial sums. -/
theorem part_O0 (xv : Vec F S1x256x768 .bf16) (wq : Vec F S768x512 .bf16) (kv vv : Vec F S1x512x2x64 .bf16) (h : ℕ) (hh : h < 4) (r d : ℕ) (hr : r < 256) (hd : d < 64) (k : S1024x64.Idx)
    (h0 : (k 0).val = 256 * h + r) (h1 : (k 1).val = d) : k0_pay6 xv wq kv vv k = part xv wq kv vv r (64 * h + d) hr (by omega) := by
  unfold part
  rw [dif_pos (by omega), dif_pos (by omega)]
  refine congrArg _ (funext fun a => Fin.ext ?_)
  fin_cases a
  · show (k 0).val = 256 * ((64 * h + d) / 64) + r; omega
  · show (k 1).val = (64 * h + d) % 64; omega
/-- The outputs of the last four heads, as partial sums. -/
theorem part_O1 (xv : Vec F S1x256x768 .bf16) (wq : Vec F S768x512 .bf16) (kv vv : Vec F S1x512x2x64 .bf16) (h : ℕ) (hh : h < 4) (r d : ℕ) (hr : r < 256) (hd : d < 64) (k : S1024x64.Idx)
    (h0 : (k 0).val = 256 * h + r) (h1 : (k 1).val = d) : k0_pay18 (k0_pay1 xv wq) (k0_pay2 kv) (k0_pay3 vv) k = part xv wq kv vv r (64 * (4 + h) + d) hr (by omega) := by
  unfold part
  rw [dif_pos (by omega), dif_neg (by omega)]
  refine congrArg _ (funext fun a => Fin.ext ?_)
  fin_cases a
  · show (k 0).val = 256 * ((64 * (4 + h) + d) / 64 - 4) + r; omega
  · show (k 1).val = (64 * (4 + h) + d) % 64; omega

/-- The four kinds of pieces: first or second group of heads, denominators or outputs. -/
theorem of_L0 (b : ℕ) (hb : b < 2) (h : ℕ) (hh : h < 4) (h8 : h < 8) (sl sc) :
    (pcL b hb h h8 (shapeCast S256x1 (extractStridedSlice S256x1 ![256 * h, 0] (k0_pay5 (xld b (inbX b hb) x) (qld q) (kld b (inbK b hb) kk)) sl) sc)).of (accOf x q kk vv) :=
  pcL_of x q kk vv b hb h h8 _ fun j => (cut_apply (n := 0) _ sl sc j (mk2 (256 * h + (j 0).val) 0 (by have : (j 0).val < 256 := (j 0).isLt; omega) (by omega)) rfl (Nat.lt_one_iff.mp (j 1).isLt).symm).trans
    (part_L0 _ _ _ _ h hh _ _ _ rfl)
/-- The stored denominators of the last four heads agree with the accumulator's function. -/
theorem of_L1 (b : ℕ) (hb : b < 2) (h : ℕ) (hh : h < 4) (h8 : 4 + h < 8) (sl sc) :
    (pcL b hb (4 + h) h8 (shapeCast S256x1 (extractStridedSlice S256x1 ![256 * h, 0] (k0_pay17 (k0_pay1 (xld b (inbX b hb) x) (qld q)) (k0_pay2 (kld b (inbK b hb) kk))) sl) sc)).of (accOf x q kk vv) :=
  pcL_of x q kk vv b hb (4 + h) h8 _ fun j => (cut_apply (n := 0) _ sl sc j (mk2 (256 * h + (j 0).val) 0 (by have : (j 0).val < 256 := (j 0).isLt; omega) (by omega)) rfl (Nat.lt_one_iff.mp (j 1).isLt).symm).trans
    (part_L1 _ _ _ _ h hh _ _ _ rfl)
/-- The stored outputs of the first four heads agree with the accumulator's function. -/
theorem of_O0 (b : ℕ) (hb : b < 2) (h : ℕ) (hh : h < 4) (h8 : h < 8) (sl sc) :
    (pcO b hb h h8 (shapeCast S256x64 (extractStridedSlice S256x64 ![256 * h, 0] (k0_pay6 (xld b (inbX b hb) x) (qld q) (kld b (inbK b hb) kk) (vld b (inbK b hb) vv)) sl) sc)).of (accOf x q kk vv) :=
  pcO_of x q kk vv b hb h h8 _ fun j => (cut_apply (n := 0) _ sl sc j (mk2 (256 * h + (j 0).val) (j 1).val (by have : (j 0).val < 256 := (j 0).isLt; omega) (j 1).isLt) rfl rfl).trans
    (part_O0 _ _ _ _ h hh _ _ _ (j 1).isLt _ rfl rfl)
/-- The stored outputs of the last four heads agree with the accumulator's function. -/
theorem of_O1 (b : ℕ) (hb : b < 2) (h : ℕ) (hh : h < 4) (h8 : 4 + h < 8) (sl sc) :
    (pcO b hb (4 + h) h8 (shapeCast S256x64 (extractStridedSlice S256x64 ![256 * h, 0] (k0_pay18 (k0_pay1 (xld b (inbX b hb) x) (qld q)) (k0_pay2 (kld b (inbK b hb) kk)) (k0_pay3 (vld b (inbK b hb) vv))) sl) sc)).of (accOf x q kk vv) :=
  pcO_of x q kk vv b hb (4 + h) h8 _ fun j => (cut_apply (n := 0) _ sl sc j (mk2 (256 * h + (j 0).val) (j 1).val (by have : (j 0).val < 256 := (j 0).isLt; omega) (j 1).isLt) rfl rfl).trans
    (part_O1 _ _ _ _ h hh _ _ _ (j 1).isLt _ rfl rfl)

/-- Every piece the program stores is a piece of the accumulator `accOf`. -/
theorem pieces_of (b : ℕ) (hb : b < 2) : ∀ p ∈ pieces b hb (xld b (inbX b hb) x) (qld q) (kld b (inbK b hb) kk) (vld b (inbK b hb) vv), p.of (accOf x q kk vv) := by
  unfold pieces
  simp only [List.forall_mem_cons, List.not_mem_nil, false_imp_iff, implies_true, and_true]
  exact ⟨of_L0 x q kk vv b hb 0 (by decide) (by decide) slices_S1024x1_o0_0_S256x1 shapeCasts_S256x1_S256x1, of_O0 x q kk vv b hb 0 (by decide) (by decide) slices_S1024x64_o0_0_S256x64 shapeCasts_S256x64_S256x64,
    of_L0 x q kk vv b hb 1 (by decide) (by decide) slices_S1024x1_o256_0_S256x1 shapeCasts_S256x1_S256x1, of_O0 x q kk vv b hb 1 (by decide) (by decide) slices_S1024x64_o256_0_S256x64 shapeCasts_S256x64_S256x64,
    of_L0 x q kk vv b hb 2 (by decide) (by decide) slices_S1024x1_o512_0_S256x1 shapeCasts_S256x1_S256x1, of_O0 x q kk vv b hb 2 (by decide) (by decide) slices_S1024x64_o512_0_S256x64 shapeCasts_S256x64_S256x64,
    of_L0 x q kk vv b hb 3 (by decide) (by decide) slices_S1024x1_o768_0_S256x1 shapeCasts_S256x1_S256x1, of_O0 x q kk vv b hb 3 (by decide) (by decide) slices_S1024x64_o768_0_S256x64 shapeCasts_S256x64_S256x64,
    of_L1 x q kk vv b hb 0 (by decide) (by decide) slices_S1024x1_o0_0_S256x1 shapeCasts_S256x1_S256x1, of_O1 x q kk vv b hb 0 (by decide) (by decide) slices_S1024x64_o0_0_S256x64 shapeCasts_S256x64_S256x64,
    of_L1 x q kk vv b hb 1 (by decide) (by decide) slices_S1024x1_o256_0_S256x1 shapeCasts_S256x1_S256x1, of_O1 x q kk vv b hb 1 (by decide) (by decide) slices_S1024x64_o256_0_S256x64 shapeCasts_S256x64_S256x64,
    of_L1 x q kk vv b hb 2 (by decide) (by decide) slices_S1024x1_o512_0_S256x1 shapeCasts_S256x1_S256x1, of_O1 x q kk vv b hb 2 (by decide) (by decide) slices_S1024x64_o512_0_S256x64 shapeCasts_S256x64_S256x64,
    of_L1 x q kk vv b hb 3 (by decide) (by decide) slices_S1024x1_o768_0_S256x1 shapeCasts_S256x1_S256x1, of_O1 x q kk vv b hb 3 (by decide) (by decide) slices_S1024x64_o768_0_S256x64 shapeCasts_S256x64_S256x64⟩

end Places

/-- The indices that a denominator store covers. -/
theorem mem_pcL (b : ℕ) (hb : b < 2) (h : ℕ) (hh : h < 8) (w : FVec F S256x1 .f32) (i : S512x520.Idx) :
    i ∈ (pcL b hb h hh w).rect.set ↔ (i 0).val / 256 = b ∧ (i 1).val = 512 + h := by
  unfold Pc.rect
  rw [Rect.mem_set_unit]
  constructor
  · intro H
    have h0 : 256 * b ≤ (i 0).val ∧ (i 0).val < 256 * b + 256 := H 0
    have h1 : 512 + h ≤ (i 1).val ∧ (i 1).val < 512 + h + 1 := H 1
    omega
  · intro H a
    fin_cases a
    · show 256 * b ≤ (i 0).val ∧ (i 0).val < 256 * b + 256; omega
    · show 512 + h ≤ (i 1).val ∧ (i 1).val < 512 + h + 1; omega
/-- The indices that an output store covers. -/
theorem mem_pcO (b : ℕ) (hb : b < 2) (h : ℕ) (hh : h < 8) (w : FVec F S256x64 .f32) (i : S512x520.Idx) :
    i ∈ (pcO b hb h hh w).rect.set ↔ (i 0).val / 256 = b ∧ (i 1).val / 64 = h := by
  unfold Pc.rect
  rw [Rect.mem_set_unit]
  constructor
  · intro H
    have h0 : 256 * b ≤ (i 0).val ∧ (i 0).val < 256 * b + 256 := H 0
    have h1 : 64 * h ≤ (i 1).val ∧ (i 1).val < 64 * h + 64 := H 1
    omega
  · intro H a
    fin_cases a
    · show 256 * b ≤ (i 0).val ∧ (i 0).val < 256 * b + 256; omega
    · show 64 * h ≤ (i 1).val ∧ (i 1).val < 64 * h + 64; omega

/-- The pieces of batch entry `b` are its 256 rows of the accumulator. -/
theorem pieces_cover (b : ℕ) (hb : b < 2) (xv : Vec F S1x256x768 .bf16) (wq : Vec F S768x512 .bf16) (kv vv : Vec F S1x512x2x64 .bf16) (i : S512x520.Idx) :
    (∃ p ∈ pieces b hb xv wq kv vv, i ∈ p.rect.set) ↔ (i 0).val / 256 = b := by
  have hi : (i 1).val < 520 := (i 1).isLt
  unfold pieces
  simp only [List.exists_mem_cons_iff, List.not_mem_nil, false_and, exists_false, or_false, mem_pcL, mem_pcO]
  omega

/-- What the program leaves: batch entry `b` of the sums, everything else as before. -/
def withB (x : Vec F S2x256x768 .bf16) (q : Vec F S768x512 .bf16) (k v : Vec F S2x512x2x64 .bf16) (b : ℕ) (f : Vec F S512x520 .f32) : Vec F S512x520 .f32 :=
  fun i => if (i 0).val / 256 = b then accOf x q k v i else f i

/-- The sixteen stores of a batch entry fill its rows with the partial sums. -/
theorem storeAll_pieces (b : ℕ) (hb : b < 2) (x : Vec F S2x256x768 .bf16) (q : Vec F S768x512 .bf16) (k v : Vec F S2x512x2x64 .bf16) (f : Vec F S512x520 .f32) :
    storeAll f (pieces b hb (xld b (inbX b hb) x) (qld q) (kld b (inbK b hb) k) (vld b (inbK b hb) v)) = withB x q k v b f := by
  funext i
  obtain ⟨h1, h2⟩ := storeAll_of (accOf x q k v) _ f (pieces_of x q k v b hb) i
  unfold withB
  split
  · next h => exact h1 (.inl ((pieces_cover b hb _ _ _ _ i).mpr h))
  · next h => exact h2 fun p hp hi => h ((pieces_cover b hb _ _ _ _ i).mp ⟨p, hp, hi⟩)

/-- Both batch entries, in either order, make the accumulator. -/
theorem withB_both (x : Vec F S2x256x768 .bf16) (q : Vec F S768x512 .bf16) (k v : Vec F S2x512x2x64 .bf16) (b b' : ℕ) (hb : b + b' = 1) (f : Vec F S512x520 .f32) :
    withB x q k v b' (withB x q k v b f) = accOf x q k v := by
  funext i
  have : (i 0).val < 512 := (i 0).isLt
  unfold withB
  split
  · rfl
  · rw [if_pos (by omega)]

/-- The four staged inputs of the partial sums, held by device `c`. -/
def ins (c : Dev nD) (x : Vec F S2x256x768 .bf16) (q : Vec F S768x512 .bf16) (k v : Vec F S2x512x2x64 .bf16) : sProp 𝕄 :=
  iprop((((c : Thread nD τ).loc cc0_stg0_0) ↦{fullShare} x) ∗ (((c : Thread nD τ).loc cc0_stg1_0) ↦{fullShare} q)
    ∗ (((c : Thread nD τ).loc cc0_stg3_0) ↦{fullShare} k) ∗ (((c : Thread nD τ).loc cc0_stg4_0) ↦{fullShare} v))

/-- The partial sums of one batch entry, as a step of the body. -/
theorem wp_partial (c : Dev nD) {α : Type} (kp : PUnit → Prog (TpuEff nD τ sig (Elt F) Λ₀ .tc) α) (Q : α → sProp 𝕄) (𝒱) (bd) (b : ℕ) (hb : b < 2)
    (x : Vec F S2x256x768 .bf16) (q : Vec F S768x512 .bf16) (k v : Vec F S2x512x2x64 .bf16) (f : Vec F S512x520 .f32) :
    iprop(ins c x q k v ∗ (((c : Thread nD τ).loc cc0_scratch0) ↦{fullShare} f))
      ⊢ iprop((iprop(ins c x q k v ∗ (((c : Thread nD τ).loc cc0_scratch0) ↦{fullShare} (withB x q k v b f))) -∗ wp frame (wpE (Λ := Λ₀) (defs₀ (F := F)) 𝒱 (c : Thread nD τ) bd) Set.univ (kp ⟨⟩) Q)
        -∗ wp frame (wpE (Λ := Λ₀) (defs₀ (F := F)) 𝒱 (c : Thread nD τ) bd) Set.univ (partialP b hb >>= kp) Q) := by
  unfold partialP ins
  simp only [Prog.lift, Prog.bind_op, Prog.bind_ret, Prog.pure_eq_ret]
  iintro ⟨⟨Hx, Hq, Hk, Hv⟩, Hf⟩ Hc
  iapply (wp_load 𝒱 (c : Thread nD τ) bd Set.univ (m := xM) (Finset.subset_univ _)) $$ Hx
  iintro Hx
  iapply (wp_load 𝒱 (c : Thread nD τ) bd Set.univ (m := qM) (Finset.subset_univ _)) $$ Hq
  iintro Hq
  iapply (wp_load 𝒱 (c : Thread nD τ) bd Set.univ (m := kM) (Finset.subset_univ _)) $$ Hk
  iintro Hk
  iapply (wp_load 𝒱 (c : Thread nD τ) bd Set.univ (m := vM) (Finset.subset_univ _)) $$ Hv
  iintro Hv
  iapply (wp_stores c kp Q 𝒱 bd (pieces b hb (xld b (inbX b hb) x) (qld q) (kld b (inbK b hb) k) (vld b (inbK b hb) v)) f) $$ Hf
  rw [storeAll_pieces]
  iintro Hf
  iapply Hc
  isplitl [Hx Hq Hk Hv]
  · isplitl [Hx]; · iexact Hx
    isplitl [Hq]; · iexact Hq
    isplitl [Hk]; · iexact Hk
    iexact Hv
  iexact Hf

end Cert.KernelIdealProof
-- ==== Proof.KernelIdealBranch.lean ====
/- The three parts of the body that branch on the device's number, without their branches. -/
module

public import proofs.«01_k».proof.Proof.KernelIdealPartial

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The three parts with a branch

A device of even number computes batch entry 1 first and batch entry 0 while its rows of batch entry 1 are on the way; a device of odd
number the other way round. -/

/-- The words the body computes from the device's number. -/
def w2 (d : Dev nD) : BitVec 32 := Scalar.remsi (Scalar.divsi (Dev.word d) 1#32) 16#32
def w13 (d : Dev nD) : BitVec 32 :=
  Scalar.ori (Scalar.ori (Scalar.ori (Scalar.shli (Scalar.andi (w2 d) 1#32) 3#32) (Scalar.shli (Scalar.andi (w2 d) 2#32) 1#32))
    (Scalar.shrsi (Scalar.andi (w2 d) 4#32) 1#32)) (Scalar.shrsi (Scalar.andi (w2 d) 8#32) 3#32)
def w15 (d : Dev nD) : BitVec 1 := Scalar.cmpi .eq (Scalar.andi (w2 d) 1#32) 0#32

/-- The flag of a device says whether its number is even. -/
theorem w15_eq (d : Dev nD) : w15 d = if half d = 0 then 1#1 else 0#1 := by revert d; decide +kernel

/-- Which batch entry a device computes first: entry 1 where its number is even. -/
def fst (d : Dev nD) : ℕ := 1 - half d
def snd (d : Dev nD) : ℕ := half d
/-- The batch entry by parity is 0 or 1. -/
theorem half_lt (d : Dev nD) : half d < 2 := Nat.mod_lt _ (by decide)
/-- The first batch entry is 0 or 1. -/
theorem fst_lt (d : Dev nD) : fst d < 2 := by unfold fst; omega
/-- The second batch entry is 0 or 1. -/
theorem snd_lt (d : Dev nD) : snd d < 2 := half_lt d
/-- The two are the two batch entries, in one order or the other. -/
theorem fst_snd (d : Dev nD) : fst d + snd d = 1 := by have := half_lt d; unfold fst snd; omega

/-- The partial computation depends on the batch entry's number only. -/
theorem partialP_congr {b b' : ℕ} (hb : b < 2) (hb' : b' < 2) (h : b = b') : (partialP (F := F) b hb) = partialP b' hb' := by subst h; rfl

/-- The printed test of a true flag holds. -/
theorem flag_one : Scalar.cmpi .ne (Scalar.extui (1#1) : BitVec 32) 0#32 = 1#1 := by decide
/-- The printed test of a false flag fails. -/
theorem flag_zero : Scalar.cmpi .ne (Scalar.extui (0#1) : BitVec 32) 0#32 ≠ 1#1 := by decide
/-- The negation of a true flag is false. -/
theorem flag_not_one : Scalar.xori (1#1) (1#1) = (0#1 : BitVec 1) := by decide
/-- The negation of a false flag is true. -/
theorem flag_not_zero : Scalar.xori (0#1) (1#1) = (1#1 : BitVec 1) := by decide

section Parts
variable (h0 : (xM : Memref sig .tc .vmem S2x256x768 .bf16).IsWhole) (h1 : (qM : Memref sig .tc .vmem S768x512 .bf16).IsWhole) (h2 : (woM : Memref sig .tc .vmem S512x768 .bf16).IsWhole)
  (h3 : (kM : Memref sig .tc .vmem S2x512x2x64 .bf16).IsWhole) (h4 : (vM : Memref sig .tc .vmem S2x512x2x64 .bf16).IsWhole) (h5 : (outM : Memref sig .tc .vmem S512x768 .f32).IsWhole)
  (h6 : (accM : Memref sig .tc .vmem S512x520 .f32).IsWhole) (h7 : (txM : Memref sig .tc .vmem S480x520 .bf16).IsWhole) (h8 : (rxM : Memref sig .tc .vmem S480x520 .bf16).IsWhole)
  (h9 : (bfM : Memref sig .tc .vmem S512x768 .bf16).IsWhole)

/-- The first part after the branch: two of the barrier signals. -/
def tail9 (d : Dev nD) : Prog (TpuEff nD τ sig (Elt F) Λ₀ .tc) (Σ' (d0 : Dev nD) (v2 : BitVec 32) (v13 : BitVec 32) (v15 : BitVec 1) (v21 : Sems sig S_) (v28 : BitVec 32), BitVec 32) := do
  semSignalWord (⟨k0_dev1 d, k0_dev1_lt d⟩ : Dev nD) barS 1#32
  semSignalWord (⟨k0_dev2 d, k0_dev2_lt d⟩ : Dev nD) barS 1#32
  pure ⟨d, w2 d, w13 d, w15 d, SemArray.scalar (sig.barrier 0 rfl), Scalar.xori (w2 d) 4#32, 1#32⟩

set_option maxRecDepth 65536 in
/-- The first part: one batch entry's sums, then two of the barrier signals. -/
theorem part9_wp (c : Dev nD) {α : Type} (kp : (Σ' (d0 : Dev nD) (v2 : BitVec 32) (v13 : BitVec 32) (v15 : BitVec 1) (v21 : Sems sig S_) (v28 : BitVec 32), BitVec 32) → Prog (TpuEff nD τ sig (Elt F) Λ₀ .tc) α) (Q : α → sProp 𝕄) (𝒱) (bd) :
    wp frame (wpE (Λ := Λ₀) (defs₀ (F := F)) 𝒱 (c : Thread nD τ) bd) Set.univ (k0_part9 xM h0 qM h1 woM h2 kM h3 vM h4 outM h5 accM h6 txM h7 rxM h8 bfM h9 cc0_scratch4 cc0_scratch5 >>= kp) Q
      = wp frame (wpE (Λ := Λ₀) (defs₀ (F := F)) 𝒱 (c : Thread nD τ) bd) Set.univ (partialP (fst c) (fst_lt c) >>= fun _ => tail9 c >>= kp) Q := by
  rw [k0_part9_eq_skeleton]
  unfold k0_part9_skel
  simp only [Prog.lift, Prog.bind_op, Prog.bind_ret, Prog.pure_eq_ret, wp_deviceId]
  have hw : Scalar.cmpi .eq (Scalar.andi (Scalar.remsi (Scalar.divsi (Dev.word c) 1#32) 16#32) 1#32) 0#32 = w15 c := rfl
  rw [hw]
  congr 1
  by_cases h : half c = 0
  · have e : w15 c = 1#1 := by rw [w15_eq, if_pos h]
    rw [partialP_congr (fst_lt c) (by decide : 1 < 2) (by unfold fst; rw [h])]
    simp only [e, flag_not_one]
    rw [dif_pos flag_one]
    simp only [dif_neg flag_zero]
    rw [k0_part1_eq_skeleton, k0_part2_eq_skeleton]
    unfold tail9
    rw [e]
    rfl
  · have e : w15 c = 0#1 := by rw [w15_eq, if_neg h]
    have hh := half_lt c
    rw [partialP_congr (fst_lt c) (by decide : 0 < 2) (by unfold fst; omega)]
    simp only [e, flag_not_zero]
    rw [dif_neg flag_zero, dif_pos flag_one]
    rw [k0_part3_eq_skeleton, k0_part4_eq_skeleton]
    unfold tail9
    rw [e]
    rfl

/-- The second part up to its branch: the other signals, the wait at the barrier, the first transfer. -/
def head10 (d : Dev nD) : Prog (TpuEff nD τ sig (Elt F) Λ₀ .tc) PUnit := do
  semSignalWord (⟨k0_dev3 d, k0_dev3_lt d⟩ : Dev nD) barS 1#32
  semSignalWord (⟨k0_dev4 d, k0_dev4_lt d⟩ : Dev nD) barS 1#32
  semWaitWord barS 4#32
  let v40 : Vec F S256x520 .f32 ← Prog.lift (.load accM (Rect.unit (s := S512x520) (k0_off1 d) S256x520.size (k0_off1_inb d)).toLoadRect (View.loadsAt_vmem h_S256x520))
  let v42 : Vec F S256x520 .bf16 ← Prog.lift (.load txM (Rect.unit (s := S480x520) ![0, 0] S256x520.size inb_S480x520_S256x520_0_0).toLoadRect (View.loadsAt_vmem h_S256x520))
  Prog.lift (.store txM (Rect.unit (s := S480x520) ![0, 0] S256x520.size inb_S480x520_S256x520_0_0) (k0_pay93 v40) Finset.univ (View.stores_vmem h_S256x520 (h7.storeExact_slice rfl _ packedbf16_S480x520_S256x520_0_0) (fun _ => rfl)) (.inl rfl))
  Prog.lift (.enqueueDma (txM.slice (Rect.unit (s := S480x520) ![0, 0] S256x520.size inb_S480x520_S256x520_0_0) (fun _ => rfl))
    (.remote (Dev.tc (⟨k0_dev5 d, k0_dev5_lt d⟩ : Dev nD)) (rxM.slice (Rect.unit (s := S480x520) ![0, 0] S256x520.size inb_S480x520_S256x520_0_0) (fun _ => rfl)) (.dma (sS 0))) (.dma (rS 0))
    (h7.wordExact_slice rfl _ wordsbf16_S480x520_S256x520_0_0) (h8.wordExact_slice rfl _ wordsbf16_S480x520_S256x520_0_0) ⟨⟨rfl, Or.inl rfl⟩, trivial⟩)

set_option maxRecDepth 65536 in
/-- The second part: on a device of even number batch entry 0 follows the first transfer. -/
theorem part10_even (d : Dev nD) (v2 v13 v28 c1 : BitVec 32) :
    k0_part10 (F := F) xM h0 qM h1 woM h2 kM h3 vM h4 outM h5 accM h6 txM h7 rxM h8 bfM h9 cc0_scratch4 cc0_scratch5 d v2 v13 (1#1) (SemArray.scalar (sig.barrier 0 rfl)) v28 c1
      = (head10 (F := F) h7 h8 d >>= fun _ => partialP 0 (by decide) >>= fun _ => pure ⟨Scalar.xori v2 1#32, Scalar.shli (Scalar.shrsi v13 3#32) 3#32, Scalar.extui (0#1), 0#32⟩) := by
  rw [k0_part10_eq_skeleton]
  unfold k0_part10_skel
  simp only [Prog.lift, Prog.bind_op, Prog.bind_ret, Prog.pure_eq_ret, dif_pos flag_one, flag_not_one]
  rw [k0_part5_eq_skeleton, k0_part6_eq_skeleton]
  rfl
set_option maxRecDepth 65536 in
/-- On a device of odd number it does not. -/
theorem part10_odd (d : Dev nD) (v2 v13 v28 c1 : BitVec 32) :
    k0_part10 (F := F) xM h0 qM h1 woM h2 kM h3 vM h4 outM h5 accM h6 txM h7 rxM h8 bfM h9 cc0_scratch4 cc0_scratch5 d v2 v13 (0#1) (SemArray.scalar (sig.barrier 0 rfl)) v28 c1
      = (head10 (F := F) h7 h8 d >>= fun _ => pure ⟨Scalar.xori v2 1#32, Scalar.shli (Scalar.shrsi v13 3#32) 3#32, Scalar.extui (1#1), 0#32⟩) := by
  rw [k0_part10_eq_skeleton]
  unfold k0_part10_skel
  simp only [Prog.lift, Prog.bind_op, Prog.bind_ret, Prog.pure_eq_ret, dif_neg flag_zero, flag_not_zero]
  rfl

set_option maxRecDepth 65536 in
/-- The third part on a device of odd number: batch entry 1, then as without the branch. -/
theorem part11_odd (d : Dev nD) (v2 v13 v34 v36 : BitVec 32) :
    k0_part11 (F := F) xM h0 qM h1 woM h2 kM h3 vM h4 outM h5 accM h6 txM h7 rxM h8 bfM h9 cc0_scratch4 cc0_scratch5 d v2 v13 v34 v36 (Scalar.extui (1#1)) 0#32
      = (partialP 1 (by decide) >>= fun _ => k0_part11 xM h0 qM h1 woM h2 kM h3 vM h4 outM h5 accM h6 txM h7 rxM h8 bfM h9 cc0_scratch4 cc0_scratch5 d v2 v13 v34 v36 (Scalar.extui (0#1)) 0#32) := by
  rw [k0_part11_eq_skeleton]
  unfold k0_part11_skel
  simp only [Prog.lift, Prog.bind_op, Prog.bind_ret, Prog.pure_eq_ret, dif_pos flag_one, dif_neg flag_zero]
  rw [k0_part7_eq_skeleton, k0_part8_eq_skeleton]
  rfl

end Parts

end Cert.KernelIdealProof
-- ==== Proof.KernelIdealSteps.lean ====
/- The steps of the body that touch the protocol: issuing a transfer, waiting for its arrival, waiting for its departure. -/
module

public import proofs.«01_k».proof.Proof.KernelIdealBranch

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 25 → ℕ)

/-! ## What every device knows -/

/-- Every cell's invariant, and that every cell is in its first round; -/
def records : sProp 𝕄 :=
  iprop((bigSep Finset.univ fun ck : Dev nD × Fin 25 => cellInv ER (rd m ρ) (K ck) (kcell ck))
    ∗ bigSep Finset.univ fun ck : Dev nD × Fin 25 => reached ER (kcell ck) 0)
instance records_persistent : BI.Persistent (records (F := F) m ρ K) := by unfold records; infer_instance
/-- and the levels of the cells. -/
def know : sProp 𝕄 := iprop(records m ρ K ∗ levAts L lv)
instance know_persistent : BI.Persistent (know (F := F) m ρ K) := by unfold know; infer_instance

/-- One cell's invariant, out of all of them. -/
theorem inv_at (ck : Dev nD × Fin 25) :
    (bigSep Finset.univ fun ck : Dev nD × Fin 25 => (cellInv ER (rd m ρ) (K ck) (kcell ck) : sProp 𝕄)) ⊢ cellInv ER (rd m ρ) (K ck) (kcell ck) :=
  bigSep_elim (Finset.mem_univ ck)
/-- One cell's first round is open, out of all of them. -/
theorem reached_at (ck : Dev nD × Fin 25) :
    (bigSep Finset.univ fun ck : Dev nD × Fin 25 => (reached ER (kcell ck) 0 : sProp 𝕄)) ⊢ reached ER (kcell ck) 0 :=
  bigSep_elim (Finset.mem_univ ck)
/-- One cell's invariant and its open round, out of the records. -/
theorem rec_cell (ck : Dev nD × Fin 25) : records m ρ K ⊢ iprop(cellInv ER (rd m ρ) (K ck) (kcell ck) ∗ reached ER (kcell ck) 0) := by
  unfold records
  iintro ⟨#HI, #HR⟩
  isplitl
  · iapply (inv_at m ρ K ck); iexact HI
  · iapply (reached_at (F := F) ck); iexact HR
/-- The same for a send cell. -/
theorem rec_send (i : Fin 12) (c : Dev nD) : records m ρ K ⊢ iprop(cellInv ER (rd m ρ) (K (c, ks i)) (sendCell i c) ∗ reached ER (sendCell i c) 0) := by
  have h := rec_cell m ρ K (c, ks i)
  have e : kcell (c, ks i) = sendCell i c := by unfold kcell; rw [csem_ks]
  rwa [e] at h
/-- The same for a receive cell. -/
theorem rec_recv (i : Fin 12) (c : Dev nD) : records m ρ K ⊢ iprop(cellInv ER (rd m ρ) (K (c, kr i)) (recvCell i c) ∗ reached ER (recvCell i c) 0) := by
  have h := rec_cell m ρ K (c, kr i)
  have e : kcell (c, kr i) = recvCell i c := by unfold kcell; rw [csem_kr]
  rwa [e] at h
/-- The same for a barrier cell. -/
theorem rec_bar (c : Dev nD) : records m ρ K ⊢ iprop(cellInv ER (rd m ρ) (K (c, 0)) (barCell c) ∗ reached ER (barCell c) 0) := rec_cell m ρ K (c, 0)

/-- A device owes `O`, whatever it has waited for. -/
def owesE (c : Dev nD) (O : CellTallies nD τ sig Unit) : sProp 𝕄 := iprop(∃ W, owes (c : Thread nD τ) O W)

/-! ## One transfer's ghost state, from before the issue to after both waits -/

def gh (i : Fin 12) (c : Dev nD) : sProp 𝕄 :=
  iprop(dutyTok ER (sendCell i c) 0 0 ∗ dutyTok ER (recvCell i (pt (par i) c)) 0 0 ∗ atPos ER (sendCell i c) 0 ∅ 0 ∗ atPos ER (recvCell i c) 0 ∅ 0
    ∗ cred (tallyAt (recvCell i c) () (N i)))
def gs (i : Fin 12) (c : Dev nD) : sProp 𝕄 :=
  iprop(cred (tallyAt (sendCell i c) () (N i)) ∗ atPos ER (sendCell i c) 0 ∅ 0 ∗ atPos ER (recvCell i c) 0 ∅ 0 ∗ cred (tallyAt (recvCell i c) () (N i)))
def gr (i : Fin 12) (c : Dev nD) : sProp 𝕄 :=
  iprop(cred (tallyAt (sendCell i c) () (N i)) ∗ atPos ER (sendCell i c) 0 ∅ 0 ∗ semVal (recvCell i c) 0)
def gd (i : Fin 12) (c : Dev nD) : sProp 𝕄 := iprop(semVal (sendCell i c) 0 ∗ semVal (recvCell i c) 0)

/-- The wait for a transfer's arrival brings what landed, and closes the cell. -/
theorem wp_xrecv (c : Dev nD) (i : Fin 12) (h8 : i ≠ 8) (l : List (Fin 12)) (hl : ∀ j ∈ l, place i < place j) {s : Shape}
    {src dst : Memref sig .tc .vmem s .bf16} (hN : RefSig.tileCredit s .bf16 = N i) {q : DmaSem sig} (hq : q = rS i) {h1 : src.view.WordExact} {h2 : dst.view.WordExact}
    {α : Type} {Q : α → sProp 𝕄} {k : PUnit → Prog (TpuEff nD τ sig (Elt F) Λ₀ .tc) α} :
    iprop(know m ρ K ∗ owesE c (owR c l) ∗ gs i c)
      ⊢ iprop((iprop(owesE c (owR c l) ∗ gr i c ∗ recvPay m ρ i c) -∗ wp frame (wpE (Λ := Λ₀) (defs₀ (F := F)) 𝒱₀ (c : Thread nD τ) none) Set.univ (k ⟨⟩) Q)
        -∗ wp frame (wpE (Λ := Λ₀) (defs₀ (F := F)) 𝒱₀ (c : Thread nD τ) none) Set.univ (.op (.waitDma2 q src dst h1 h2) k) Q) := by
  subst hq
  have hc : dst.view.dmaCredit = N i := hN
  unfold know owesE gs gr
  iintro ⟨⟨#HK, #HL⟩, ⟨%W, HO⟩, HcS, HaS, HaR, HcR⟩ Hk
  ihave HC := (rec_recv m ρ K i c) $$ HK
  icases HC with ⟨#HI, #HR⟩
  iapply (Rounds.wp_wait_rest_token 𝒱₀ ER (rd m ρ) (c : Thread nD τ) none (κ := K (c, kr i))
      (k' := N i) (fun K' => (wpE_waitDma2_eq 𝒱₀ (c : Thread nD τ) none Set.univ K').trans (by rw [hc])) (Set.mem_univ _) () (O := owR c l) (W := W) (R := 0) (m := 0) (T := ∅)
      (by rw [Nat.zero_add, expect_recv m ρ c i h8])) $$ [HcR HO HaR]
  · isplitr; · iexact HI
    isplitl [HcR]; · iexact HcR
    isplitl [HO]; · iexact HO
    isplitr
    · iapply (mayWait c (.dma (rS i)) l fun j hj => by rw [show lv ((c : Thread nD τ), .dma (rS i)) () = place i from lv_recv i c ()]; exact hl j hj)
      iexact HL
    iexact HaR
  iintro ⟨HO, HaR, -, Hpay⟩
  ihave Hp := (Entails.of_eq (rest_recv m ρ c i h8)) $$ Hpay
  imod (Rounds.cell_close ER (rd m ρ) (Set.mem_univ (K (c, kr i))) (fun h => h) (R := 0 + 1) (duties_later m ρ (recvCell i c))) $$ [HaR] with HzR
  · isplitr; · iexact HI
    iexact HaR
  iapply Hk
  isplitl [HO]; · iexists _; iexact HO
  isplitl [HcS HaS HzR]
  · isplitl [HcS]; · iexact HcS
    isplitl [HaS]; · iexact HaS
    iexact HzR
  iexact Hp

/-- The wait for a transfer's departure, once nothing is owed, brings its source back, and closes the cell. -/
theorem wp_xdone (c : Dev nD) (i : Fin 12) (h8 : i ≠ 8) {s : Shape}
    {src dst : Memref sig .tc .vmem s .bf16} (hN : RefSig.tileCredit s .bf16 = N i) {q : DmaSem sig} (hq : q = sS i) {h1 : src.view.WordExact} {h2 : dst.view.WordExact}
    {α : Type} {Q : α → sProp 𝕄} {k : PUnit → Prog (TpuEff nD τ sig (Elt F) Λ₀ .tc) α} :
    iprop(know m ρ K ∗ owesE c (owR c []) ∗ gr i c)
      ⊢ iprop((iprop(owesE c (owR c []) ∗ gd i c ∗ sendPay m ρ i c) -∗ wp frame (wpE (Λ := Λ₀) (defs₀ (F := F)) 𝒱₀ (c : Thread nD τ) none) Set.univ (k ⟨⟩) Q)
        -∗ wp frame (wpE (Λ := Λ₀) (defs₀ (F := F)) 𝒱₀ (c : Thread nD τ) none) Set.univ (.op (.waitDma2 q src dst h1 h2) k) Q) := by
  subst hq
  have hc : dst.view.dmaCredit = N i := hN
  unfold know owesE gr gd
  iintro ⟨⟨#HK, #HL⟩, ⟨%W, HO⟩, HcS, HaS, HzR⟩ Hk
  ihave HC := (rec_send m ρ K i c) $$ HK
  icases HC with ⟨#HI, #HR⟩
  iapply (Rounds.wp_wait_rest_token 𝒱₀ ER (rd m ρ) (c : Thread nD τ) none (κ := K (c, ks i))
      (k' := N i) (fun K' => (wpE_waitDma2_eq 𝒱₀ (c : Thread nD τ) none Set.univ K').trans (by rw [hc])) (Set.mem_univ _) () (O := owR c []) (W := W) (R := 0) (m := 0) (T := ∅)
      (by rw [Nat.zero_add, expect_send m ρ c i h8])) $$ [HcS HO HaS]
  · isplitr; · iexact HI
    isplitl [HcS]; · iexact HcS
    isplitl [HO]; · iexact HO
    isplitr
    · iapply (mayWait c (.dma (sS i)) [] fun j hj => absurd hj (List.not_mem_nil))
      iexact HL
    iexact HaS
  iintro ⟨HO, HaS, -, Hpay⟩
  ihave Hp := (Entails.of_eq (rest_send m ρ c i h8)) $$ Hpay
  imod (Rounds.cell_close ER (rd m ρ) (Set.mem_univ (K (c, ks i))) (fun h => h) (R := 0 + 1) (duties_later m ρ (sendCell i c))) $$ [HaS] with HzS
  · isplitr; · iexact HI
    iexact HaS
  iapply Hk
  isplitl [HO]; · iexists _; iexact HO
  isplitl [HzS HzR]
  · isplitl [HzS]; · iexact HzS
    iexact HzR
  iexact Hp

/-- The issue of a transfer to the partner of its step. -/
theorem wp_xsend (c n : Dev nD) (i : Fin 12) (h8 : i ≠ 8) (hn : n = pt (par i) c) (l : List (Fin 12)) {s : Shape}
    {src : Memref sig .tc .vmem s .bf16} {dst : Memref sig (Dev.tc n : Thread nD τ).2.kind .vmem s .bf16} (hN : RefSig.tileCredit s .bf16 = N i)
    {qs qr : DmaSem sig} (hqs : qs = sS i) (hqr : qr = rS i)
    {hsc : dst.view.ref.isScScratch = false} {hsrc : src.view.WordExact} {hdst : dst.view.WordExact}
    {hsem : DmaTarget.Typed .vmem (.dma qr) (.remote (Dev.tc n : Thread nD τ) dst (.dma qs) hsc)}
    {α : Type} {Q : α → sProp 𝕄} {k : PUnit → Prog (TpuEff nD τ sig (Elt F) Λ₀ .tc) α} (q : PosShare TreeShare)
    (fs : Buf (Elt F) (src.view.loc (c : Thread nD τ))) (fd : Buf (Elt F) (dst.view.loc (n : Thread nD τ)))
    (hpay₁ : (src.view.loc (c : Thread nD τ) ↦[src.view.set]{q} fs : sProp 𝕄) ⊢ sendPay m ρ i c)
    (hpay₂ : (dst.view.loc (n : Thread nD τ) ↦[dst.view.set]{fullShare} (dst.view.write (Elt F) fd (src.view.read (Elt F) fs) Finset.univ) : sProp 𝕄) ⊢ recvPay m ρ i n) :
    iprop(know m ρ K ∗ (src.view.loc (c : Thread nD τ) ↦[src.view.set]{q} fs) ∗ (dst.view.loc (n : Thread nD τ) ↦[dst.view.set]{fullShare} fd)
        ∗ owesE c (owR c (i :: l)) ∗ gh i c)
      ⊢ iprop((iprop(owesE c (owR c l) ∗ gs i c) -∗ wp frame (wpE (Λ := Λ₀) (defs₀ (F := F)) 𝒱₀ (c : Thread nD τ) none) Set.univ (k ⟨⟩) Q)
        -∗ wp frame (wpE (Λ := Λ₀) (defs₀ (F := F)) 𝒱₀ (c : Thread nD τ) none) Set.univ
          (.op (.enqueueDma src (.remote (Dev.tc n : Thread nD τ) dst (.dma qs) hsc) (.dma qr) hsrc hdst hsem) k) Q) := by
  subst hqs hqr hn
  unfold know owesE gh gs
  iintro ⟨⟨#HK, #HL⟩, Hs, Hd, ⟨%W, HO⟩, HtS, HtR, HaS, HaR, HcR⟩ Hk
  ihave HC := (rec_send m ρ K i c) $$ HK
  icases HC with ⟨#HIs, #HRs⟩
  ihave HC' := (rec_recv m ρ K i (pt (par i) c)) $$ HK
  icases HC' with ⟨#HIr, #HRr⟩
  iapply (Rounds.wp_send_pointsTo 𝒱₀ ER (rd m ρ) (c : Thread nD τ) none (κ₁ := K (c, ks i)) (κ₂ := K (pt (par i) c, kr i))
    (r₁ := 0) (r₂ := 0) (d₁ := 0) (d₂ := 0) (fs := fs) (fd := fd) (q := q)
    (by rw [duties_send m ρ c i h8]; exact Finset.mem_singleton_self _) (by rw [duties_recv m ρ _ i h8]; exact Finset.mem_singleton_self _)
    () () (N i) (show dst.view.amount (.dma (rS i)) = N i from hN) (amount_send m ρ c i 0) (amount_recv m ρ (pt (par i) c) i 0) (owR c l) rfl (W := W)
    (by rw [payload_send]; exact hpay₁) (by rw [payload_recv]; exact hpay₂)) $$ [Hs Hd HO HtS HtR]
  · isplitr; · iexact HIs
    isplitr; · iexact HIr
    isplitl [Hs]; · iexact Hs
    isplitl [Hd]; · iexact Hd
    isplitl [HO]; · iexact HO
    isplitl [HtS]; · iexact HtS
    isplitr; · iexact HRs
    isplitl [HtR]; · iexact HtR
    iexact HRr
  iintro ⟨HcS, HO⟩
  iapply Hk
  isplitl [HO]; · iexists _; iexact HO
  isplitl [HcS]; · iexact HcS
  isplitl [HaS]; · iexact HaS
  isplitl [HaR]; · iexact HaR
  iexact HcR

/-! ## The two kinds of transfer -/

/-- A slice of the receive buffer at a band covers that band. -/
theorem rx_set {off sz : Fin 2 → ℕ} (inb : ∀ a, off a + sz a ≤ S480x520.size a) (hu) (k : Fin 4) (ho : off = ![blo k, 0]) (hs : sz = ![bln k, 520]) :
    ((rxM.slice (Rect.unit (s := S480x520) off sz inb) hu).view.set : Finset S480x520.Idx) = band k :=
  (View.set_slice_whole _ _).trans (slice_band cc0_scratch2 rfl inb k ho hs)
/-- A slice of the send buffer at a band covers that band. -/
theorem tx_set {off sz : Fin 2 → ℕ} (inb : ∀ a, off a + sz a ≤ S480x520.size a) (hu) (k : Fin 4) (ho : off = ![blo k, 0]) (hs : sz = ![bln k, 520]) :
    ((txM.slice (Rect.unit (s := S480x520) off sz inb) hu).view.set : Finset S480x520.Idx) = band k :=
  (View.set_slice_whole _ _).trans (slice_band cc0_scratch1 rfl inb k ho hs)

/-- A transfer of partial sums: the rows just stored in the send buffer land in the partner's receive buffer. -/
theorem wp_xsend_tx (c n : Dev nD) (i : Fin 12) (hi : i.val < 4) (hn : n = pt (par i) c) (l : List (Fin 12)) {off sz : Fin 2 → ℕ}
    (inb : ∀ a, off a + sz a ≤ S480x520.size a) (ho : off = ![blo (par i), 0]) (hs : sz = ![bln (par i), 520])
    (hN : RefSig.tileCredit ⟨2, sz⟩ .bf16 = N i) {hu hu'}
    {qs qr : DmaSem sig} (hqs : qs = sS i) (hqr : qr = rS i)
    {hsc} {hsrc} {hdst}
    {hsem : DmaTarget.Typed .vmem (.dma qr) (.remote (Dev.tc n : Thread nD τ) (rxM.slice (Rect.unit (s := S480x520) off sz inb) hu') (.dma qs) hsc)}
    {α : Type} {Q : α → sProp 𝕄} {k : PUnit → Prog (TpuEff nD τ sig (Elt F) Λ₀ .tc) α}
    (f : Vec F S480x520 .bf16) (w : (⟨2, sz⟩ : Shape).Idx → F .bf16)
    (hg : ∀ f, rxM.view.readAt (Elt F) (Rect.unit (s := S480x520) off sz inb).toLoadRect f = w → rxGood m ρ (pt (par i) c) f i) :
    iprop(know m ρ K ∗ txPts (par i) c ((txM.access (Rect.unit (s := S480x520) off sz inb)).write (Elt F) f w Finset.univ) ∗ (∃ fd, rxPts (par i) (pt (par i) c) fd)
        ∗ owesE c (owR c (i :: l)) ∗ gh i c)
      ⊢ iprop((iprop(owesE c (owR c l) ∗ gs i c) -∗ wp frame (wpE (Λ := Λ₀) (defs₀ (F := F)) 𝒱₀ (c : Thread nD τ) none) Set.univ (k ⟨⟩) Q)
        -∗ wp frame (wpE (Λ := Λ₀) (defs₀ (F := F)) 𝒱₀ (c : Thread nD τ) none) Set.univ
          (.op (.enqueueDma (txM.slice (Rect.unit (s := S480x520) off sz inb) hu) (.remote (Dev.tc n : Thread nD τ) (rxM.slice (Rect.unit (s := S480x520) off sz inb) hu') (.dma qs) hsc) (.dma qr) hsrc hdst hsem) k) Q) := by
  subst hn
  iintro ⟨HK, Hs, ⟨%fd, Hd⟩, HO, Hg⟩
  iapply (wp_xsend m ρ K c (pt (par i) c) i (by omega) rfl l hN hqs hqr fullShare ((txM.access (Rect.unit (s := S480x520) off sz inb)).write (Elt F) f w Finset.univ) fd ?_ ?_) $$ [HK Hs Hd HO Hg]
  · rw [tx_set inb hu (par i) ho hs]
    unfold sendPay
    rw [if_pos hi]
    iintro H
    iexists _; unfold txPts; iexact H
  · rw [rx_set inb hu' (par i) ho hs]
    unfold recvPay
    rw [if_pos hi]
    iintro H
    iexists _
    isplitr
    rotate_left
    · unfold rxPts; iexact H
    · ipureintro
      refine hg _ ?_
      refine (View.read_write_univ (Val := Elt F) (v := (rxM.slice (Rect.unit (s := S480x520) off sz inb) hu').view) fd _).trans ?_
      exact View.read_write_univ (Val := Elt F) (v := (txM.slice (Rect.unit (s := S480x520) off sz inb) hu).view) f w
  · isplitl [HK]; · iexact HK
    isplitl [Hs]; · rw [tx_set inb hu (par i) ho hs]; unfold txPts; iexact Hs
    isplitl [Hd]; · rw [rx_set inb hu' (par i) ho hs]; unfold rxPts; iexact Hd
    isplitl [HO]; · iexact HO
    iexact Hg

/-- A transfer of finished blocks: they land at the same rows of the partner's block buffer. -/
theorem wp_xsend_bf (c n : Dev nD) (i : Fin 12) (hi : 4 ≤ i.val) (h8 : i ≠ 8) (hn : n = pt (par i) c) (l : List (Fin 12)) {off sz : Fin 2 → ℕ}
    (inb : ∀ a, off a + sz a ≤ S512x768.size a)
    (hset : ((View.whole cc0_scratch3).slice (Rect.unit (s := S512x768) off sz inb)).set = rows (win i c))
    (hN : RefSig.tileCredit ⟨2, sz⟩ .bf16 = N i) {hu hu'}
    {qs qr : DmaSem sig} (hqs : qs = sS i) (hqr : qr = rS i)
    {hsc} {hsrc} {hdst}
    {hsem : DmaTarget.Typed .vmem (.dma qr) (.remote (Dev.tc n : Thread nD τ) (bfM.slice (Rect.unit (s := S512x768) off sz inb) hu') (.dma qs) hsc)}
    {α : Type} {Q : α → sProp 𝕄} {k : PUnit → Prog (TpuEff nD τ sig (Elt F) Λ₀ .tc) α} :
    iprop(know m ρ K ∗ bfPts (win i c) (sr (par i).val) c (out m ρ) ∗ (∃ fd, bfPts (rwin i (pt (par i) c)) fullShare (pt (par i) c) fd)
        ∗ owesE c (owR c (i :: l)) ∗ gh i c)
      ⊢ iprop((iprop(owesE c (owR c l) ∗ gs i c) -∗ wp frame (wpE (Λ := Λ₀) (defs₀ (F := F)) 𝒱₀ (c : Thread nD τ) none) Set.univ (k ⟨⟩) Q)
        -∗ wp frame (wpE (Λ := Λ₀) (defs₀ (F := F)) 𝒱₀ (c : Thread nD τ) none) Set.univ
          (.op (.enqueueDma (bfM.slice (Rect.unit (s := S512x768) off sz inb) hu) (.remote (Dev.tc n : Thread nD τ) (bfM.slice (Rect.unit (s := S512x768) off sz inb) hu') (.dma qs) hsc) (.dma qr) hsrc hdst hsem) k) Q) := by
  subst hn
  have hset' : ((bfM.slice (Rect.unit (s := S512x768) off sz inb) hu).view.set : Finset S512x768.Idx) = rows (win i c) := hset
  iintro ⟨HK, Hs, ⟨%fd, Hd⟩, HO, Hg⟩
  iapply (wp_xsend m ρ K c (pt (par i) c) i h8 rfl l hN hqs hqr (sr (par i).val) (out m ρ) fd ?_ ?_) $$ [HK Hs Hd HO Hg]
  · rw [hset']
    unfold sendPay
    rw [if_neg (by omega)]
    unfold bfPts
    exact BI.Entails.refl _
  · unfold recvPay
    rw [if_neg (by omega), rwin_pt]
    unfold bfPts
    rw [← hset]
    refine Entails.of_eq (pointsTo_congr fun j hj => ?_)
    obtain ⟨a, -, rfl⟩ := Finset.mem_map.mp hj
    exact View.write_emb_of_mem (v := (bfM.slice (Rect.unit (s := S512x768) off sz inb) hu').view) fd _ (Finset.mem_univ a)
  · isplitl [HK]; · iexact HK
    isplitl [Hs]; · rw [hset']; unfold bfPts; iexact Hs
    isplitl [Hd]
    · rw [rwin_pt]; unfold bfPts; rw [← hset]; iexact Hd
    isplitl [HO]; · iexact HO
    iexact Hg

end Cert.KernelIdealProof
-- ==== Proof.KernelIdealReduce.lean ====
/- The first half of the body: the two batch entries' partial sums and the four exchange steps that add them up. -/
module

public import proofs.«01_k».proof.Proof.KernelIdealSteps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 25 → ℕ)

/-! ## The barrier -/

/-- A landing area of finished blocks, at some contents. -/
def lnd (i : Fin 12) (p : Dev nD) : sProp 𝕄 := iprop(∃ f, bfPts (rwin i p) fullShare p f)

/-- What a device hands over with each barrier unit, listed. -/
theorem give0_eq (p : Dev nD) : (give (F := F) 0 p) = iprop((∃ f, rxPts 0 p f) ∗ lnd 7 p ∗ lnd 11 p) := by
  unfold give
  rw [bigSep_eq_bigSepL_of_eq [7, 11] (by decide) (by decide), bigSepL_cons_cons, bigSepL_singleton]; rfl
/-- What the partner of step 1 hands over at the barrier, written out. -/
theorem give1_eq (p : Dev nD) : (give (F := F) 1 p) = iprop((∃ f, rxPts 1 p f) ∗ lnd 6 p ∗ lnd 10 p) := by
  unfold give
  rw [bigSep_eq_bigSepL_of_eq [6, 10] (by decide) (by decide), bigSepL_cons_cons, bigSepL_singleton]; rfl
/-- What the partner of step 2 hands over at the barrier, written out. -/
theorem give2_eq (p : Dev nD) : (give (F := F) 2 p) = iprop((∃ f, rxPts 2 p f) ∗ lnd 5 p ∗ lnd 9 p) := by
  unfold give
  rw [bigSep_eq_bigSepL_of_eq [5, 9] (by decide) (by decide), bigSepL_cons_cons, bigSepL_singleton]; rfl
/-- What the partner of step 3 hands over at the barrier, written out. -/
theorem give3_eq (p : Dev nD) : (give (F := F) 3 p) = iprop((∃ f, rxPts 3 p f) ∗ lnd 4 p) := by
  unfold give
  rw [bigSep_eq_bigSepL_of_eq [4] (by decide) (by decide), bigSepL_singleton]; rfl

/-- A barrier signal to the partner of step `r`. -/
theorem wp_xsignal (c n : Dev nD) (r : Fin 4) (hn : n = pt r c) (l : List (Fin 4)) {k' : ℕ} (hk : 1 = k')
    {α : Type} {Q : α → sProp 𝕄} {k : PUnit → Prog (TpuEff nD τ sig (Elt F) Λ₀ .tc) α} :
    iprop(know m ρ K ∗ owesE c (owB c (r :: l)) ∗ dutyTok ER (barCell (pt r c)) 0 r ∗ give r c)
      ⊢ iprop((owesE c (owB c l) -∗ wp frame (wpE (Λ := Λ₀) (defs₀ (F := F)) 𝒱₀ (c : Thread nD τ) none) Set.univ (k ⟨⟩) Q) -∗ wp frame (wpE (Λ := Λ₀) (defs₀ (F := F)) 𝒱₀ (c : Thread nD τ) none) Set.univ (.op (.semSignal (n : Thread nD τ) barS k') k) Q) := by
  subst hn hk
  unfold know owesE
  iintro ⟨⟨#HK, #HL⟩, ⟨%W, HO⟩, Ht, Hg⟩ Hk
  ihave HC := (rec_bar m ρ K (pt r c)) $$ HK
  icases HC with ⟨#HI, #HR⟩
  iapply (Rounds.wp_signal 𝒱₀ ER (rd m ρ) (c : Thread nD τ) none (dst := (pt r c : Thread nD τ)) (κ := K (pt r c, 0)) (r := 0) (d := r)
      (by rw [duties_bar]; exact Finset.mem_univ _) (amount_bar m ρ (pt r c) r) () (owB c l) rfl) $$ [HO Ht Hg]
  · isplitr; · iexact HI
    isplitl [HO]; · iexact HO
    isplitl [Ht]; · iexact Ht
    isplitl [Hg]
    · rw [payload_bar, pt_pt]; iexact Hg
    iexact HR
  iintro HO
  iapply Hk
  iexists _; iexact HO

/-- The wait at the barrier: the four partners' landing areas come with it. -/
theorem wp_xbar (c : Dev nD) {k' : ℕ} (hk : 4 = k') {α : Type} {Q : α → sProp 𝕄} {k : PUnit → Prog (TpuEff nD τ sig (Elt F) Λ₀ .tc) α} :
    iprop(know m ρ K ∗ owesE c (owR c order) ∗ cred (tallyAt (barCell c) () 4) ∗ atPos ER (barCell c) 0 ∅ 0)
      ⊢ iprop((iprop(owesE c (owR c order) ∗ semVal (barCell c) 0 ∗ give 0 (pt 0 c) ∗ give 1 (pt 1 c) ∗ give 2 (pt 2 c) ∗ give 3 (pt 3 c)) -∗ wp frame (wpE (Λ := Λ₀) (defs₀ (F := F)) 𝒱₀ (c : Thread nD τ) none) Set.univ (k ⟨⟩) Q)
        -∗ wp frame (wpE (Λ := Λ₀) (defs₀ (F := F)) 𝒱₀ (c : Thread nD τ) none) Set.univ (.op (.semWait barS k') k) Q) := by
  subst hk
  unfold know owesE
  iintro ⟨⟨#HK, #HL⟩, ⟨%W, HO⟩, Hc, Ha⟩ Hk
  ihave HC := (rec_bar m ρ K c) $$ HK
  icases HC with ⟨#HI, #HR⟩
  iapply (Rounds.wp_wait_rest_token 𝒱₀ ER (rd m ρ) (c : Thread nD τ) none (κ := K (c, 0))
      (wpE_semWait_eq 𝒱₀ (c : Thread nD τ) none Set.univ) (Set.mem_univ _) () (O := owR c order) (W := W) (R := 0) (m := 0) (T := ∅)
      (by rw [Nat.zero_add, expect_bar])) $$ [Hc HO Ha]
  · isplitr; · iexact HI
    isplitl [Hc]; · iexact Hc
    isplitl [HO]; · iexact HO
    isplitr
    · iapply (mayWait c (.reg barS) order (by show ∀ i ∈ order, 1 < place i; decide))
      iexact HL
    iexact Ha
  iintro ⟨HO, Ha, -, Hpay⟩
  ihave Hp := (Entails.of_eq (rest_bar m ρ c)) $$ Hpay
  imod (Rounds.cell_close ER (rd m ρ) (Set.mem_univ (K (c, 0))) (fun h => h) (R := 0 + 1) (duties_later m ρ (barCell c))) $$ [Ha] with Hz
  · isplitr; · iexact HI
    iexact Ha
  iapply Hk
  isplitl [HO]; · iexists _; iexact HO
  isplitl [Hz]; · iexact Hz
  iexact Hp

/-! ## Loads and stores of bands of the two 480-row buffers -/

/-- An access to a band of the send buffer covers that band. -/
theorem tx_on {off sz : Fin 2 → ℕ} (inb : ∀ a, off a + sz a ≤ S480x520.size a) (k : Fin 4) (ho : off = ![blo k, 0]) (hs : sz = ![bln k, 520]) :
    (txM.access (Rect.unit (s := S480x520) off sz inb)).set = band k := (View.set_slice_whole _ _).trans (slice_band cc0_scratch1 rfl inb k ho hs)
/-- An access to a band of the receive buffer covers that band. -/
theorem rx_on {off sz : Fin 2 → ℕ} (inb : ∀ a, off a + sz a ≤ S480x520.size a) (k : Fin 4) (ho : off = ![blo k, 0]) (hs : sz = ![bln k, 520]) :
    (rxM.access (Rect.unit (s := S480x520) off sz inb)).set = band k := (View.set_slice_whole _ _).trans (slice_band cc0_scratch2 rfl inb k ho hs)

/-- Loading a band of the send buffer and storing it anew. -/
theorem wp_txfill (c : Dev nD) (k : Fin 4) {off sz : Fin 2 → ℕ} {inb : ∀ a, off a + sz a ≤ S480x520.size a} (ho : off = ![blo k, 0]) (hs : sz = ![bln k, 520])
    {hl} {w : (⟨2, sz⟩ : Shape).Idx → F .bf16} {hx} {hm} {α : Type} {Q : α → sProp 𝕄} {kp : PUnit → Prog (TpuEff nD τ sig (Elt F) Λ₀ .tc) α} :
    (iprop(∃ f, txPts k c f) : sProp 𝕄)
      ⊢ iprop((iprop(∃ f, txPts k c ((txM.access (Rect.unit (s := S480x520) off sz inb)).write (Elt F) f w Finset.univ)) -∗ wp frame (wpE (Λ := Λ₀) (defs₀ (F := F)) 𝒱₀ (c : Thread nD τ) none) Set.univ (kp ⟨⟩) Q)
        -∗ wp frame (wpE (Λ := Λ₀) (defs₀ (F := F)) 𝒱₀ (c : Thread nD τ) none) Set.univ (.op (.load txM (Rect.unit (s := S480x520) off sz inb).toLoadRect hl) fun _ => .op (.store txM (Rect.unit (s := S480x520) off sz inb) w Finset.univ hx hm) kp) Q) := by
  unfold txPts
  iintro ⟨%f, Hf⟩ Hk
  iapply (wp_load_rect 𝒱₀ (c : Thread nD τ) none Set.univ (m := txM) (r := Rect.unit (s := S480x520) off sz inb) (tx_on inb k ho hs).le) $$ Hf; iintro Hf
  iapply (wp_store 𝒱₀ (c : Thread nD τ) none Set.univ (m := txM) (r := Rect.unit (s := S480x520) off sz inb) (Mk := Finset.univ) (tx_on inb k ho hs).le) $$ Hf; iintro Hf
  iapply Hk
  iexists f
  iexact Hf

/-- Storing rows of the accumulator. -/
theorem wp_accstore (c : Dev nD) {r : Rect S512x520} {w : r.shape.Idx → Elt F .f32} {hx} {hm} {α : Type} {Q : α → sProp 𝕄} {kp : PUnit → Prog (TpuEff nD τ sig (Elt F) Λ₀ .tc) α} {f : Vec F S512x520 .f32} :
    ((((c : Thread nD τ).loc cc0_scratch0) ↦{fullShare} (f)) : sProp 𝕄)
      ⊢ iprop(((((c : Thread nD τ).loc cc0_scratch0) ↦{fullShare} ((accM.access r).write (Elt F) f w Finset.univ)) -∗ wp frame (wpE (Λ := Λ₀) (defs₀ (F := F)) 𝒱₀ (c : Thread nD τ) none) Set.univ (kp ⟨⟩) Q) -∗ wp frame (wpE (Λ := Λ₀) (defs₀ (F := F)) 𝒱₀ (c : Thread nD τ) none) Set.univ (.op (.store accM r w Finset.univ hx hm) kp) Q) :=
  wp_store 𝒱₀ (c : Thread nD τ) none Set.univ (m := accM) (r := r) (Mk := Finset.univ) (Finset.subset_univ _)

/-- Loading a band of the receive buffer. -/
theorem wp_rxload (c : Dev nD) (k : Fin 4) {off sz : Fin 2 → ℕ} {inb : ∀ a, off a + sz a ≤ S480x520.size a} (ho : off = ![blo k, 0]) (hs : sz = ![bln k, 520])
    {hl} {α : Type} {Q : α → sProp 𝕄} {kp : ((Rect.unit (s := S480x520) off sz inb).shape.Idx → Elt F .bf16) → Prog (TpuEff nD τ sig (Elt F) Λ₀ .tc) α} (f : Vec F S480x520 .bf16) :
    (rxPts k c f : sProp 𝕄)
      ⊢ iprop((rxPts k c f -∗ wp frame (wpE (Λ := Λ₀) (defs₀ (F := F)) 𝒱₀ (c : Thread nD τ) none) Set.univ (kp (rxM.view.readAt (Elt F) (Rect.unit (s := S480x520) off sz inb).toLoadRect f)) Q)
        -∗ wp frame (wpE (Λ := Λ₀) (defs₀ (F := F)) 𝒱₀ (c : Thread nD τ) none) Set.univ (.op (.load rxM (Rect.unit (s := S480x520) off sz inb).toLoadRect hl) kp) Q) := by
  unfold rxPts
  iintro Hf Hk
  iapply (wp_load_rect 𝒱₀ (c : Thread nD τ) none Set.univ (m := rxM) (r := Rect.unit (s := S480x520) off sz inb) (rx_on inb k ho hs).le) $$ Hf; iintro Hf
  iapply Hk
  iexact Hf

/-! ## The parts -/

/-- The inputs of the partial sums, staged on device `c`. -/
def insS (c : Dev nD) : sProp 𝕄 := ins c (xst m ρ c) (qst m ρ c) (kst m ρ c) (vst m ρ c)
/-- The accumulator after the first batch entry, -/
def accA (c : Dev nD) (f : Vec F S512x520 .f32) : Vec F S512x520 .f32 := withB (xst m ρ c) (qst m ρ c) (kst m ρ c) (vst m ρ c) (fst c) f
/-- and after the second part of the body: an odd device is still to compute its second batch entry. -/
def accB (c : Dev nD) (f : Vec F S512x520 .f32) : Vec F S512x520 .f32 := if half c = 0 then acc0 m ρ c else accA m ρ c f

/-- With the second batch entry stored too the accumulator is complete. -/
theorem accA_second (c : Dev nD) (f : Vec F S512x520 .f32) : withB (xst m ρ c) (qst m ρ c) (kst m ρ c) (vst m ρ c) (snd c) (accA m ρ c f) = acc0 m ρ c :=
  withB_both _ _ _ _ _ _ (fst_snd c) f

/-- The rows sent first are those of the batch entry computed first. -/
theorem rd_off1 (c : Dev nD) (f : Vec F S512x520 .f32) : rdA (k0_off1 c) S256x520.size (k0_off1_inb c) (accA m ρ c f) = rdA (k0_off1 c) S256x520.size (k0_off1_inb c) (acc0 m ρ c) := by
  funext j
  have hj : (j 0).val < 256 := (j 0).isLt
  have h : (((Rect.unit (s := S512x520) (k0_off1 c) S256x520.size (k0_off1_inb c)).emb j 0).val) = 256 * fst c + (j 0).val := by
    refine (ValueKit.rect_emb_unit_val (s := S512x520) _ _ _ _ 0).trans ?_
    exact congrArg (· + (j 0).val) (congrFun (off1_eq c) 0)
  show accA m ρ c f _ = acc0 m ρ c _
  unfold accA withB
  exact if_pos (by
    show (((Rect.unit (s := S512x520) (k0_off1 c) S256x520.size (k0_off1_inb c)).emb j 0).val) / 256 = fst c
    rw [h]; omega)

/-- What arrives in an exchange step. -/
theorem recvPay_lo (c : Dev nD) (i : Fin 12) (k : Fin 4) (hk : par i = k) (h : i.val < 4) :
    recvPay m ρ i c ⊢ iprop(∃ f, ⌜rxGood m ρ c f i⌝ ∗ rxPts k c f) := by
  subst hk
  unfold recvPay; rw [if_pos h]

section Parts
variable (h0 : (xM : Memref sig .tc .vmem S2x256x768 .bf16).IsWhole) (h1 : (qM : Memref sig .tc .vmem S768x512 .bf16).IsWhole) (h2 : (woM : Memref sig .tc .vmem S512x768 .bf16).IsWhole)
  (h3 : (kM : Memref sig .tc .vmem S2x512x2x64 .bf16).IsWhole) (h4 : (vM : Memref sig .tc .vmem S2x512x2x64 .bf16).IsWhole) (h5 : (outM : Memref sig .tc .vmem S512x768 .f32).IsWhole)
  (h6 : (accM : Memref sig .tc .vmem S512x520 .f32).IsWhole) (h7 : (txM : Memref sig .tc .vmem S480x520 .bf16).IsWhole) (h8 : (rxM : Memref sig .tc .vmem S480x520 .bf16).IsWhole)
  (h9 : (bfM : Memref sig .tc .vmem S512x768 .bf16).IsWhole)

/-- The first batch entry is computed, and the first two barrier signals are sent. -/
theorem wp_part9 (c : Dev nD) {α : Type} {Q : α → sProp 𝕄} {kp} (f : Vec F S512x520 .f32) :
    iprop(know m ρ K ∗ insS m ρ c ∗ (((c : Thread nD τ).loc cc0_scratch0) ↦{fullShare} (f)) ∗ owesE c (owB c [0, 1, 2, 3]) ∗ dutyTok ER (barCell (pt 0 c)) 0 0 ∗ dutyTok ER (barCell (pt 1 c)) 0 1 ∗ give 0 c ∗ give 1 c)
      ⊢ iprop((iprop(insS m ρ c ∗ (((c : Thread nD τ).loc cc0_scratch0) ↦{fullShare} (accA m ρ c f)) ∗ owesE c (owB c [2, 3])) -∗ wp frame (wpE (Λ := Λ₀) (defs₀ (F := F)) 𝒱₀ (c : Thread nD τ) none) Set.univ (kp ⟨c, w2 c, w13 c, w15 c, SemArray.scalar (sig.barrier 0 rfl), Scalar.xori (w2 c) 4#32, 1#32⟩) Q)
        -∗ wp frame (wpE (Λ := Λ₀) (defs₀ (F := F)) 𝒱₀ (c : Thread nD τ) none) Set.univ (k0_part9 xM h0 qM h1 woM h2 kM h3 vM h4 outM h5 accM h6 txM h7 rxM h8 bfM h9 cc0_scratch4 cc0_scratch5 >>= kp) Q) := by
  rw [part9_wp h0 h1 h2 h3 h4 h5 h6 h7 h8 h9]
  unfold insS
  iintro ⟨#HK, Hi, Ha, HO, Ht0, Ht1, Hg0, Hg1⟩ Hk
  iapply (wp_partial c (fun _ => tail9 c >>= kp) Q 𝒱₀ none (fst c) (fst_lt c) (xst m ρ c) (qst m ρ c) (kst m ρ c) (vst m ρ c) f) $$ [Hi Ha]
  · isplitl [Hi]; · iexact Hi
    iexact Ha
  iintro ⟨Hi, Ha⟩
  unfold tail9
  simp only [semSignalWord, semWaitWord, Prog.lift, Prog.bind_op, Prog.bind_ret, Prog.pure_eq_ret]
  iapply (wp_xsignal m ρ K c _ 0 (dev1_eq c) [1, 2, 3] (by decide)) $$ [HO Ht0 Hg0]
  · isplitr; · iexact HK
    isplitl [HO]; · iexact HO
    isplitl [Ht0]; · iexact Ht0
    iexact Hg0
  iintro HO
  iapply (wp_xsignal m ρ K c _ 1 (dev2_eq c) [2, 3] (by decide)) $$ [HO Ht1 Hg1]
  · isplitr; · iexact HK
    isplitl [HO]; · iexact HO
    isplitl [Ht1]; · iexact Ht1
    iexact Hg1
  iintro HO
  iapply Hk
  isplitl [Hi]; · iexact Hi
  isplitl [Ha]; · iexact Ha
  iexact HO

/-- The second part up to its branch. -/
theorem wp_head10 (c : Dev nD) {α : Type} {Q : α → sProp 𝕄} {kp} (f : Vec F S512x520 .f32) :
    iprop(know m ρ K ∗ (((c : Thread nD τ).loc cc0_scratch0) ↦{fullShare} (accA m ρ c f)) ∗ owesE c (owB c [2, 3]) ∗ dutyTok ER (barCell (pt 2 c)) 0 2 ∗ dutyTok ER (barCell (pt 3 c)) 0 3 ∗ give 2 c ∗ give 3 c
        ∗ cred (tallyAt (barCell c) () 4) ∗ atPos ER (barCell c) 0 ∅ 0 ∗ (∃ f, txPts 0 c f) ∗ gh 0 c)
      ⊢ iprop((iprop((((c : Thread nD τ).loc cc0_scratch0) ↦{fullShare} (accA m ρ c f)) ∗ owesE c (owR c [1, 2, 3, 4, 5, 9, 6, 10, 7, 11]) ∗ semVal (barCell c) 0 ∗ gs 0 c
            ∗ (lnd 7 (pt 0 c) ∗ lnd 11 (pt 0 c)) ∗ give 1 (pt 1 c) ∗ give 2 (pt 2 c) ∗ give 3 (pt 3 c)) -∗ wp frame (wpE (Λ := Λ₀) (defs₀ (F := F)) 𝒱₀ (c : Thread nD τ) none) Set.univ (kp ⟨⟩) Q)
        -∗ wp frame (wpE (Λ := Λ₀) (defs₀ (F := F)) 𝒱₀ (c : Thread nD τ) none) Set.univ (head10 h7 h8 c >>= kp) Q) := by
  unfold head10
  simp only [semSignalWord, semWaitWord, Prog.lift, Prog.bind_op, Prog.bind_ret, Prog.pure_eq_ret]
  iintro ⟨#HK, Ha, HO, Ht2, Ht3, Hg2, Hg3, Hc, Hat, Htx, Hgh⟩ Hk
  iapply (wp_xsignal m ρ K c _ 2 (dev3_eq c) [3] (by decide)) $$ [HO Ht2 Hg2]
  · isplitr; · iexact HK
    isplitl [HO]; · iexact HO
    isplitl [Ht2]; · iexact Ht2
    iexact Hg2
  iintro HO
  iapply (wp_xsignal m ρ K c _ 3 (dev4_eq c) [] (by decide)) $$ [HO Ht3 Hg3]
  · isplitr; · iexact HK
    isplitl [HO]; · iexact HO
    isplitl [Ht3]; · iexact Ht3
    iexact Hg3
  iintro HO
  iapply (wp_xbar m ρ K c (by decide)) $$ [HO Hc Hat]
  · isplitr; · iexact HK
    isplitl [HO]; · iexact HO
    isplitl [Hc]; · iexact Hc
    iexact Hat
  iintro ⟨HO, Hz, Hg0, Hg1, Hg2, Hg3⟩
  iapply (wp_load 𝒱₀ (c : Thread nD τ) none Set.univ (m := accM) (Finset.subset_univ _)) $$ Ha; iintro Ha
  have e := rd_off1 m ρ c f
  unfold rdA at e
  rw [e]
  iapply (wp_txfill c 0 (inb := inb_S480x520_S256x520_0_0) rfl rfl) $$ Htx
  iintro ⟨%ft, Htx⟩
  ihave Hg0' := (Entails.of_eq (give0_eq (pt 0 c))) $$ Hg0
  icases Hg0' with ⟨Hrx, Hl⟩
  iapply (wp_xsend_tx m ρ K c _ 0 (by decide) (dev5_eq c) [1, 2, 3, 4, 5, 9, 6, 10, 7, 11] inb_S480x520_S256x520_0_0 rfl rfl rfl rfl rfl ft (snd0 m ρ c)
      (fun f h => by show _ = snd0 m ρ (pt 0 (pt 0 c)); rw [pt_pt]; exact h)) $$ [Htx Hrx HO Hgh]
  · isplitr; · iexact HK
    isplitl [Htx]; · iexact Htx
    isplitl [Hrx]; · iexact Hrx
    isplitl [HO]; · iexact HO
    iexact Hgh
  iintro ⟨HO, Hgs⟩
  iapply Hk
  isplitl [Ha]; · iexact Ha
  isplitl [HO]; · iexact HO
  isplitl [Hz]; · iexact Hz
  isplitl [Hgs]; · iexact Hgs
  isplitl [Hl]; · iexact Hl
  isplitl [Hg1]; · iexact Hg1
  isplitl [Hg2]; · iexact Hg2
  iexact Hg3

/-- The other two signals, the wait on the barrier, and the first reduce copy; a device of even number also computes
    its second batch entry. -/
theorem wp_part10 (c : Dev nD) {α : Type} {Q : α → sProp 𝕄} {kp} (v28 c1 : BitVec 32) (f : Vec F S512x520 .f32) :
    iprop(know m ρ K ∗ insS m ρ c ∗ (((c : Thread nD τ).loc cc0_scratch0) ↦{fullShare} (accA m ρ c f)) ∗ owesE c (owB c [2, 3]) ∗ dutyTok ER (barCell (pt 2 c)) 0 2 ∗ dutyTok ER (barCell (pt 3 c)) 0 3 ∗ give 2 c ∗ give 3 c
        ∗ cred (tallyAt (barCell c) () 4) ∗ atPos ER (barCell c) 0 ∅ 0 ∗ (∃ f, txPts 0 c f) ∗ gh 0 c)
      ⊢ iprop((iprop(insS m ρ c ∗ (((c : Thread nD τ).loc cc0_scratch0) ↦{fullShare} (accB m ρ c f)) ∗ owesE c (owR c [1, 2, 3, 4, 5, 9, 6, 10, 7, 11]) ∗ semVal (barCell c) 0 ∗ gs 0 c
            ∗ (lnd 7 (pt 0 c) ∗ lnd 11 (pt 0 c)) ∗ give 1 (pt 1 c) ∗ give 2 (pt 2 c) ∗ give 3 (pt 3 c))
          -∗ wp frame (wpE (Λ := Λ₀) (defs₀ (F := F)) 𝒱₀ (c : Thread nD τ) none) Set.univ (kp ⟨Scalar.xori (w2 c) 1#32, Scalar.shli (Scalar.shrsi (w13 c) 3#32) 3#32, Scalar.extui (Scalar.xori (w15 c) 1#1), 0#32⟩) Q)
        -∗ wp frame (wpE (Λ := Λ₀) (defs₀ (F := F)) 𝒱₀ (c : Thread nD τ) none) Set.univ (k0_part10 xM h0 qM h1 woM h2 kM h3 vM h4 outM h5 accM h6 txM h7 rxM h8 bfM h9 cc0_scratch4 cc0_scratch5 c (w2 c) (w13 c) (w15 c) (SemArray.scalar (sig.barrier 0 rfl)) v28 c1 >>= kp) Q) := by
  iintro ⟨HK, Hi, Hrest⟩ Hk
  by_cases h : half c = 0
  · have e : w15 c = 1#1 := by rw [w15_eq, if_pos h]
    rw [e, flag_not_one, part10_even h0 h1 h2 h3 h4 h5 h6 h7 h8 h9]
    simp only [Prog.bind_assoc]
    iapply (wp_head10 m ρ K h7 h8 c f) $$ [HK Hrest]
    · isplitl [HK]; · iexact HK
      iexact Hrest
    iintro ⟨Ha, Hrest⟩
    unfold insS
    iapply (wp_partial c _ Q 𝒱₀ none 0 _ (xst m ρ c) (qst m ρ c) (kst m ρ c) (vst m ρ c) (accA m ρ c f)) $$ [Hi Ha]
    · isplitl [Hi]; · iexact Hi
      iexact Ha
    iintro ⟨Hi, Ha⟩
    rw [show withB (xst m ρ c) (qst m ρ c) (kst m ρ c) (vst m ρ c) 0 (accA m ρ c f) = accB m ρ c f by
      unfold accB; rw [if_pos h, ← accA_second m ρ c f]; unfold snd; rw [h]]
    iapply Hk
    isplitl [Hi]; · iexact Hi
    isplitl [Ha]; · iexact Ha
    iexact Hrest
  · have e : w15 c = 0#1 := by rw [w15_eq, if_neg h]
    rw [e, flag_not_zero, part10_odd h0 h1 h2 h3 h4 h5 h6 h7 h8 h9]
    simp only [Prog.bind_assoc]
    iapply (wp_head10 m ρ K h7 h8 c f) $$ [HK Hrest]
    · isplitl [HK]; · iexact HK
      iexact Hrest
    iintro ⟨Ha, Hrest⟩
    rw [show accA m ρ c f = accB m ρ c f by unfold accB; rw [if_neg h]]
    iapply Hk
    isplitl [Hi]; · iexact Hi
    isplitl [Ha]; · iexact Ha
    iexact Hrest

/-- The third part without its branch. -/
theorem wp_part11' (c : Dev nD) {α : Type} {Q : α → sProp 𝕄} {kp} (v2 v13 v34 v36 : BitVec 32) :
    iprop(know m ρ K ∗ (((c : Thread nD τ).loc cc0_scratch0) ↦{fullShare} (acc0 m ρ c)) ∗ owesE c (owR c [1, 2, 3, 4, 5, 9, 6, 10, 7, 11]) ∗ gs 0 c ∗ (∃ f, txPts 1 c f))
      ⊢ iprop((iprop((((c : Thread nD τ).loc cc0_scratch0) ↦{fullShare} (acc1 m ρ c)) ∗ owesE c (owR c [1, 2, 3, 4, 5, 9, 6, 10, 7, 11]) ∗ gr 0 c ∗ (∃ f, rxPts 0 c f)
            ∗ (∃ f, txPts 1 c ((txM.access (Rect.unit (s := S480x520) ![256, 0] S128x520.size inb_S480x520_S128x520_256_0)).write (Elt F) f (snd1 m ρ c) Finset.univ)))
          -∗ wp frame (wpE (Λ := Λ₀) (defs₀ (F := F)) 𝒱₀ (c : Thread nD τ) none) Set.univ (kp ⟨Scalar.xori v2 2#32, Scalar.shli (Scalar.shrsi v13 2#32) 2#32, Scalar.muli (Scalar.xori v2 2#32) 1#32, 0#32⟩) Q)
        -∗ wp frame (wpE (Λ := Λ₀) (defs₀ (F := F)) 𝒱₀ (c : Thread nD τ) none) Set.univ (k0_part11 xM h0 qM h1 woM h2 kM h3 vM h4 outM h5 accM h6 txM h7 rxM h8 bfM h9 cc0_scratch4 cc0_scratch5 c v2 v13 v34 v36 (Scalar.extui (0#1)) 0#32 >>= kp) Q) := by
  rw [k0_part11_eq_skeleton]
  unfold k0_part11_skel
  simp only [semSignalWord, semWaitWord, Prog.lift, Prog.bind_op, Prog.bind_ret, Prog.pure_eq_ret]
  rw [dif_neg flag_zero]
  simp only [semSignalWord, semWaitWord, Prog.lift, Prog.bind_op, Prog.bind_ret, Prog.pure_eq_ret]
  iintro ⟨#HK, Ha, HO, Hgs, Htx⟩ Hk
  iapply (wp_xrecv m ρ K c 0 (by decide) [1, 2, 3, 4, 5, 9, 6, 10, 7, 11] (by decide) rfl rfl) $$ [HO Hgs]
  · isplitr; · iexact HK
    isplitl [HO]; · iexact HO
    iexact Hgs
  iintro ⟨HO, Hgr, Hp⟩
  ihave Hp := (recvPay_lo m ρ c 0 0 (by decide) (by decide)) $$ Hp
  icases Hp with ⟨%fr, %hfr, Hrx⟩
  iapply (wp_load 𝒱₀ (c : Thread nD τ) none Set.univ (m := accM) (Finset.subset_univ _)) $$ Ha; iintro Ha
  iapply (wp_rxload c 0 (inb := inb_S480x520_S256x520_0_0) rfl rfl fr) $$ Hrx; iintro Hrx
  rw [show rxM.view.readAt (Elt F) (Rect.unit (s := S480x520) ![0, 0] S256x520.size inb_S480x520_S256x520_0_0).toLoadRect fr = snd0 m ρ (pt 0 c) from hfr]
  iapply (wp_load 𝒱₀ (c : Thread nD τ) none Set.univ (m := accM) (Finset.subset_univ _)) $$ Ha; iintro Ha
  iapply (wp_accstore c) $$ Ha; iintro Ha
  iapply (wp_load 𝒱₀ (c : Thread nD τ) none Set.univ (m := accM) (Finset.subset_univ _)) $$ Ha; iintro Ha
  iapply (wp_txfill c 1 (inb := inb_S480x520_S128x520_256_0) rfl rfl) $$ Htx
  iintro Htx
  iapply Hk
  isplitl [Ha]; · iexact Ha
  isplitl [HO]; · iexact HO
  isplitl [Hgr]; · iexact Hgr
  isplitl [Hrx]; · iexists fr; iexact Hrx
  iexact Htx

/-- A device of odd number computes its second batch entry; the arrival of step 0 is added, and the rows for step 1
    are put into the send buffer. -/
theorem wp_part11 (c : Dev nD) {α : Type} {Q : α → sProp 𝕄} {kp} (v2 v13 v34 v36 : BitVec 32) (f : Vec F S512x520 .f32) :
    iprop(know m ρ K ∗ insS m ρ c ∗ (((c : Thread nD τ).loc cc0_scratch0) ↦{fullShare} (accB m ρ c f)) ∗ owesE c (owR c [1, 2, 3, 4, 5, 9, 6, 10, 7, 11]) ∗ gs 0 c ∗ (∃ f, txPts 1 c f))
      ⊢ iprop((iprop(insS m ρ c ∗ (((c : Thread nD τ).loc cc0_scratch0) ↦{fullShare} (acc1 m ρ c)) ∗ owesE c (owR c [1, 2, 3, 4, 5, 9, 6, 10, 7, 11]) ∗ gr 0 c ∗ (∃ f, rxPts 0 c f)
            ∗ (∃ f, txPts 1 c ((txM.access (Rect.unit (s := S480x520) ![256, 0] S128x520.size inb_S480x520_S128x520_256_0)).write (Elt F) f (snd1 m ρ c) Finset.univ)))
          -∗ wp frame (wpE (Λ := Λ₀) (defs₀ (F := F)) 𝒱₀ (c : Thread nD τ) none) Set.univ (kp ⟨Scalar.xori v2 2#32, Scalar.shli (Scalar.shrsi v13 2#32) 2#32, Scalar.muli (Scalar.xori v2 2#32) 1#32, 0#32⟩) Q)
        -∗ wp frame (wpE (Λ := Λ₀) (defs₀ (F := F)) 𝒱₀ (c : Thread nD τ) none) Set.univ (k0_part11 xM h0 qM h1 woM h2 kM h3 vM h4 outM h5 accM h6 txM h7 rxM h8 bfM h9 cc0_scratch4 cc0_scratch5 c v2 v13 v34 v36 (Scalar.extui (Scalar.xori (w15 c) 1#1)) 0#32 >>= kp) Q) := by
  iintro ⟨HK, Hi, Ha, Hrest⟩ Hk
  by_cases h : half c = 0
  · have e : w15 c = 1#1 := by rw [w15_eq, if_pos h]
    rw [e, flag_not_one, show accB m ρ c f = acc0 m ρ c by unfold accB; rw [if_pos h]]
    iapply (wp_part11' m ρ K h0 h1 h2 h3 h4 h5 h6 h7 h8 h9 c v2 v13 v34 v36) $$ [HK Ha Hrest]
    · isplitl [HK]; · iexact HK
      isplitl [Ha]; · iexact Ha
      iexact Hrest
    iintro H
    iapply Hk
    isplitl [Hi]; · iexact Hi
    iexact H
  · have e : w15 c = 0#1 := by rw [w15_eq, if_neg h]
    rw [e, flag_not_zero, part11_odd h0 h1 h2 h3 h4 h5 h6 h7 h8 h9, show accB m ρ c f = accA m ρ c f by unfold accB; rw [if_neg h]]
    simp only [Prog.bind_assoc]
    unfold insS
    iapply (wp_partial c _ Q 𝒱₀ none 1 _ (xst m ρ c) (qst m ρ c) (kst m ρ c) (vst m ρ c) (accA m ρ c f)) $$ [Hi Ha]
    · isplitl [Hi]; · iexact Hi
      iexact Ha
    iintro ⟨Hi, Ha⟩
    rw [show withB (xst m ρ c) (qst m ρ c) (kst m ρ c) (vst m ρ c) 1 (accA m ρ c f) = acc0 m ρ c by
      rw [← accA_second m ρ c f]; have := half_lt c; congr 1; unfold snd; omega]
    iapply (wp_part11' m ρ K h0 h1 h2 h3 h4 h5 h6 h7 h8 h9 c v2 v13 v34 v36) $$ [HK Ha Hrest]
    · isplitl [HK]; · iexact HK
      isplitl [Ha]; · iexact Ha
      iexact Hrest
    iintro H
    iapply Hk
    isplitl [Hi]; · iexact Hi
    iexact H

/-- Step 1: the copy is started, its arrival waited for and added. -/
theorem wp_part12 (c : Dev nD) {α : Type} {Q : α → sProp 𝕄} {kp} (v2 v13 v75 v77 v86 c0 : BitVec 32) :
    iprop(know m ρ K ∗ (((c : Thread nD τ).loc cc0_scratch0) ↦{fullShare} (acc1 m ρ c)) ∗ owesE c (owR c [1, 2, 3, 4, 5, 9, 6, 10, 7, 11]) ∗ gh 1 c
        ∗ (∃ f, txPts 1 c ((txM.access (Rect.unit (s := S480x520) ![256, 0] S128x520.size inb_S480x520_S128x520_256_0)).write (Elt F) f (snd1 m ρ c) Finset.univ)) ∗ (∃ f, rxPts 1 (pt 1 c) f))
      ⊢ iprop((iprop((((c : Thread nD τ).loc cc0_scratch0) ↦{fullShare} (acc2 m ρ c)) ∗ owesE c (owR c [2, 3, 4, 5, 9, 6, 10, 7, 11]) ∗ gr 1 c ∗ (∃ f, rxPts 1 c f))
          -∗ wp frame (wpE (Λ := Λ₀) (defs₀ (F := F)) 𝒱₀ (c : Thread nD τ) none) Set.univ (kp ⟨Scalar.xori v2 4#32, Scalar.shli (Scalar.shrsi v13 1#32) 1#32, k0_pay113 (rdA (k0_off5 c) S64x520.size (k0_off5_inb c) (acc2 m ρ c))⟩) Q)
        -∗ wp frame (wpE (Λ := Λ₀) (defs₀ (F := F)) 𝒱₀ (c : Thread nD τ) none) Set.univ (k0_part12 xM h0 qM h1 woM h2 kM h3 vM h4 outM h5 accM h6 txM h7 rxM h8 bfM h9 cc0_scratch4 cc0_scratch5 c v2 v13 v75 v77 v86 c0 >>= kp) Q) := by
  rw [k0_part12_eq_skeleton]
  unfold k0_part12_skel
  simp only [semSignalWord, semWaitWord, Prog.lift, Prog.bind_op, Prog.bind_ret, Prog.pure_eq_ret]
  iintro ⟨#HK, Ha, HO, Hgh, ⟨%ft, Htx⟩, Hrx⟩ Hk
  iapply (wp_xsend_tx m ρ K c _ 1 (by decide) (dev6_eq c) [2, 3, 4, 5, 9, 6, 10, 7, 11] inb_S480x520_S128x520_256_0 rfl rfl rfl rfl rfl ft (snd1 m ρ c)
      (fun f h => by show _ = snd1 m ρ (pt 1 (pt 1 c)); rw [pt_pt]; exact h)) $$ [Htx Hrx HO Hgh]
  · isplitr; · iexact HK
    isplitl [Htx]; · iexact Htx
    isplitl [Hrx]; · iexact Hrx
    isplitl [HO]; · iexact HO
    iexact Hgh
  iintro ⟨HO, Hgs⟩
  iapply (wp_xrecv m ρ K c 1 (by decide) [2, 3, 4, 5, 9, 6, 10, 7, 11] (by decide) rfl rfl) $$ [HO Hgs]
  · isplitr; · iexact HK
    isplitl [HO]; · iexact HO
    iexact Hgs
  iintro ⟨HO, Hgr, Hp⟩
  ihave Hp := (recvPay_lo m ρ c 1 1 (by decide) (by decide)) $$ Hp
  icases Hp with ⟨%fr, %hfr, Hrx⟩
  iapply (wp_load 𝒱₀ (c : Thread nD τ) none Set.univ (m := accM) (Finset.subset_univ _)) $$ Ha; iintro Ha
  iapply (wp_rxload c 1 (inb := inb_S480x520_S128x520_256_0) rfl rfl fr) $$ Hrx; iintro Hrx
  rw [show rxM.view.readAt (Elt F) (Rect.unit (s := S480x520) ![256, 0] S128x520.size inb_S480x520_S128x520_256_0).toLoadRect fr = snd1 m ρ (pt 1 c) from hfr]
  iapply (wp_load 𝒱₀ (c : Thread nD τ) none Set.univ (m := accM) (Finset.subset_univ _)) $$ Ha; iintro Ha
  iapply (wp_accstore c) $$ Ha; iintro Ha
  iapply (wp_load 𝒱₀ (c : Thread nD τ) none Set.univ (m := accM) (Finset.subset_univ _)) $$ Ha; iintro Ha
  iapply Hk
  isplitl [Ha]; · iexact Ha
  isplitl [HO]; · iexact HO
  isplitl [Hgr]; · iexact Hgr
  iexists fr; iexact Hrx

/-- Step 2: the copy is started, its arrival waited for and added. -/
theorem wp_part13 (c : Dev nD) {α : Type} {Q : α → sProp 𝕄} {kp} (v2 v13 v111 v113 : BitVec 32) :
    iprop(know m ρ K ∗ (((c : Thread nD τ).loc cc0_scratch0) ↦{fullShare} (acc2 m ρ c)) ∗ owesE c (owR c [2, 3, 4, 5, 9, 6, 10, 7, 11]) ∗ gh 2 c ∗ (∃ f, txPts 2 c f) ∗ (∃ f, rxPts 2 (pt 2 c) f))
      ⊢ iprop((iprop((((c : Thread nD τ).loc cc0_scratch0) ↦{fullShare} (acc3 m ρ c)) ∗ owesE c (owR c [3, 4, 5, 9, 6, 10, 7, 11]) ∗ gr 2 c ∗ (∃ f, rxPts 2 c f)) -∗ wp frame (wpE (Λ := Λ₀) (defs₀ (F := F)) 𝒱₀ (c : Thread nD τ) none) Set.univ (kp ⟨Scalar.xori v2 8#32, Scalar.shrsi v13 0#32, 0#32⟩) Q)
        -∗ wp frame (wpE (Λ := Λ₀) (defs₀ (F := F)) 𝒱₀ (c : Thread nD τ) none) Set.univ (k0_part13 xM h0 qM h1 woM h2 kM h3 vM h4 outM h5 accM h6 txM h7 rxM h8 bfM h9 cc0_scratch4 cc0_scratch5 c v2 v13 v111 v113 (k0_pay113 (rdA (k0_off5 c) S64x520.size (k0_off5_inb c) (acc2 m ρ c))) >>= kp) Q) := by
  rw [k0_part13_eq_skeleton]
  unfold k0_part13_skel
  simp only [semSignalWord, semWaitWord, Prog.lift, Prog.bind_op, Prog.bind_ret, Prog.pure_eq_ret]
  iintro ⟨#HK, Ha, HO, Hgh, Htx, Hrx⟩ Hk
  iapply (wp_txfill c 2 (inb := inb_S480x520_S64x520_384_0) rfl rfl) $$ Htx
  iintro ⟨%ft, Htx⟩
  iapply (wp_xsend_tx m ρ K c _ 2 (by decide) (dev7_eq c) [3, 4, 5, 9, 6, 10, 7, 11] inb_S480x520_S64x520_384_0 rfl rfl rfl rfl rfl ft (snd2 m ρ c)
      (fun f h => by show _ = snd2 m ρ (pt 2 (pt 2 c)); rw [pt_pt]; exact h)) $$ [Htx Hrx HO Hgh]
  · isplitr; · iexact HK
    isplitl [Htx]; · iexact Htx
    isplitl [Hrx]; · iexact Hrx
    isplitl [HO]; · iexact HO
    iexact Hgh
  iintro ⟨HO, Hgs⟩
  iapply (wp_xrecv m ρ K c 2 (by decide) [3, 4, 5, 9, 6, 10, 7, 11] (by decide) rfl rfl) $$ [HO Hgs]
  · isplitr; · iexact HK
    isplitl [HO]; · iexact HO
    iexact Hgs
  iintro ⟨HO, Hgr, Hp⟩
  ihave Hp := (recvPay_lo m ρ c 2 2 (by decide) (by decide)) $$ Hp
  icases Hp with ⟨%fr, %hfr, Hrx⟩
  iapply (wp_load 𝒱₀ (c : Thread nD τ) none Set.univ (m := accM) (Finset.subset_univ _)) $$ Ha; iintro Ha
  iapply (wp_rxload c 2 (inb := inb_S480x520_S64x520_384_0) rfl rfl fr) $$ Hrx; iintro Hrx
  rw [show rxM.view.readAt (Elt F) (Rect.unit (s := S480x520) ![384, 0] S64x520.size inb_S480x520_S64x520_384_0).toLoadRect fr = snd2 m ρ (pt 2 c) from hfr]
  iapply (wp_load 𝒱₀ (c : Thread nD τ) none Set.univ (m := accM) (Finset.subset_univ _)) $$ Ha; iintro Ha
  iapply (wp_accstore c) $$ Ha; iintro Ha
  iapply Hk
  isplitl [Ha]; · iexact Ha
  isplitl [HO]; · iexact HO
  isplitl [Hgr]; · iexact Hgr
  iexists fr; iexact Hrx

/-- Step 3: the copy is started and its arrival waited for. -/
theorem wp_part14 (c : Dev nD) {α : Type} {Q : α → sProp 𝕄} {kp} (v147 v148 c0 : BitVec 32) :
    iprop(know m ρ K ∗ (((c : Thread nD τ).loc cc0_scratch0) ↦{fullShare} (acc3 m ρ c)) ∗ owesE c (owR c [3, 4, 5, 9, 6, 10, 7, 11]) ∗ gh 3 c ∗ (∃ f, txPts 3 c f) ∗ (∃ f, rxPts 3 (pt 3 c) f))
      ⊢ iprop((iprop((((c : Thread nD τ).loc cc0_scratch0) ↦{fullShare} (acc3 m ρ c)) ∗ owesE c (owR c [4, 5, 9, 6, 10, 7, 11]) ∗ gr 3 c ∗ (∃ f, rxPts 3 c f))
          -∗ wp frame (wpE (Λ := Λ₀) (defs₀ (F := F)) 𝒱₀ (c : Thread nD τ) none) Set.univ (kp (k0_pay117 (rdA (k0_off8 c) S32x520.size (k0_off8_inb c) (acc3 m ρ c)) (snd3 m ρ (pt 3 c)))) Q)
        -∗ wp frame (wpE (Λ := Λ₀) (defs₀ (F := F)) 𝒱₀ (c : Thread nD τ) none) Set.univ (k0_part14 xM h0 qM h1 woM h2 kM h3 vM h4 outM h5 accM h6 txM h7 rxM h8 bfM h9 cc0_scratch4 cc0_scratch5 c v147 v148 c0 >>= kp) Q) := by
  rw [k0_part14_eq_skeleton]
  unfold k0_part14_skel
  simp only [semSignalWord, semWaitWord, Prog.lift, Prog.bind_op, Prog.bind_ret, Prog.pure_eq_ret]
  iintro ⟨#HK, Ha, HO, Hgh, Htx, Hrx⟩ Hk
  iapply (wp_load 𝒱₀ (c : Thread nD τ) none Set.univ (m := accM) (Finset.subset_univ _)) $$ Ha; iintro Ha
  iapply (wp_txfill c 3 (inb := inb_S480x520_S32x520_448_0) rfl rfl) $$ Htx
  iintro ⟨%ft, Htx⟩
  iapply (wp_xsend_tx m ρ K c _ 3 (by decide) (dev8_eq c) [4, 5, 9, 6, 10, 7, 11] inb_S480x520_S32x520_448_0 rfl rfl rfl rfl rfl ft (snd3 m ρ c)
      (fun f h => by show _ = snd3 m ρ (pt 3 (pt 3 c)); rw [pt_pt]; exact h)) $$ [Htx Hrx HO Hgh]
  · isplitr; · iexact HK
    isplitl [Htx]; · iexact Htx
    isplitl [Hrx]; · iexact Hrx
    isplitl [HO]; · iexact HO
    iexact Hgh
  iintro ⟨HO, Hgs⟩
  iapply (wp_xrecv m ρ K c 3 (by decide) [4, 5, 9, 6, 10, 7, 11] (by decide) rfl rfl) $$ [HO Hgs]
  · isplitr; · iexact HK
    isplitl [HO]; · iexact HO
    iexact Hgs
  iintro ⟨HO, Hgr, Hp⟩
  ihave Hp := (recvPay_lo m ρ c 3 3 (by decide) (by decide)) $$ Hp
  icases Hp with ⟨%fr, %hfr, Hrx⟩
  iapply (wp_load 𝒱₀ (c : Thread nD τ) none Set.univ (m := accM) (Finset.subset_univ _)) $$ Ha; iintro Ha
  iapply (wp_rxload c 3 (inb := inb_S480x520_S32x520_448_0) rfl rfl fr) $$ Hrx; iintro Hrx
  rw [show rxM.view.readAt (Elt F) (Rect.unit (s := S480x520) ![448, 0] S32x520.size inb_S480x520_S32x520_448_0).toLoadRect fr = snd3 m ρ (pt 3 c) from hfr]
  iapply Hk
  isplitl [Ha]; · iexact Ha
  isplitl [HO]; · iexact HO
  isplitl [Hgr]; · iexact Hgr
  iexists fr; iexact Hrx

end Parts

end Cert.KernelIdealProof
-- ==== Proof.KernelIdealGather.lean ====
/- The second half of the body: the finished block, the exchange steps that spread all blocks, the result, the last waits. -/
module

public import proofs.«01_k».proof.Proof.KernelIdealReduce

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 25 → ℕ)

/-! ## Windows of the block buffer at shares -/

/-- Two zero offsets are the zero offset. -/
theorem hz2 : (![0, 0] : Fin 2 → Nat) = fun _ => 0 := funext fun a => by fin_cases a <;> rfl

/-- Storing the finished block leaves it in the device's own rows, -/
theorem own_stored (c : Dev nD) (f : Vec F S512x768 .bf16) (i : S512x768.Idx) (hi : i ∈ rows {pos c}) :
    (bfM.access (Rect.unit (s := S512x768) (k0_off10 c) S32x768.size (k0_off10_inb c))).write (Elt F) f (fin m ρ c) Finset.univ i = out m ρ i := by
  have hs : ((View.whole cc0_scratch3).slice (Rect.unit (s := S512x768) (k0_off10 c) S32x768.size (k0_off10_inb c))).set = rows {pos c} := by
    refine (slice_rows (n := 1) (k0_off10_inb c) (off10_eq c) rfl).trans ?_
    congr 1; ext b; simp only [Finset.mem_filter, Finset.mem_univ, true_and, Finset.mem_singleton, Fin.ext_iff]; omega
  have hi' := hi
  rw [← hs] at hi'
  obtain ⟨j, -, rfl⟩ := Finset.mem_map.mp hi'
  refine (View.write_emb_of_mem (v := (bfM.access (Rect.unit (s := S512x768) (k0_off10 c) S32x768.size (k0_off10_inb c)))) f (fin m ρ c) (Finset.mem_univ j)).trans ?_
  have hb := Finset.mem_singleton.mp (mem_rows.mp hi)
  show fin m ρ c j = fin m ρ (ofPos (blk _)) _
  rw [hb, ofPos_pos]
  congr 1
  funext a
  have e0 := (ValueKit.rect_emb_unit_val (s := S512x768) (k0_off10 c) S32x768.size (k0_off10_inb c) j 0).trans (congrArg (· + (j 0).val) (congrFun (off10_eq c) 0))
  have e1 := (ValueKit.rect_emb_unit_val (s := S512x768) (k0_off10 c) S32x768.size (k0_off10_inb c) j 1).trans (congrArg (· + (j 1).val) (congrFun (off10_eq c) 1))
  have hj : (j 0).val < 32 := (j 0).isLt
  refine Fin.cases ?_ (fun a => ?_) a
  · refine Fin.ext ?_
    show (j 0).val = (((Rect.unit (s := S512x768) (k0_off10 c) S32x768.size (k0_off10_inb c)).emb j 0).val) % 32
    rw [e0]
    show (j 0).val = (32 * (pos c).val + (j 0).val) % 32
    omega
  · have ha : a = 0 := Subsingleton.elim _ _
    subst ha
    refine Fin.ext ?_
    show (j 1).val = (((Rect.unit (s := S512x768) (k0_off10 c) S32x768.size (k0_off10_inb c)).emb j 1).val)
    rw [e1]
    exact (Nat.zero_add _).symm

/-- The store of the device's own block covers that block's rows. -/
theorem own_set (c : Dev nD) : (bfM.access (Rect.unit (s := S512x768) (k0_off10 c) S32x768.size (k0_off10_inb c))).set = rows {pos c} := by
  refine (slice_rows (n := 1) (k0_off10_inb c) (off10_eq c) rfl).trans ?_
  congr 1; ext b; simp only [Finset.mem_filter, Finset.mem_univ, true_and, Finset.mem_singleton, Fin.ext_iff]; omega

/-- A store to the whole output replaces it. -/
theorem out_whole (f w : Vec F S512x768 .f32) :
    (outM.access (Rect.unit (s := S512x768) ![0, 0] S512x768.size inb_S512x768_S512x768_0_0)).write (Elt F) f w Finset.univ = w :=
  Memref.write_access_unit_zero_univ (Elt F) cc0_stg5_0 hz2 _ f w
/-- A load of the whole publication buffer reads it. -/
theorem bf_whole (f : Vec F S512x768 .bf16) : bfM.view.readAt (Elt F) (Rect.unit (s := S512x768) ![0, 0] S512x768.size inb_S512x768_S512x768_0_0).toLoadRect f = f :=
  Memref.readAt_unit_zero (Elt F) cc0_scratch3 hz2 _ f

/-- One share down: the rest and the half that is kept for step `j`. -/
theorem peel (B : Finset (Fin 16)) (j : ℕ) (c : Dev nD) : bfPts B (sl j) c (out m ρ) ⊢ iprop(bfPts B (sl (j + 1)) c (out m ρ) ∗ bfPts B (sr j) c (out m ρ)) := (bf_share B j c _).1
/-- A share lent to a copy, put back. -/
theorem unpeel (B : Finset (Fin 16)) (j : ℕ) (c : Dev nD) : iprop(bfPts B (sl (j + 1)) c (out m ρ) ∗ bfPts B (sr j) c (out m ρ)) ⊢ bfPts B (sl j) c (out m ρ) := (bf_share B j c _).2

/-- Two neighbouring windows make one. -/
theorem glue {A B D : Finset (Fin 16)} (hD : D = A ∪ B) (h : Disjoint A B) (q) (c : Dev nD) (f : Vec F S512x768 .bf16) :
    iprop(bfPts A q c f ∗ bfPts B q c f) ⊢ bfPts D q c f := by subst hD; exact (bf_union h q c f).2

/-- The last step's two windows and what arrived last are the whole buffer. -/
theorem glue7 (q) (c : Dev nD) (f : Vec F S512x768 .bf16) : iprop(bfPts (win 7 c) q c f ∗ bfPts (win 11 c) q c f ∗ bfPts (last c) q c f) ⊢ bfPts Finset.univ q c f := by
  iintro ⟨Ha, Hb, Hl⟩
  ihave Hm := (glue (D := most c) rfl (most_disj c) q c f) $$ [Ha Hb]
  · isplitl [Ha]; · iexact Ha
    iexact Hb
  iapply (glue (all_eq c).symm (all_disj c) q c f)
  isplitl [Hm]; · iexact Hm
  iexact Hl
/-- The same, with the first of the two windows still in its two parts. -/
theorem glue6 (q) (c : Dev nD) (f : Vec F S512x768 .bf16) :
    iprop(bfPts (win 6 c) q c f ∗ bfPts (win 10 c) q c f ∗ bfPts (win 11 c) q c f ∗ bfPts (last c) q c f) ⊢ bfPts Finset.univ q c f := by
  iintro ⟨Ha, Hb, Hr⟩
  ihave Hm := (glue (win7 c) (win7_disj c) q c f) $$ [Ha Hb]
  · isplitl [Ha]; · iexact Ha
    iexact Hb
  iapply (glue7 q c f)
  isplitl [Hm]; · iexact Hm
  iexact Hr
/-- The same, with the device's own block and the first arrival still apart. -/
theorem glue4 (q) (c : Dev nD) (f : Vec F S512x768 .bf16) :
    iprop(bfPts {pos c} q c f ∗ bfPts (rwin 4 c) q c f ∗ bfPts (win 10 c) q c f ∗ bfPts (win 11 c) q c f ∗ bfPts (last c) q c f) ⊢ bfPts Finset.univ q c f := by
  iintro ⟨Ha, Hb, Hr⟩
  ihave Hm := (glue (win6 c) (win6_disj c) q c f) $$ [Ha Hb]
  · isplitl [Ha]; · iexact Ha
    iexact Hb
  iapply (glue6 q c f)
  isplitl [Hm]; · iexact Hm
  iexact Hr

/-- The halves not lent out by the end. -/
def spare (c : Dev nD) : sProp 𝕄 :=
  iprop((bfPts (rwin 4 c) (sr 3) c (out m ρ) ∗ bfPts (win 10 c) (sr 3) c (out m ρ) ∗ bfPts (win 11 c) (sr 3) c (out m ρ) ∗ bfPts (last c) (sr 3) c (out m ρ)) ∗ (bfPts (win 10 c) (sr 2) c (out m ρ) ∗ bfPts (win 11 c) (sr 2) c (out m ρ) ∗ bfPts (last c) (sr 2) c (out m ρ))
    ∗ (bfPts (win 11 c) (sr 1) c (out m ρ) ∗ bfPts (last c) (sr 1) c (out m ρ)) ∗ bfPts (last c) (sr 0) c (out m ρ))

/-- All windows at the smallest share are the whole buffer at it. -/
theorem level (c : Dev nD) : iprop(bfPts ({pos c}) (sl 4) c (out m ρ) ∗ bfPts (rwin 4 c) (sl 3) c (out m ρ) ∗ bfPts (win 10 c) (sl 2) c (out m ρ) ∗ bfPts (win 11 c) (sl 1) c (out m ρ) ∗ bfPts (last c) (sl 0) c (out m ρ)) ⊢ iprop(bfPts (Finset.univ) (sl 4) c (out m ρ) ∗ spare m ρ c) := by
  unfold spare
  iintro ⟨H0, H1, H2, H3, H4⟩
  ihave Ha := (peel m ρ (rwin 4 c) 3 c) $$ H1
  icases Ha with ⟨H1, A3⟩
  ihave Ha := (peel m ρ (win 10 c) 2 c) $$ H2
  icases Ha with ⟨H2, B2⟩
  ihave Ha := (peel m ρ (win 10 c) 3 c) $$ H2
  icases Ha with ⟨H2, B3⟩
  ihave Ha := (peel m ρ (win 11 c) 1 c) $$ H3
  icases Ha with ⟨H3, C1⟩
  ihave Ha := (peel m ρ (win 11 c) 2 c) $$ H3
  icases Ha with ⟨H3, C2⟩
  ihave Ha := (peel m ρ (win 11 c) 3 c) $$ H3
  icases Ha with ⟨H3, C3⟩
  ihave Ha := (peel m ρ (last c) 0 c) $$ H4
  icases Ha with ⟨H4, D0⟩
  ihave Ha := (peel m ρ (last c) 1 c) $$ H4
  icases Ha with ⟨H4, D1⟩
  ihave Ha := (peel m ρ (last c) 2 c) $$ H4
  icases Ha with ⟨H4, D2⟩
  ihave Ha := (peel m ρ (last c) 3 c) $$ H4
  icases Ha with ⟨H4, D3⟩
  isplitl [H0 H1 H2 H3 H4]
  · iapply (glue4 (sl 4) c (out m ρ))
    isplitl [H0]; · iexact H0
    isplitl [H1]; · iexact H1
    isplitl [H2]; · iexact H2
    isplitl [H3]; · iexact H3
    iexact H4
  isplitl [A3 B3 C3 D3]
  · isplitl [A3]; · iexact A3
    isplitl [B3]; · iexact B3
    isplitl [C3]; · iexact C3
    iexact D3
  isplitl [B2 C2 D2]
  · isplitl [B2]; · iexact B2
    isplitl [C2]; · iexact C2
    iexact D2
  isplitl [C1 D1]
  · isplitl [C1]; · iexact C1
    iexact D1
  iexact D0

/-- With the lent halves back the buffer is whole again. -/
theorem regain (c : Dev nD) : iprop(bfPts (Finset.univ) (sl 4) c (out m ρ) ∗ spare m ρ c ∗ bfPts ({pos c}) (sr 3) c (out m ρ) ∗ (bfPts ({pos c}) (sr 2) c (out m ρ) ∗ bfPts (rwin 4 c) (sr 2) c (out m ρ)) ∗ (bfPts (win 6 c) (sr 1) c (out m ρ) ∗ bfPts (win 10 c) (sr 1) c (out m ρ)) ∗ (bfPts (win 7 c) (sr 0) c (out m ρ) ∗ bfPts (win 11 c) (sr 0) c (out m ρ)))
    ⊢ bfPts Finset.univ fullShare c (out m ρ) := by
  unfold spare
  iintro ⟨H, ⟨⟨A3, B3, C3, D3⟩, ⟨B2, C2, D2⟩, ⟨C1, D1⟩, D0⟩, P3, ⟨P2, A2⟩, ⟨Q1, B1⟩, ⟨Q0, C0⟩⟩
  ihave X := (glue4 (sr 3) c (out m ρ)) $$ [P3 A3 B3 C3 D3]
  · isplitl [P3]; · iexact P3
    isplitl [A3]; · iexact A3
    isplitl [B3]; · iexact B3
    isplitl [C3]; · iexact C3
    iexact D3
  ihave H := (unpeel m ρ Finset.univ 3 c) $$ [H X]
  · isplitl [H]; · iexact H
    iexact X
  ihave X := (glue4 (sr 2) c (out m ρ)) $$ [P2 A2 B2 C2 D2]
  · isplitl [P2]; · iexact P2
    isplitl [A2]; · iexact A2
    isplitl [B2]; · iexact B2
    isplitl [C2]; · iexact C2
    iexact D2
  ihave H := (unpeel m ρ Finset.univ 2 c) $$ [H X]
  · isplitl [H]; · iexact H
    iexact X
  ihave X := (glue6 (sr 1) c (out m ρ)) $$ [Q1 B1 C1 D1]
  · isplitl [Q1]; · iexact Q1
    isplitl [B1]; · iexact B1
    isplitl [C1]; · iexact C1
    iexact D1
  ihave H := (unpeel m ρ Finset.univ 1 c) $$ [H X]
  · isplitl [H]; · iexact H
    iexact X
  ihave X := (glue7 (sr 0) c (out m ρ)) $$ [Q0 C0 D0]
  · isplitl [Q0]; · iexact Q0
    isplitl [C0]; · iexact C0
    iexact D0
  iapply (unpeel m ρ Finset.univ 0 c)
  isplitl [H]; · iexact H
  iexact X

/-! ## Sends and waits of blocks -/

/-- A transfer of a window at the share kept for its step. -/
theorem wp_bsend (c n : Dev nD) (i : Fin 12) (k : Fin 4) (hk : par i = k) (j : ℕ) (hj : k.val = j) (B : Finset (Fin 16)) (hB : win i c = B) (hi : 4 ≤ i.val) (h8 : i ≠ 8)
    (hn : n = pt k c) (l : List (Fin 12)) {off sz : Fin 2 → ℕ} (inb : ∀ a, off a + sz a ≤ S512x768.size a)
    (hset : ((View.whole cc0_scratch3).slice (Rect.unit (s := S512x768) off sz inb)).set = rows (win i c))
    (hN : RefSig.tileCredit ⟨2, sz⟩ .bf16 = N i) {hu hu'} {qs qr : DmaSem sig} (hqs : qs = sS i) (hqr : qr = rS i) {hsc} {hsrc} {hdst}
    {hsem : DmaTarget.Typed .vmem (.dma qr) (.remote (Dev.tc n : Thread nD τ) (bfM.slice (Rect.unit (s := S512x768) off sz inb) hu') (.dma qs) hsc)}
    {α : Type} {Q : α → sProp 𝕄} {kp : PUnit → Prog (TpuEff nD τ sig (Elt F) Λ₀ .tc) α} :
    iprop(know m ρ K ∗ bfPts B (sr j) c (out m ρ) ∗ lnd i (pt k c) ∗ owesE c (owR c (i :: l)) ∗ gh i c)
      ⊢ iprop((iprop(owesE c (owR c l) ∗ gs i c) -∗ wp frame (wpE (Λ := Λ₀) (defs₀ (F := F)) 𝒱₀ (c : Thread nD τ) none) Set.univ (kp ⟨⟩) Q)
        -∗ wp frame (wpE (Λ := Λ₀) (defs₀ (F := F)) 𝒱₀ (c : Thread nD τ) none) Set.univ (.op (.enqueueDma (bfM.slice (Rect.unit (s := S512x768) off sz inb) hu) (.remote (Dev.tc n : Thread nD τ) (bfM.slice (Rect.unit (s := S512x768) off sz inb) hu') (.dma qs) hsc) (.dma qr) hsrc hdst hsem) kp) Q) := by
  subst hk hB hj
  exact wp_xsend_bf m ρ K c n i hi h8 hn l inb hset hN hqs hqr

/-- What arrives in a transfer of blocks, and what comes back when a transfer is done. -/
theorem recvPay_hi (c : Dev nD) (i : Fin 12) (h : ¬i.val < 4) : recvPay m ρ i c ⊢ bfPts (rwin i c) (sl 0) c (out m ρ) := by
  unfold recvPay; rw [if_neg h]; exact BI.Entails.refl _
/-- What a finished reduce copy gives back: its band of the send buffer. -/
theorem sendPay_lo (c : Dev nD) (i : Fin 12) (k : Fin 4) (hk : par i = k) (h : i.val < 4) : sendPay m ρ i c ⊢ iprop(∃ f, txPts k c f) := by
  subst hk; unfold sendPay; rw [if_pos h]
/-- What a finished gather copy gives back: the lent share of its window. -/
theorem sendPay_hi (c : Dev nD) (i : Fin 12) (j : ℕ) (hj : (par i).val = j) (B : Finset (Fin 16)) (hB : win i c = B) (h : ¬i.val < 4) :
    sendPay m ρ i c ⊢ bfPts B (sr j) c (out m ρ) := by
  subst hj hB; unfold sendPay; rw [if_neg h]

/-! ## The parts -/

section Parts
variable (h0 : (xM : Memref sig .tc .vmem S2x256x768 .bf16).IsWhole) (h1 : (qM : Memref sig .tc .vmem S768x512 .bf16).IsWhole) (h2 : (woM : Memref sig .tc .vmem S512x768 .bf16).IsWhole)
  (h3 : (kM : Memref sig .tc .vmem S2x512x2x64 .bf16).IsWhole) (h4 : (vM : Memref sig .tc .vmem S2x512x2x64 .bf16).IsWhole) (h5 : (outM : Memref sig .tc .vmem S512x768 .f32).IsWhole)
  (h6 : (accM : Memref sig .tc .vmem S512x520 .f32).IsWhole) (h7 : (txM : Memref sig .tc .vmem S480x520 .bf16).IsWhole) (h8 : (rxM : Memref sig .tc .vmem S480x520 .bf16).IsWhole)
  (h9 : (bfM : Memref sig .tc .vmem S512x768 .bf16).IsWhole)

/-- The device's own block: division, output projection, and the store of the result's rows. -/
theorem wp_part15 (c : Dev nD) {α : Type} {Q : α → sProp 𝕄} {kp} (v13 : BitVec 32) :
    iprop((((c : Thread nD τ).loc cc0_scratch0) ↦{fullShare} (acc3 m ρ c)) ∗ (((c : Thread nD τ).loc cc0_stg2_0) ↦{fullShare} (wst m ρ c)) ∗ (∃ f, bfPts {pos c} fullShare c f))
      ⊢ iprop((iprop((((c : Thread nD τ).loc cc0_scratch0) ↦{fullShare} (acc4 m ρ c)) ∗ (((c : Thread nD τ).loc cc0_stg2_0) ↦{fullShare} (wst m ρ c)) ∗ bfPts ({pos c}) (sl 0) c (out m ρ)) -∗ wp frame (wpE (Λ := Λ₀) (defs₀ (F := F)) 𝒱₀ (c : Thread nD τ) none) Set.univ (kp (8#32)) Q)
        -∗ wp frame (wpE (Λ := Λ₀) (defs₀ (F := F)) 𝒱₀ (c : Thread nD τ) none) Set.univ (k0_part15 xM h0 qM h1 woM h2 kM h3 vM h4 outM h5 accM h6 txM h7 rxM h8 bfM h9 cc0_scratch4 cc0_scratch5 c v13 (k0_pay117 (rdA (k0_off8 c) S32x520.size (k0_off8_inb c) (acc3 m ρ c)) (snd3 m ρ (pt 3 c))) >>= kp) Q) := by
  rw [k0_part15_eq_skeleton]
  unfold k0_part15_skel
  simp only [semSignalWord, semWaitWord, Prog.lift, Prog.bind_op, Prog.bind_ret, Prog.pure_eq_ret]
  iintro ⟨Ha, Hw, ⟨%f, Hb⟩⟩ Hk
  iapply (wp_load 𝒱₀ (c : Thread nD τ) none Set.univ (m := accM) (Finset.subset_univ _)) $$ Ha; iintro Ha
  iapply (wp_accstore c) $$ Ha; iintro Ha
  iapply (wp_load 𝒱₀ (c : Thread nD τ) none Set.univ (m := accM) (Finset.subset_univ _)) $$ Ha; iintro Ha
  iapply (wp_load 𝒱₀ (c : Thread nD τ) none Set.univ (m := woM) (Finset.subset_univ _)) $$ Hw; iintro Hw
  unfold bfPts
  iapply (wp_load_rect 𝒱₀ (c : Thread nD τ) none Set.univ (m := bfM) (r := Rect.unit (s := S512x768) (k0_off10 c) S32x768.size (k0_off10_inb c)) (own_set c).le) $$ Hb; iintro Hb
  iapply (wp_store 𝒱₀ (c : Thread nD τ) none Set.univ (m := bfM) (r := Rect.unit (s := S512x768) (k0_off10 c) S32x768.size (k0_off10_inb c)) (Mk := Finset.univ) (own_set c).le) $$ Hb; iintro Hb
  iapply Hk
  isplitl [Ha]; · iexact Ha
  isplitl [Hw]; · iexact Hw
  iapply (Entails.of_eq (pointsTo_congr (own_stored m ρ c f)))
  iexact Hb

/-- The gather's first two copies are started: the own block to two partners. -/
theorem wp_part16 (c : Dev nD) {α : Type} {Q : α → sProp 𝕄} {kp} (v2 v13 c8 : BitVec 32) :
    iprop(know m ρ K ∗ bfPts ({pos c}) (sl 0) c (out m ρ) ∗ owesE c (owR c [4, 5, 9, 6, 10, 7, 11]) ∗ gh 4 c ∗ gh 5 c ∗ lnd 4 (pt 3 c) ∗ lnd 5 (pt 2 c))
      ⊢ iprop((iprop(owesE c (owR c [9, 6, 10, 7, 11]) ∗ gs 4 c ∗ gs 5 c ∗ bfPts ({pos c}) (sl 4) c (out m ρ) ∗ bfPts ({pos c}) (sr 1) c (out m ρ) ∗ bfPts ({pos c}) (sr 0) c (out m ρ))
          -∗ wp frame (wpE (Λ := Λ₀) (defs₀ (F := F)) 𝒱₀ (c : Thread nD τ) none) Set.univ (kp ⟨Scalar.xori v2 4#32, Scalar.xori v2 2#32, Scalar.xori v2 1#32⟩) Q)
        -∗ wp frame (wpE (Λ := Λ₀) (defs₀ (F := F)) 𝒱₀ (c : Thread nD τ) none) Set.univ (k0_part16 xM h0 qM h1 woM h2 kM h3 vM h4 outM h5 accM h6 txM h7 rxM h8 bfM h9 cc0_scratch4 cc0_scratch5 c v2 v13 c8 >>= kp) Q) := by
  rw [k0_part16_eq_skeleton]
  unfold k0_part16_skel
  simp only [semSignalWord, semWaitWord, Prog.lift, Prog.bind_op, Prog.bind_ret, Prog.pure_eq_ret]
  iintro ⟨#HK, Hp, HO, Hg4, Hg5, Hl4, Hl5⟩ Hk
  ihave Ha := (peel m ρ {pos c} 0 c) $$ Hp
  icases Ha with ⟨Hp, R0⟩
  ihave Ha := (peel m ρ {pos c} 1 c) $$ Hp
  icases Ha with ⟨Hp, R1⟩
  ihave Ha := (peel m ρ {pos c} 2 c) $$ Hp
  icases Ha with ⟨Hp, R2⟩
  ihave Ha := (peel m ρ {pos c} 3 c) $$ Hp
  icases Ha with ⟨Hp, R3⟩
  iapply (wp_bsend m ρ K c _ 4 3 (by decide) 3 rfl {pos c} (win4 c) (by decide) (by decide) (dev9_eq c) [5, 9, 6, 10, 7, 11] (k0_off11_inb c)
      (slice_rows (n := 1) _ (off11_eq c) rfl) rfl rfl rfl) $$ [R3 Hl4 HO Hg4]
  · isplitr; · iexact HK
    isplitl [R3]; · iexact R3
    isplitl [Hl4]; · iexact Hl4
    isplitl [HO]; · iexact HO
    iexact Hg4
  iintro ⟨HO, Hg4⟩
  iapply (wp_bsend m ρ K c _ 5 2 (by decide) 2 rfl {pos c} (win5 c) (by decide) (by decide) (dev10_eq c) [9, 6, 10, 7, 11] (k0_off11_inb c)
      ((slice_rows (n := 1) _ (off11_eq c) rfl).trans (congrArg rows ((win4 c).trans (win5 c).symm))) rfl rfl rfl) $$ [R2 Hl5 HO Hg5]
  · isplitr; · iexact HK
    isplitl [R2]; · iexact R2
    isplitl [Hl5]; · iexact Hl5
    isplitl [HO]; · iexact HO
    iexact Hg5
  iintro ⟨HO, Hg5⟩
  iapply Hk
  isplitl [HO]; · iexact HO
  isplitl [Hg4]; · iexact Hg4
  isplitl [Hg5]; · iexact Hg5
  isplitl [Hp]; · iexact Hp
  isplitl [R1]; · iexact R1
  iexact R0

/-- The first arrival is waited for, sent on, and the window of two blocks is sent. -/
theorem wp_part17 (c : Dev nD) {α : Type} {Q : α → sProp 𝕄} {kp} (v13 v230 v231 : BitVec 32) :
    iprop(know m ρ K ∗ owesE c (owR c [9, 6, 10, 7, 11]) ∗ gs 4 c ∗ gh 9 c ∗ gh 6 c ∗ lnd 9 (pt 2 c) ∗ lnd 6 (pt 1 c) ∗ bfPts ({pos c}) (sr 1) c (out m ρ) ∗ bfPts ({pos c}) (sr 0) c (out m ρ))
      ⊢ iprop((iprop(owesE c (owR c [10, 7, 11]) ∗ gr 4 c ∗ gs 9 c ∗ gs 6 c ∗ bfPts (rwin 4 c) (sl 3) c (out m ρ) ∗ bfPts (win 6 c) (sr 0) c (out m ρ)) -∗ wp frame (wpE (Λ := Λ₀) (defs₀ (F := F)) 𝒱₀ (c : Thread nD τ) none) Set.univ (kp ⟨⟩) Q)
        -∗ wp frame (wpE (Λ := Λ₀) (defs₀ (F := F)) 𝒱₀ (c : Thread nD τ) none) Set.univ (k0_part17 xM h0 qM h1 woM h2 kM h3 vM h4 outM h5 accM h6 txM h7 rxM h8 bfM h9 cc0_scratch4 cc0_scratch5 c v13 v230 v231 >>= kp) Q) := by
  rw [k0_part17_eq_skeleton]
  unfold k0_part17_skel
  simp only [semSignalWord, semWaitWord, Prog.lift, Prog.bind_op, Prog.bind_ret, Prog.pure_eq_ret]
  iintro ⟨#HK, HO, Hg4, Hg9, Hg6, Hl9, Hl6, R1, R0⟩ Hk
  iapply (wp_xrecv m ρ K c 4 (by decide) [9, 6, 10, 7, 11] (by decide) rfl rfl) $$ [HO Hg4]
  · isplitr; · iexact HK
    isplitl [HO]; · iexact HO
    iexact Hg4
  iintro ⟨HO, Hg4, Hp⟩
  ihave Hp := (recvPay_hi m ρ c 4 (by decide)) $$ Hp
  ihave Ha := (peel m ρ (rwin 4 c) 0 c) $$ Hp
  icases Ha with ⟨Hp, S0⟩
  ihave Ha := (peel m ρ (rwin 4 c) 1 c) $$ Hp
  icases Ha with ⟨Hp, S1⟩
  ihave Ha := (peel m ρ (rwin 4 c) 2 c) $$ Hp
  icases Ha with ⟨Hp, S2⟩
  ihave R1 := (glue (win6 c) (win6_disj c) (sr 1) c (out m ρ)) $$ [R1 S1]
  · isplitl [R1]; · iexact R1
    iexact S1
  ihave R0 := (glue (win6 c) (win6_disj c) (sr 0) c (out m ρ)) $$ [R0 S0]
  · isplitl [R0]; · iexact R0
    iexact S0
  iapply (wp_bsend m ρ K c _ 9 2 (by decide) 2 rfl (rwin 4 c) (win9 c) (by decide) (by decide) (dev11_eq c) [6, 10, 7, 11] (k0_off12_inb c)
      (slice_rows (n := 1) _ (off12_eq c) rfl) rfl rfl rfl) $$ [S2 Hl9 HO Hg9]
  · isplitr; · iexact HK
    isplitl [S2]; · iexact S2
    isplitl [Hl9]; · iexact Hl9
    isplitl [HO]; · iexact HO
    iexact Hg9
  iintro ⟨HO, Hg9⟩
  iapply (wp_bsend m ρ K c _ 6 1 (by decide) 1 rfl (win 6 c) rfl (by decide) (by decide) (dev12_eq c) [10, 7, 11] (k0_off13_inb c)
      (slice_rows (n := 2) _ (off13_eq c) rfl) rfl rfl rfl) $$ [R1 Hl6 HO Hg6]
  · isplitr; · iexact HK
    isplitl [R1]; · iexact R1
    isplitl [Hl6]; · iexact Hl6
    isplitl [HO]; · iexact HO
    iexact Hg6
  iintro ⟨HO, Hg6⟩
  iapply Hk
  isplitl [HO]; · iexact HO
  isplitl [Hg4]; · iexact Hg4
  isplitl [Hg9]; · iexact Hg9
  isplitl [Hg6]; · iexact Hg6
  isplitl [Hp]; · iexact Hp
  iexact R0

/-- The two arrivals of the second step are waited for and sent on in one window. -/
theorem wp_part18 (c : Dev nD) {α : Type} {Q : α → sProp 𝕄} {kp} (v13 v230 v231 v232 : BitVec 32) :
    iprop(know m ρ K ∗ owesE c (owR c [10, 7, 11]) ∗ gs 5 c ∗ gs 9 c ∗ gh 10 c ∗ lnd 10 (pt 1 c) ∗ bfPts (win 6 c) (sr 0) c (out m ρ))
      ⊢ iprop((iprop(owesE c (owR c [7, 11]) ∗ gr 5 c ∗ gr 9 c ∗ gs 10 c ∗ bfPts (win 10 c) (sl 2) c (out m ρ) ∗ bfPts (win 7 c) (sr 0) c (out m ρ)) -∗ wp frame (wpE (Λ := Λ₀) (defs₀ (F := F)) 𝒱₀ (c : Thread nD τ) none) Set.univ (kp ⟨⟩) Q)
        -∗ wp frame (wpE (Λ := Λ₀) (defs₀ (F := F)) 𝒱₀ (c : Thread nD τ) none) Set.univ (k0_part18 xM h0 qM h1 woM h2 kM h3 vM h4 outM h5 accM h6 txM h7 rxM h8 bfM h9 cc0_scratch4 cc0_scratch5 c v13 v230 v231 v232 >>= kp) Q) := by
  rw [k0_part18_eq_skeleton]
  unfold k0_part18_skel
  simp only [semSignalWord, semWaitWord, Prog.lift, Prog.bind_op, Prog.bind_ret, Prog.pure_eq_ret]
  iintro ⟨#HK, HO, Hg5, Hg9, Hg10, Hl10, R0⟩ Hk
  iapply (wp_xrecv m ρ K c 5 (by decide) [10, 7, 11] (by decide) rfl rfl) $$ [HO Hg5]
  · isplitr; · iexact HK
    isplitl [HO]; · iexact HO
    iexact Hg5
  iintro ⟨HO, Hg5, Hp⟩
  ihave Hp := (recvPay_hi m ρ c 5 (by decide)) $$ Hp
  iapply (wp_xrecv m ρ K c 9 (by decide) [10, 7, 11] (by decide) rfl rfl) $$ [HO Hg9]
  · isplitr; · iexact HK
    isplitl [HO]; · iexact HO
    iexact Hg9
  iintro ⟨HO, Hg9, Hq⟩
  ihave Hq := (recvPay_hi m ρ c 9 (by decide)) $$ Hq
  ihave Hp := (glue (win10 c) (win10_disj c) (sl 0) c (out m ρ)) $$ [Hp Hq]
  · isplitl [Hp]; · iexact Hp
    iexact Hq
  ihave Ha := (peel m ρ (win 10 c) 0 c) $$ Hp
  icases Ha with ⟨Hp, S0⟩
  ihave Ha := (peel m ρ (win 10 c) 1 c) $$ Hp
  icases Ha with ⟨Hp, S1⟩
  ihave R0 := (glue (win7 c) (win7_disj c) (sr 0) c (out m ρ)) $$ [R0 S0]
  · isplitl [R0]; · iexact R0
    iexact S0
  iapply (wp_bsend m ρ K c _ 10 1 (by decide) 1 rfl (win 10 c) rfl (by decide) (by decide) (dev13_eq c) [7, 11] (k0_off14_inb c)
      (slice_rows (n := 2) _ (off14_eq c) rfl) rfl rfl rfl) $$ [S1 Hl10 HO Hg10]
  · isplitr; · iexact HK
    isplitl [S1]; · iexact S1
    isplitl [Hl10]; · iexact Hl10
    isplitl [HO]; · iexact HO
    iexact Hg10
  iintro ⟨HO, Hg10⟩
  iapply Hk
  isplitl [HO]; · iexact HO
  isplitl [Hg5]; · iexact Hg5
  isplitl [Hg9]; · iexact Hg9
  isplitl [Hg10]; · iexact Hg10
  isplitl [Hp]; · iexact Hp
  iexact R0

/-- The window of four blocks is sent; the third step's two arrivals are waited for and sent on. -/
theorem wp_part19 (c : Dev nD) {α : Type} {Q : α → sProp 𝕄} {kp} (v13 v231 v232 : BitVec 32) :
    iprop(know m ρ K ∗ owesE c (owR c [7, 11]) ∗ gs 6 c ∗ gs 10 c ∗ gh 7 c ∗ gh 11 c ∗ lnd 7 (pt 0 c) ∗ lnd 11 (pt 0 c) ∗ bfPts (win 7 c) (sr 0) c (out m ρ))
      ⊢ iprop((iprop(owesE c (owR c []) ∗ gr 6 c ∗ gr 10 c ∗ gs 7 c ∗ gs 11 c ∗ bfPts (win 11 c) (sl 1) c (out m ρ)) -∗ wp frame (wpE (Λ := Λ₀) (defs₀ (F := F)) 𝒱₀ (c : Thread nD τ) none) Set.univ (kp ⟨⟩) Q)
        -∗ wp frame (wpE (Λ := Λ₀) (defs₀ (F := F)) 𝒱₀ (c : Thread nD τ) none) Set.univ (k0_part19 xM h0 qM h1 woM h2 kM h3 vM h4 outM h5 accM h6 txM h7 rxM h8 bfM h9 cc0_scratch4 cc0_scratch5 c v13 v231 v232 >>= kp) Q) := by
  rw [k0_part19_eq_skeleton]
  unfold k0_part19_skel
  simp only [semSignalWord, semWaitWord, Prog.lift, Prog.bind_op, Prog.bind_ret, Prog.pure_eq_ret]
  iintro ⟨#HK, HO, Hg6, Hg10, Hg7, Hg11, Hl7, Hl11, R0⟩ Hk
  iapply (wp_bsend m ρ K c _ 7 0 (by decide) 0 rfl (win 7 c) rfl (by decide) (by decide) (dev14_eq c) [11] (k0_off15_inb c)
      (slice_rows (n := 4) _ (off15_eq c) rfl) rfl rfl rfl) $$ [R0 Hl7 HO Hg7]
  · isplitr; · iexact HK
    isplitl [R0]; · iexact R0
    isplitl [Hl7]; · iexact Hl7
    isplitl [HO]; · iexact HO
    iexact Hg7
  iintro ⟨HO, Hg7⟩
  iapply (wp_xrecv m ρ K c 6 (by decide) [11] (by decide) rfl rfl) $$ [HO Hg6]
  · isplitr; · iexact HK
    isplitl [HO]; · iexact HO
    iexact Hg6
  iintro ⟨HO, Hg6, Hp⟩
  ihave Hp := (recvPay_hi m ρ c 6 (by decide)) $$ Hp
  iapply (wp_xrecv m ρ K c 10 (by decide) [11] (by decide) rfl rfl) $$ [HO Hg10]
  · isplitr; · iexact HK
    isplitl [HO]; · iexact HO
    iexact Hg10
  iintro ⟨HO, Hg10, Hq⟩
  ihave Hq := (recvPay_hi m ρ c 10 (by decide)) $$ Hq
  ihave Hp := (glue (win11 c) (win11_disj c) (sl 0) c (out m ρ)) $$ [Hp Hq]
  · isplitl [Hp]; · iexact Hp
    iexact Hq
  ihave Ha := (peel m ρ (win 11 c) 0 c) $$ Hp
  icases Ha with ⟨Hp, S0⟩
  iapply (wp_bsend m ρ K c _ 11 0 (by decide) 0 rfl (win 11 c) rfl (by decide) (by decide) (dev15_eq c) [] (k0_off16_inb c)
      (slice_rows (n := 4) _ (off16_eq c) rfl) rfl rfl rfl) $$ [S0 Hl11 HO Hg11]
  · isplitr; · iexact HK
    isplitl [S0]; · iexact S0
    isplitl [Hl11]; · iexact Hl11
    isplitl [HO]; · iexact HO
    iexact Hg11
  iintro ⟨HO, Hg11⟩
  iapply Hk
  isplitl [HO]; · iexact HO
  isplitl [Hg6]; · iexact Hg6
  isplitl [Hg10]; · iexact Hg10
  isplitl [Hg7]; · iexact Hg7
  isplitl [Hg11]; · iexact Hg11
  iexact Hp

/-- The last arrivals are waited for, the result is stored, and the first sends are waited for. -/
theorem wp_part20 (c : Dev nD) {α : Type} {Q : α → sProp 𝕄} {kp} (v232 : BitVec 32) :
    iprop(know m ρ K ∗ owesE c (owR c []) ∗ gs 7 c ∗ gs 11 c ∗ (bfPts ({pos c}) (sl 4) c (out m ρ) ∗ bfPts (rwin 4 c) (sl 3) c (out m ρ) ∗ bfPts (win 10 c) (sl 2) c (out m ρ) ∗ bfPts (win 11 c) (sl 1) c (out m ρ))
        ∗ (∃ f : Vec F S512x768 .f32, (((c : Thread nD τ).loc cc0_stg5_0) ↦{fullShare} f)) ∗ gr 0 c ∗ gr 1 c)
      ⊢ iprop((iprop(owesE c (owR c []) ∗ gr 7 c ∗ gr 11 c ∗ (bfPts (Finset.univ) (sl 4) c (out m ρ) ∗ spare m ρ c)
            ∗ (((c : Thread nD τ).loc cc0_stg5_0) ↦{fullShare} (k0_pay120 (out m ρ))) ∗ gd 0 c ∗ gd 1 c ∗ (∃ f, txPts 0 c f) ∗ (∃ f, txPts 1 c f)) -∗ wp frame (wpE (Λ := Λ₀) (defs₀ (F := F)) 𝒱₀ (c : Thread nD τ) none) Set.univ (kp ⟨⟩) Q)
        -∗ wp frame (wpE (Λ := Λ₀) (defs₀ (F := F)) 𝒱₀ (c : Thread nD τ) none) Set.univ (k0_part20 xM h0 qM h1 woM h2 kM h3 vM h4 outM h5 accM h6 txM h7 rxM h8 bfM h9 cc0_scratch4 cc0_scratch5 c v232 >>= kp) Q) := by
  rw [k0_part20_eq_skeleton]
  unfold k0_part20_skel
  simp only [semSignalWord, semWaitWord, Prog.lift, Prog.bind_op, Prog.bind_ret, Prog.pure_eq_ret]
  iintro ⟨#HK, HO, Hg7, Hg11, ⟨H0, H1, H2, H3⟩, ⟨%f, Hf⟩, Hr0, Hr1⟩ Hk
  iapply (wp_xrecv m ρ K c 7 (by decide) [] (by decide) rfl rfl) $$ [HO Hg7]
  · isplitr; · iexact HK
    isplitl [HO]; · iexact HO
    iexact Hg7
  iintro ⟨HO, Hg7, Hp⟩
  ihave Hp := (recvPay_hi m ρ c 7 (by decide)) $$ Hp
  iapply (wp_xrecv m ρ K c 11 (by decide) [] (by decide) rfl rfl) $$ [HO Hg11]
  · isplitr; · iexact HK
    isplitl [HO]; · iexact HO
    iexact Hg11
  iintro ⟨HO, Hg11, Hq⟩
  ihave Hq := (recvPay_hi m ρ c 11 (by decide)) $$ Hq
  ihave H4 := (glue (D := last c) rfl (last_disj c) (sl 0) c (out m ρ)) $$ [Hp Hq]
  · isplitl [Hp]; · iexact Hp
    iexact Hq
  ihave Ha := (level m ρ c) $$ [H0 H1 H2 H3 H4]
  · isplitl [H0]; · iexact H0
    isplitl [H1]; · iexact H1
    isplitl [H2]; · iexact H2
    isplitl [H3]; · iexact H3
    iexact H4
  icases Ha with ⟨Hb, Hsp⟩
  ihave Hb := (show bfPts Finset.univ (sl 4) c (out m ρ) ⊢ (((c : Thread nD τ).loc cc0_scratch3) ↦{sl 4} (out m ρ)) from by unfold bfPts; rw [rows_univ]) $$ Hb
  iapply (wp_load 𝒱₀ (c : Thread nD τ) none Set.univ (m := bfM) (Finset.subset_univ _)) $$ Hb; iintro Hb
  rw [bf_whole]
  iapply (wp_load 𝒱₀ (c : Thread nD τ) none Set.univ (m := outM) (Finset.subset_univ _)) $$ Hf; iintro Hf
  iapply (wp_store 𝒱₀ (c : Thread nD τ) none Set.univ (m := outM) (r := Rect.unit (s := S512x768) ![0, 0] S512x768.size inb_S512x768_S512x768_0_0) (Mk := Finset.univ) (Finset.subset_univ _)) $$ Hf; iintro Hf
  rw [out_whole]
  iapply (wp_xdone m ρ K c 0 (by decide) rfl rfl) $$ [HO Hr0]
  · isplitr; · iexact HK
    isplitl [HO]; · iexact HO
    iexact Hr0
  iintro ⟨HO, Hd0, Ht0⟩
  ihave Ht0 := (sendPay_lo m ρ c 0 0 (by decide) (by decide)) $$ Ht0
  iapply (wp_xdone m ρ K c 1 (by decide) rfl rfl) $$ [HO Hr1]
  · isplitr; · iexact HK
    isplitl [HO]; · iexact HO
    iexact Hr1
  iintro ⟨HO, Hd1, Ht1⟩
  ihave Ht1 := (sendPay_lo m ρ c 1 1 (by decide) (by decide)) $$ Ht1
  iapply Hk
  isplitl [HO]; · iexact HO
  isplitl [Hg7]; · iexact Hg7
  isplitl [Hg11]; · iexact Hg11
  isplitl [Hb Hsp]
  · isplitl [Hb]
    · unfold bfPts; rw [rows_univ]; iexact Hb
    iexact Hsp
  isplitl [Hf]; · iexact Hf
  isplitl [Hd0]; · iexact Hd0
  isplitl [Hd1]; · iexact Hd1
  isplitl [Ht0]; · iexact Ht0
  iexact Ht1

/-- Five more sends are waited for. -/
theorem wp_part21 (c : Dev nD) {α : Type} {Q : α → sProp 𝕄} {kp} :
    iprop(know m ρ K ∗ owesE c (owR c []) ∗ gr 2 c ∗ gr 3 c ∗ gr 4 c ∗ gr 5 c ∗ gr 9 c)
      ⊢ iprop((iprop(owesE c (owR c []) ∗ gd 2 c ∗ gd 3 c ∗ gd 4 c ∗ gd 5 c ∗ gd 9 c ∗ (∃ f, txPts 2 c f) ∗ (∃ f, txPts 3 c f) ∗ bfPts ({pos c}) (sr 3) c (out m ρ) ∗ (bfPts ({pos c}) (sr 2) c (out m ρ) ∗ bfPts (rwin 4 c) (sr 2) c (out m ρ))) -∗ wp frame (wpE (Λ := Λ₀) (defs₀ (F := F)) 𝒱₀ (c : Thread nD τ) none) Set.univ (kp ⟨⟩) Q)
        -∗ wp frame (wpE (Λ := Λ₀) (defs₀ (F := F)) 𝒱₀ (c : Thread nD τ) none) Set.univ (k0_part21 xM h0 qM h1 woM h2 kM h3 vM h4 outM h5 accM h6 txM h7 rxM h8 bfM h9 cc0_scratch4 cc0_scratch5 c >>= kp) Q) := by
  rw [k0_part21_eq_skeleton]
  unfold k0_part21_skel
  simp only [semSignalWord, semWaitWord, Prog.lift, Prog.bind_op, Prog.bind_ret, Prog.pure_eq_ret]
  iintro ⟨#HK, HO, Hr2, Hr3, Hr4, Hr5, Hr9⟩ Hk
  iapply (wp_xdone m ρ K c 2 (by decide) rfl rfl) $$ [HO Hr2]
  · isplitr; · iexact HK
    isplitl [HO]; · iexact HO
    iexact Hr2
  iintro ⟨HO, Hd2, Ht2⟩
  ihave Ht2 := (sendPay_lo m ρ c 2 2 (by decide) (by decide)) $$ Ht2
  iapply (wp_xdone m ρ K c 3 (by decide) rfl rfl) $$ [HO Hr3]
  · isplitr; · iexact HK
    isplitl [HO]; · iexact HO
    iexact Hr3
  iintro ⟨HO, Hd3, Ht3⟩
  ihave Ht3 := (sendPay_lo m ρ c 3 3 (by decide) (by decide)) $$ Ht3
  iapply (wp_xdone m ρ K c 4 (by decide) rfl rfl) $$ [HO Hr4]
  · isplitr; · iexact HK
    isplitl [HO]; · iexact HO
    iexact Hr4
  iintro ⟨HO, Hd4, Ht4⟩
  ihave Ht4 := (sendPay_hi m ρ c 4 3 (by decide) {pos c} (win4 c) (by decide)) $$ Ht4
  iapply (wp_xdone m ρ K c 5 (by decide) rfl rfl) $$ [HO Hr5]
  · isplitr; · iexact HK
    isplitl [HO]; · iexact HO
    iexact Hr5
  iintro ⟨HO, Hd5, Ht5⟩
  ihave Ht5 := (sendPay_hi m ρ c 5 2 (by decide) {pos c} (win5 c) (by decide)) $$ Ht5
  iapply (wp_xdone m ρ K c 9 (by decide) rfl rfl) $$ [HO Hr9]
  · isplitr; · iexact HK
    isplitl [HO]; · iexact HO
    iexact Hr9
  iintro ⟨HO, Hd9, Ht9⟩
  ihave Ht9 := (sendPay_hi m ρ c 9 2 (by decide) (rwin 4 c) (win9 c) (by decide)) $$ Ht9
  iapply Hk
  isplitl [HO]; · iexact HO
  isplitl [Hd2]; · iexact Hd2
  isplitl [Hd3]; · iexact Hd3
  isplitl [Hd4]; · iexact Hd4
  isplitl [Hd5]; · iexact Hd5
  isplitl [Hd9]; · iexact Hd9
  isplitl [Ht2]; · iexact Ht2
  isplitl [Ht3]; · iexact Ht3
  isplitl [Ht4]; · iexact Ht4
  isplitl [Ht5]; · iexact Ht5
  iexact Ht9

end Parts

end Cert.KernelIdealProof
-- ==== Proof.KernelIdealBody.lean ====
/- The body's specification, assembled from its parts, and the data of the pipeline that calls it. -/
module

public import proofs.«01_k».proof.Proof.KernelIdealGather

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 25 → ℕ)

/-! ## Cutting the buffers up and putting them together -/

/-- A buffer in two pieces, each at some contents. -/
theorem cut2 {ℓ : Loc nD τ sig} {A B : Finset (Idx ℓ)} (h : Disjoint A B) :
    (iprop(∃ f : Buf (Elt F) ℓ, ℓ ↦[A ∪ B]{fullShare} f) : sProp 𝕄) ⊣⊢ iprop((∃ f : Buf (Elt F) ℓ, ℓ ↦[A]{fullShare} f) ∗ ∃ f : Buf (Elt F) ℓ, ℓ ↦[B]{fullShare} f) := by
  constructor
  · iintro ⟨%f, H⟩
    ihave H' := (pointsTo_union h).1 $$ H
    icases H' with ⟨Ha, Hb⟩
    isplitl [Ha]
    · iexists f; iexact Ha
    · iexists f; iexact Hb
  · iintro ⟨⟨%f, Ha⟩, ⟨%g, Hb⟩⟩
    iexists (B.piecewise g f)
    iapply (pointsTo_join h)
    isplitl [Ha]; · iexact Ha
    iexact Hb

/-- The four bands are the whole step buffer. -/
theorem band_union : (band 0 ∪ (band 1 ∪ (band 2 ∪ band 3))) = Finset.univ := by
  ext i
  have h : (i 0).val < 480 := (i 0).isLt
  simp only [Finset.mem_union, mem_band, Finset.mem_univ, iff_true]
  have e0 : blo 0 = 0 := rfl
  have e1 : blo 1 = 256 := rfl
  have e2 : blo 2 = 384 := rfl
  have e3 : blo 3 = 448 := rfl
  have l0 : bln 0 = 256 := rfl
  have l1 : bln 1 = 128 := rfl
  have l2 : bln 2 = 64 := rfl
  have l3 : bln 3 = 32 := rfl
  omega
/-- A band that ends before another begins is disjoint from it. -/
theorem band_disj {k l : Fin 4} (h : blo k + bln k ≤ blo l) : Disjoint (band k) (band l) :=
  Finset.disjoint_left.mpr fun i hk hl => by
    have := mem_band.mp hk; have := mem_band.mp hl; omega
/-- Bands 2 and 3 are disjoint. -/
theorem bands23 : Disjoint (band 2) (band 3) := band_disj (by decide)
/-- Band 1 is disjoint from the later ones. -/
theorem bands1 : Disjoint (band 1) (band 2 ∪ band 3) := Finset.disjoint_union_right.mpr ⟨band_disj (by decide), band_disj (by decide)⟩
/-- Band 0 is disjoint from the later ones. -/
theorem bands0 : Disjoint (band 0) (band 1 ∪ (band 2 ∪ band 3)) :=
  Finset.disjoint_union_right.mpr ⟨band_disj (by decide), Finset.disjoint_union_right.mpr ⟨band_disj (by decide), band_disj (by decide)⟩⟩

/-- The send buffer in its four bands, -/
theorem tx_cut (c : Dev nD) : (iprop(∃ f : Vec F S480x520 .bf16, ((c : Thread nD τ).loc cc0_scratch1) ↦{fullShare} f) : sProp 𝕄)
    ⊣⊢ iprop((∃ f, txPts 0 c f) ∗ (∃ f, txPts 1 c f) ∗ (∃ f, txPts 2 c f) ∗ (∃ f, txPts 3 c f)) := by
  rw [← band_union]
  exact (cut2 (ℓ := (c : Thread nD τ).loc cc0_scratch1) bands0).trans (sep_congr_right ((cut2 (ℓ := (c : Thread nD τ).loc cc0_scratch1) bands1).trans (sep_congr_right (cut2 (ℓ := (c : Thread nD τ).loc cc0_scratch1) bands23))))
/-- and the receive buffer. -/
theorem rx_cut (c : Dev nD) : (iprop(∃ f : Vec F S480x520 .bf16, ((c : Thread nD τ).loc cc0_scratch2) ↦{fullShare} f) : sProp 𝕄)
    ⊣⊢ iprop((∃ f, rxPts 0 c f) ∗ (∃ f, rxPts 1 c f) ∗ (∃ f, rxPts 2 c f) ∗ (∃ f, rxPts 3 c f)) := by
  rw [← band_union]
  exact (cut2 (ℓ := (c : Thread nD τ).loc cc0_scratch2) bands0).trans (sep_congr_right ((cut2 (ℓ := (c : Thread nD τ).loc cc0_scratch2) bands1).trans (sep_congr_right (cut2 (ℓ := (c : Thread nD τ).loc cc0_scratch2) bands23))))

/-- Windows of the block buffer split. -/
theorem bf_cut {A B D : Finset (Fin 16)} (hD : D = A ∪ B) (h : Disjoint A B) (c : Dev nD) :
    (iprop(∃ f, bfPts D fullShare c f) : sProp 𝕄) ⊢ iprop((∃ f, bfPts A fullShare c f) ∗ ∃ f, bfPts B fullShare c f) := by
  subst hD
  unfold bfPts
  rw [rows_union]
  exact (cut2 (ℓ := (c : Thread nD τ).loc cc0_scratch3) (rows_disj h)).1

/-- The whole publication buffer is cut into the device's own block and the windows where the gather's copies land. -/
theorem bf_cuts (c : Dev nD) : (iprop(∃ f : Vec F S512x768 .bf16, ((c : Thread nD τ).loc cc0_scratch3) ↦{fullShare} f) : sProp 𝕄)
    ⊢ iprop((∃ f, bfPts {pos c} fullShare c f) ∗ lnd 4 c ∗ (lnd 5 c ∗ lnd 9 c) ∗ (lnd 6 c ∗ lnd 10 c) ∗ (lnd 7 c ∗ lnd 11 c)) := by
  unfold lnd
  iintro H
  ihave H := (show (iprop(∃ f : Vec F S512x768 .bf16, ((c : Thread nD τ).loc cc0_scratch3) ↦{fullShare} f) : sProp 𝕄) ⊢ iprop(∃ f, bfPts Finset.univ fullShare c f) from by unfold bfPts; rw [rows_univ]) $$ H
  ihave H := (bf_cut (all_eq c).symm (all_disj c) c) $$ H
  icases H with ⟨Hm, Hl⟩
  ihave Hl := (bf_cut (D := last c) rfl (last_disj c) c) $$ Hl
  ihave Hm := (bf_cut (D := most c) rfl (most_disj c) c) $$ Hm
  icases Hm with ⟨H7, H11⟩
  ihave H11 := (bf_cut (win11 c) (win11_disj c) c) $$ H11
  ihave H7 := (bf_cut (win7 c) (win7_disj c) c) $$ H7
  icases H7 with ⟨H6, H10⟩
  ihave H10 := (bf_cut (win10 c) (win10_disj c) c) $$ H10
  ihave H6 := (bf_cut (win6 c) (win6_disj c) c) $$ H6
  icases H6 with ⟨H0, H4⟩
  isplitl [H0]; · iexact H0
  isplitl [H4]; · iexact H4
  isplitl [H10]; · iexact H10
  isplitl [H11]; · iexact H11
  iexact Hl

/-! ## The whole body -/

/-- The protocol's resources of device `c` at the start, -/
def bag (c : Dev nD) : sProp 𝕄 :=
  iprop(bigSep (Finset.univ.erase (8 : Fin 12)) (fun i => gh i c) ∗ (atPos ER (sendCell 8 c) 0 ∅ 0 ∗ atPos ER (recvCell 8 c) 0 ∅ 0)
    ∗ atPos ER (barCell c) 0 ∅ 0 ∗ bigSep Finset.univ (fun r : Fin 4 => dutyTok ER (barCell (pt r c)) 0 r) ∗ cred (tallyAt (barCell c) () 4))
/-- and at the end: every cell closed. -/
def done (c : Dev nD) : sProp 𝕄 := iprop(bigSep Finset.univ (fun i : Fin 12 => gd i c) ∗ semVal (barCell c) 0)
/-- The four scratch buffers at some contents. -/
def scr (c : Dev nD) : sProp 𝕄 :=
  iprop((∃ f : Vec F S512x520 .f32, ((c : Thread nD τ).loc cc0_scratch0) ↦{fullShare} f) ∗ (∃ f : Vec F S480x520 .bf16, ((c : Thread nD τ).loc cc0_scratch1) ↦{fullShare} f)
    ∗ (∃ f : Vec F S480x520 .bf16, ((c : Thread nD τ).loc cc0_scratch2) ↦{fullShare} f) ∗ (∃ f : Vec F S512x768 .bf16, ((c : Thread nD τ).loc cc0_scratch3) ↦{fullShare} f))

/-- The open receives, written out in the order in which they are used. -/
theorem gh_list (c : Dev nD) : (bigSep (Finset.univ.erase (8 : Fin 12)) (fun i => gh (F := F) i c))
    = iprop(gh 0 c ∗ gh 1 c ∗ gh 2 c ∗ gh 3 c ∗ gh 4 c ∗ gh 5 c ∗ gh 9 c ∗ gh 6 c ∗ gh 10 c ∗ gh 7 c ∗ gh 11 c) := by
  rw [bigSep_eq_bigSepL_of_eq order (by decide) (by decide)]
  rfl
/-- The finished copies' records, written out; the unused number 8 last. -/
theorem gd_list (c : Dev nD) : (bigSep Finset.univ (fun i : Fin 12 => gd (F := F) i c))
    = iprop(gd 0 c ∗ gd 1 c ∗ gd 2 c ∗ gd 3 c ∗ gd 4 c ∗ gd 5 c ∗ gd 9 c ∗ gd 6 c ∗ gd 10 c ∗ gd 7 c ∗ gd 11 c ∗ gd 8 c) := by
  rw [bigSep_eq_bigSepL_of_eq [0, 1, 2, 3, 4, 5, 9, 6, 10, 7, 11, 8] (by decide) (by decide)]
  rfl
/-- The four barrier duties of a device, written out. -/
theorem tok_list (c : Dev nD) : (bigSep Finset.univ (fun r : Fin 4 => (dutyTok ER (barCell (pt r c)) 0 r : sProp 𝕄)))
    = iprop(dutyTok ER (barCell (pt 0 c)) 0 0 ∗ dutyTok ER (barCell (pt 1 c)) 0 1 ∗ dutyTok ER (barCell (pt 2 c)) 0 2 ∗ dutyTok ER (barCell (pt 3 c)) 0 3) := by
  rw [bigSep_eq_bigSepL_of_eq [0, 1, 2, 3] (by decide) (by decide)]
  rfl

/-- The two cells of the entry no transfer uses close untouched. -/
theorem close8 (c : Dev nD) : iprop(know m ρ K ∗ atPos ER (sendCell 8 c) 0 ∅ 0 ∗ atPos ER (recvCell 8 c) 0 ∅ 0) ⊢ |={Set.univ}=> (gd 8 c : sProp 𝕄) := by
  unfold know gd
  iintro ⟨⟨#HK, #HL⟩, Hs, Hr⟩
  ihave HC := (rec_send m ρ K 8 c) $$ HK
  icases HC with ⟨#HI, #HR⟩
  ihave HC := (rec_recv m ρ K 8 c) $$ HK
  icases HC with ⟨#HI', #HR'⟩
  imod (Rounds.cell_close ER (rd m ρ) (Set.mem_univ (K (c, ks 8))) (fun h => h) (R := 0) (fun r _ => duties_s8 m ρ c r)) $$ [Hs] with Hz
  · isplitr; · iexact HI
    iexact Hs
  imod (Rounds.cell_close ER (rd m ρ) (Set.mem_univ (K (c, kr 8))) (fun h => h) (R := 0) (fun r _ => duties_r8 m ρ c r)) $$ [Hr] with Hz'
  · isplitr; · iexact HI'
    iexact Hr
  imodintro
  isplitl [Hz]; · iexact Hz
  iexact Hz'

section Parts
variable (h0 : (xM : Memref sig .tc .vmem S2x256x768 .bf16).IsWhole) (h1 : (qM : Memref sig .tc .vmem S768x512 .bf16).IsWhole) (h2 : (woM : Memref sig .tc .vmem S512x768 .bf16).IsWhole)
  (h3 : (kM : Memref sig .tc .vmem S2x512x2x64 .bf16).IsWhole) (h4 : (vM : Memref sig .tc .vmem S2x512x2x64 .bf16).IsWhole) (h5 : (outM : Memref sig .tc .vmem S512x768 .f32).IsWhole)
  (h6 : (accM : Memref sig .tc .vmem S512x520 .f32).IsWhole) (h7 : (txM : Memref sig .tc .vmem S480x520 .bf16).IsWhole) (h8 : (rxM : Memref sig .tc .vmem S480x520 .bf16).IsWhole)
  (h9 : (bfM : Memref sig .tc .vmem S512x768 .bf16).IsWhole)

set_option maxHeartbeats 1000000 in
/-- The body, part after part. -/
theorem wp_body (c : Dev nD) (Q : PUnit → sProp 𝕄) :
    iprop(know m ρ K ∗ insS m ρ c ∗ (((c : Thread nD τ).loc cc0_stg2_0) ↦{fullShare} (wst m ρ c)) ∗ (∃ f : Vec F S512x768 .f32, (((c : Thread nD τ).loc cc0_stg5_0) ↦{fullShare} f))
        ∗ scr c ∗ owesE c (owB c [0, 1, 2, 3]) ∗ bag c)
      ⊢ iprop((iprop(insS m ρ c ∗ (((c : Thread nD τ).loc cc0_stg2_0) ↦{fullShare} (wst m ρ c)) ∗ (((c : Thread nD τ).loc cc0_stg5_0) ↦{fullShare} (k0_pay120 (out m ρ)))
            ∗ scr c ∗ owesE c (owR c []) ∗ done c) -∗ Q ⟨⟩)
        -∗ wp frame (wpE (Λ := Λ₀) (defs₀ (F := F)) 𝒱₀ (c : Thread nD τ) none) Set.univ (cc0_body xM h0 qM h1 woM h2 kM h3 vM h4 outM h5 accM h6 txM h7 rxM h8 bfM h9 cc0_scratch4 cc0_scratch5) Q) := by
  rw [cc0_body_eq_skeleton]
  unfold cc0_body_skel scr bag done
  rw [gh_list, gd_list, tok_list]
  iintro ⟨#HK, Hi, Hw, Hst, ⟨⟨%f0, Ha⟩, Htx, Hrx, Hbf⟩, HO, ⟨⟨Hh0, Hh1, Hh2, Hh3, Hh4, Hh5, Hh9, Hh6, Hh10, Hh7, Hh11⟩, H8, Hat, ⟨Hk0, Hk1, Hk2, Hk3⟩, Hcr⟩⟩ Hk
  ihave Htx := (tx_cut c).1 $$ Htx
  icases Htx with ⟨Ht0, Ht1, Ht2, Ht3⟩
  ihave Hrx := (rx_cut c).1 $$ Hrx
  icases Hrx with ⟨Hr0, Hr1, Hr2, Hr3⟩
  ihave Hbf := (bf_cuts c) $$ Hbf
  icases Hbf with ⟨Hown, Hl4, H59, H610, H711⟩
  ihave Hg0 := (Entails.of_eq (give0_eq c).symm) $$ [Hr0 H711]
  · isplitl [Hr0]; · iexact Hr0
    iexact H711
  ihave Hg1 := (Entails.of_eq (give1_eq c).symm) $$ [Hr1 H610]
  · isplitl [Hr1]; · iexact Hr1
    iexact H610
  ihave Hg2 := (Entails.of_eq (give2_eq c).symm) $$ [Hr2 H59]
  · isplitl [Hr2]; · iexact Hr2
    iexact H59
  ihave Hg3 := (Entails.of_eq (give3_eq c).symm) $$ [Hr3 Hl4]
  · isplitl [Hr3]; · iexact Hr3
    iexact Hl4
  iapply (wp_part9 m ρ K h0 h1 h2 h3 h4 h5 h6 h7 h8 h9 c f0) $$ [Hi Ha HO Hk0 Hk1 Hg0 Hg1]
  · isplitr; · iexact HK
    isplitl [Hi]; · iexact Hi
    isplitl [Ha]; · iexact Ha
    isplitl [HO]; · iexact HO
    isplitl [Hk0]; · iexact Hk0
    isplitl [Hk1]; · iexact Hk1
    isplitl [Hg0]; · iexact Hg0
    iexact Hg1
  iintro ⟨Hi, Ha, HO⟩
  dsimp only
  iapply (wp_part10 m ρ K h0 h1 h2 h3 h4 h5 h6 h7 h8 h9 c _ _ f0) $$ [Hi Ha HO Hk2 Hk3 Hg2 Hg3 Hcr Hat Ht0 Hh0]
  · isplitr; · iexact HK
    isplitl [Hi]; · iexact Hi
    isplitl [Ha]; · iexact Ha
    isplitl [HO]; · iexact HO
    isplitl [Hk2]; · iexact Hk2
    isplitl [Hk3]; · iexact Hk3
    isplitl [Hg2]; · iexact Hg2
    isplitl [Hg3]; · iexact Hg3
    isplitl [Hcr]; · iexact Hcr
    isplitl [Hat]; · iexact Hat
    isplitl [Ht0]; · iexact Ht0
    iexact Hh0
  iintro ⟨Hi, Ha, HO, Hz, Hh0, ⟨Hl7, Hl11⟩, Hg1, Hg2, Hg3⟩
  dsimp only
  ihave Hg1 := (Entails.of_eq (give1_eq (pt 1 c))) $$ Hg1
  icases Hg1 with ⟨Hx1, Hl6, Hl10⟩
  ihave Hg2 := (Entails.of_eq (give2_eq (pt 2 c))) $$ Hg2
  icases Hg2 with ⟨Hx2, Hl5, Hl9⟩
  ihave Hg3 := (Entails.of_eq (give3_eq (pt 3 c))) $$ Hg3
  icases Hg3 with ⟨Hx3, Hl4⟩
  iapply (wp_part11 m ρ K h0 h1 h2 h3 h4 h5 h6 h7 h8 h9 c _ _ _ _ f0) $$ [Hi Ha HO Hh0 Ht1]
  · isplitr; · iexact HK
    isplitl [Hi]; · iexact Hi
    isplitl [Ha]; · iexact Ha
    isplitl [HO]; · iexact HO
    isplitl [Hh0]; · iexact Hh0
    iexact Ht1
  iintro ⟨Hi, Ha, HO, Hh0, Hr0, Ht1⟩
  dsimp only
  iapply (wp_part12 m ρ K h0 h1 h2 h3 h4 h5 h6 h7 h8 h9 c) $$ [Ha HO Hh1 Ht1 Hx1]
  · isplitr; · iexact HK
    isplitl [Ha]; · iexact Ha
    isplitl [HO]; · iexact HO
    isplitl [Hh1]; · iexact Hh1
    isplitl [Ht1]; · iexact Ht1
    iexact Hx1
  iintro ⟨Ha, HO, Hh1, Hr1⟩
  dsimp only
  iapply (wp_part13 m ρ K h0 h1 h2 h3 h4 h5 h6 h7 h8 h9 c) $$ [Ha HO Hh2 Ht2 Hx2]
  · isplitr; · iexact HK
    isplitl [Ha]; · iexact Ha
    isplitl [HO]; · iexact HO
    isplitl [Hh2]; · iexact Hh2
    isplitl [Ht2]; · iexact Ht2
    iexact Hx2
  iintro ⟨Ha, HO, Hh2, Hr2⟩
  dsimp only
  iapply (wp_part14 m ρ K h0 h1 h2 h3 h4 h5 h6 h7 h8 h9 c) $$ [Ha HO Hh3 Ht3 Hx3]
  · isplitr; · iexact HK
    isplitl [Ha]; · iexact Ha
    isplitl [HO]; · iexact HO
    isplitl [Hh3]; · iexact Hh3
    isplitl [Ht3]; · iexact Ht3
    iexact Hx3
  iintro ⟨Ha, HO, Hh3, Hr3⟩
  iapply (wp_part15 m ρ h0 h1 h2 h3 h4 h5 h6 h7 h8 h9 c) $$ [Ha Hw Hown]
  · isplitl [Ha]; · iexact Ha
    isplitl [Hw]; · iexact Hw
    iexact Hown
  iintro ⟨Ha, Hw, Hp⟩
  iapply (wp_part16 m ρ K h0 h1 h2 h3 h4 h5 h6 h7 h8 h9 c) $$ [Hp HO Hh4 Hh5 Hl4 Hl5]
  · isplitr; · iexact HK
    isplitl [Hp]; · iexact Hp
    isplitl [HO]; · iexact HO
    isplitl [Hh4]; · iexact Hh4
    isplitl [Hh5]; · iexact Hh5
    isplitl [Hl4]; · iexact Hl4
    iexact Hl5
  iintro ⟨HO, Hh4, Hh5, P0, R1, R0⟩
  dsimp only
  iapply (wp_part17 m ρ K h0 h1 h2 h3 h4 h5 h6 h7 h8 h9 c) $$ [HO Hh4 Hh9 Hh6 Hl9 Hl6 R1 R0]
  · isplitr; · iexact HK
    isplitl [HO]; · iexact HO
    isplitl [Hh4]; · iexact Hh4
    isplitl [Hh9]; · iexact Hh9
    isplitl [Hh6]; · iexact Hh6
    isplitl [Hl9]; · iexact Hl9
    isplitl [Hl6]; · iexact Hl6
    isplitl [R1]; · iexact R1
    iexact R0
  iintro ⟨HO, Hh4, Hh9, Hh6, P1, R0⟩
  iapply (wp_part18 m ρ K h0 h1 h2 h3 h4 h5 h6 h7 h8 h9 c) $$ [HO Hh5 Hh9 Hh10 Hl10 R0]
  · isplitr; · iexact HK
    isplitl [HO]; · iexact HO
    isplitl [Hh5]; · iexact Hh5
    isplitl [Hh9]; · iexact Hh9
    isplitl [Hh10]; · iexact Hh10
    isplitl [Hl10]; · iexact Hl10
    iexact R0
  iintro ⟨HO, Hh5, Hh9, Hh10, P2, R0⟩
  iapply (wp_part19 m ρ K h0 h1 h2 h3 h4 h5 h6 h7 h8 h9 c) $$ [HO Hh6 Hh10 Hh7 Hh11 Hl7 Hl11 R0]
  · isplitr; · iexact HK
    isplitl [HO]; · iexact HO
    isplitl [Hh6]; · iexact Hh6
    isplitl [Hh10]; · iexact Hh10
    isplitl [Hh7]; · iexact Hh7
    isplitl [Hh11]; · iexact Hh11
    isplitl [Hl7]; · iexact Hl7
    isplitl [Hl11]; · iexact Hl11
    iexact R0
  iintro ⟨HO, Hh6, Hh10, Hh7, Hh11, P3⟩
  iapply (wp_part20 m ρ K h0 h1 h2 h3 h4 h5 h6 h7 h8 h9 c) $$ [HO Hh7 Hh11 P0 P1 P2 P3 Hst Hh0 Hh1]
  · isplitr; · iexact HK
    isplitl [HO]; · iexact HO
    isplitl [Hh7]; · iexact Hh7
    isplitl [Hh11]; · iexact Hh11
    isplitl [P0 P1 P2 P3]
    · isplitl [P0]; · iexact P0
      isplitl [P1]; · iexact P1
      isplitl [P2]; · iexact P2
      iexact P3
    isplitl [Hst]; · iexact Hst
    isplitl [Hh0]; · iexact Hh0
    iexact Hh1
  iintro ⟨HO, Hh7, Hh11, ⟨Hb, Hsp⟩, Hst, Hd0, Hd1, Ht0, Ht1⟩
  iapply (wp_part21 m ρ K h0 h1 h2 h3 h4 h5 h6 h7 h8 h9 c) $$ [HO Hh2 Hh3 Hh4 Hh5 Hh9]
  · isplitr; · iexact HK
    isplitl [HO]; · iexact HO
    isplitl [Hh2]; · iexact Hh2
    isplitl [Hh3]; · iexact Hh3
    isplitl [Hh4]; · iexact Hh4
    isplitl [Hh5]; · iexact Hh5
    iexact Hh9
  iintro ⟨HO, Hd2, Hd3, Hd4, Hd5, Hd9, Ht2, Ht3, B3, B2⟩
  simp only [semSignalWord, semWaitWord, Prog.lift, Prog.bind_op, Prog.bind_ret, Prog.pure_eq_ret]
  iapply (wp_xdone m ρ K c 6 (by decide) rfl rfl) $$ [HO Hh6]
  · isplitr; · iexact HK
    isplitl [HO]; · iexact HO
    iexact Hh6
  iintro ⟨HO, Hd6, B6⟩
  ihave B6 := (sendPay_hi m ρ c 6 1 (by decide) (win 6 c) rfl (by decide)) $$ B6
  iapply (wp_xdone m ρ K c 10 (by decide) rfl rfl) $$ [HO Hh10]
  · isplitr; · iexact HK
    isplitl [HO]; · iexact HO
    iexact Hh10
  iintro ⟨HO, Hd10, B10⟩
  ihave B10 := (sendPay_hi m ρ c 10 1 (by decide) (win 10 c) rfl (by decide)) $$ B10
  iapply (wp_xdone m ρ K c 7 (by decide) rfl rfl) $$ [HO Hh7]
  · isplitr; · iexact HK
    isplitl [HO]; · iexact HO
    iexact Hh7
  iintro ⟨HO, Hd7, B7⟩
  ihave B7 := (sendPay_hi m ρ c 7 0 (by decide) (win 7 c) rfl (by decide)) $$ B7
  iapply (wp_xdone m ρ K c 11 (by decide) rfl rfl) $$ [HO Hh11]
  · isplitr; · iexact HK
    isplitl [HO]; · iexact HO
    iexact Hh11
  iintro ⟨HO, Hd11, B11⟩
  ihave B11 := (sendPay_hi m ρ c 11 0 (by decide) (win 11 c) rfl (by decide)) $$ B11
  ihave Hbf := (regain m ρ c) $$ [Hb Hsp B3 B2 B6 B10 B7 B11]
  · isplitl [Hb]; · iexact Hb
    isplitl [Hsp]; · iexact Hsp
    isplitl [B3]; · iexact B3
    isplitl [B2]; · iexact B2
    isplitl [B6 B10]
    · isplitl [B6]; · iexact B6
      iexact B10
    isplitl [B7]; · iexact B7
    iexact B11
  ihave Htx := (tx_cut c).2 $$ [Ht0 Ht1 Ht2 Ht3]
  · isplitl [Ht0]; · iexact Ht0
    isplitl [Ht1]; · iexact Ht1
    isplitl [Ht2]; · iexact Ht2
    iexact Ht3
  ihave Hrx := (rx_cut c).2 $$ [Hr0 Hr1 Hr2 Hr3]
  · isplitl [Hr0]; · iexact Hr0
    isplitl [Hr1]; · iexact Hr1
    isplitl [Hr2]; · iexact Hr2
    iexact Hr3
  icases H8 with ⟨H8s, H8r⟩
  imod (close8 m ρ K c) $$ [H8s H8r] with Hd8
  · isplitr; · iexact HK
    isplitl [H8s]; · iexact H8s
    iexact H8r
  rw [wp_ret]
  imodintro
  iapply Hk
  isplitl [Hi]; · iexact Hi
  isplitl [Hw]; · iexact Hw
  isplitl [Hst]; · iexact Hst
  isplitl [Ha Htx Hrx Hbf]
  · isplitl [Ha]; · iexists _; iexact Ha
    isplitl [Htx]; · iexact Htx
    isplitl [Hrx]; · iexact Hrx
    iexists (out m ρ)
    iapply (show bfPts Finset.univ fullShare c (out m ρ) ⊢ (((c : Thread nD τ).loc cc0_scratch3) ↦{fullShare} (out m ρ)) from by unfold bfPts; rw [rows_univ])
    iexact Hbf
  isplitl [HO]; · iexact HO
  isplitr [Hz]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd9]; · iexact Hd9
    isplitl [Hd6]; · iexact Hd6
    isplitl [Hd10]; · iexact Hd10
    isplitl [Hd7]; · iexact Hd7
    isplitl [Hd11]; · iexact Hd11
    iexact Hd8
  iexact Hz
end Parts

/-! ## The body obligation -/

/-- What device `c` starts from, -/
def start (c : Dev nD) : sProp 𝕄 := iprop((∃ K, know m ρ K) ∗ bag c)
def Φ₀ (c : Dev nD) : sProp 𝕄 := iprop(start m ρ c ∗ scr c)
/-- and ends with. -/
def Φ₁ (c : Dev nD) : sProp 𝕄 := iprop(scr c ∗ done c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m ρ c
    | ⟨1, _⟩ => qst m ρ c
    | ⟨2, _⟩ => wst m ρ c
    | ⟨3, _⟩ => kst m ρ c
    | ⟨4, _⟩ => vst m ρ c
    | ⟨5, _⟩ => k0_pay120 (out m ρ)
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The grid has one point. -/
theorem cfg0_N : cfg0.N = 1 := by decide
def t₀ : Fin cfg0.N := ⟨0, by rw [cfg0_N]; decide⟩
/-- Every grid point is the single one. -/
theorem fin_N (t : Fin cfg0.N) : t = t₀ := by
  obtain ⟨t, ht⟩ := t; have := cfg0_N; exact Fin.ext (by simp only [t₀]; omega)

/-- A product over the six windows, written out. -/
theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

/-- Owning a whole buffer through its view is owning the buffer. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
/-- A staged operand, as its buffer. -/
theorem stg_in (c : Dev nD) (b : Ref sig .tc) (X : b.ty.Contents (Elt F)) : stg c b X ⊢ (((c : Thread nD τ).loc b) ↦{fullShare} X : sProp 𝕄) := by
  iintro ⟨%f, %h, H⟩
  subst h
  iexact H
/-- The buffer, as a staged operand. -/
theorem stg_out (c : Dev nD) (b : Ref sig .tc) (X : b.ty.Contents (Elt F)) : (((c : Thread nD τ).loc b) ↦{fullShare} X : sProp 𝕄) ⊢ stg c b X := by
  iintro H
  iexists X
  isplitr
  · ipureintro; rfl
  iexact H

/-- Before the body a fetched window's buffer holds what was fetched. -/
theorem before_in (c : Dev nD) (w : Fin cfg0.W) (h : (cfg0.win w).fetch t₀ = true) (d) (X) (hX : (dats m ρ 0 c).fetched w t₀ d = X) : (dats (F := F) m ρ 0 c).before w t₀ d = X := by
  subst hX; unfold Dat.before; rw [if_pos h]

def bodyPre (c : Dev nD) : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))
def bodyPost (c : Dev nD) : sProp 𝕄 :=
  iprop(Φ₁ c ∗ (dats m ρ 0 c).owesAt () t₀.succ ∗ stg c cc0_stg0_0 (xst m ρ c) ∗ stg c cc0_stg1_0 (qst m ρ c) ∗ stg c cc0_stg2_0 (wst m ρ c)
    ∗ stg c cc0_stg3_0 (kst m ρ c) ∗ stg c cc0_stg4_0 (vst m ρ c) ∗ stg c cc0_stg5_0 (k0_pay120 (out m ρ)))

/-- The staged inputs are the blocks of the arguments. -/
theorem staged (c : Dev nD) (d0 d1 d2 d3 d4) : (dats m ρ 0 c).before (0 : Fin 6) t₀ d0 = xst m ρ c ∧ (dats m ρ 0 c).before (1 : Fin 6) t₀ d1 = qst m ρ c
    ∧ (dats m ρ 0 c).before (2 : Fin 6) t₀ d2 = wst m ρ c ∧ (dats m ρ 0 c).before (3 : Fin 6) t₀ d3 = kst m ρ c ∧ (dats m ρ 0 c).before (4 : Fin 6) t₀ d4 = vst m ρ c :=
  ⟨before_in m ρ c (0 : Fin 6) rfl _ _ rfl, before_in m ρ c (1 : Fin 6) rfl _ _ rfl, before_in m ρ c (2 : Fin 6) rfl _ _ rfl, before_in m ρ c (3 : Fin 6) rfl _ _ rfl,
    before_in m ρ c (4 : Fin 6) rfl _ _ rfl⟩

/-- The whole body: from the start to the published result, with every copy finished. -/
theorem sound_body (c : Dev nD) :
    bodyPre m ρ c ⊢ wp frame (wpE (Λ := Λ₀) (defs₀ (F := F)) 𝒱₀ (c : Thread nD τ) none) Set.univ
      (cc0_body xM (Memref.isWhole_whole _) qM (Memref.isWhole_whole _) woM (Memref.isWhole_whole _) kM (Memref.isWhole_whole _) vM (Memref.isWhole_whole _) outM (Memref.isWhole_whole _)
        accM (Memref.isWhole_whole _) txM (Memref.isWhole_whole _) rxM (Memref.isWhole_whole _) bfM (Memref.isWhole_whole _) cc0_scratch4 cc0_scratch5) (fun _ => bodyPost m ρ c) := by
  unfold bodyPre Φ₀ start Dat.owesAt Pipeline.owesWithin
  iintro ⟨⟨⟨⟨%K, #HK⟩, Hb⟩, Hs⟩, ⟨%W, %hW, HO⟩, ⟨%d0, H0⟩, ⟨%d1, H1⟩, ⟨%d2, H2⟩, ⟨%d3, H3⟩, ⟨%d4, H4⟩, ⟨%d5, H5⟩⟩
  obtain ⟨e0, e1, e2, e3, e4⟩ := staged m ρ c d0 d1 d2 d3 d4
  rw [e0, e1, e2, e3, e4, show (dats m ρ 0 c).owed t₀.castSucc = owB c [0, 1, 2, 3] from rfl]
  ihave H0 := (stg_in c cc0_stg0_0 (xst m ρ c)) $$ H0
  ihave H1 := (stg_in c cc0_stg1_0 (qst m ρ c)) $$ H1
  ihave H2 := (stg_in c cc0_stg2_0 (wst m ρ c)) $$ H2
  ihave H3 := (stg_in c cc0_stg3_0 (kst m ρ c)) $$ H3
  ihave H4 := (stg_in c cc0_stg4_0 (vst m ρ c)) $$ H4
  ihave H5 := (stg_in c cc0_stg5_0 _) $$ H5
  iapply (wp_body m ρ K (Memref.isWhole_whole _) (Memref.isWhole_whole _) (Memref.isWhole_whole _) (Memref.isWhole_whole _) (Memref.isWhole_whole _) (Memref.isWhole_whole _)
    (Memref.isWhole_whole _) (Memref.isWhole_whole _) (Memref.isWhole_whole _) (Memref.isWhole_whole _) c (fun _ => bodyPost m ρ c)) $$ [H0 H1 H2 H3 H4 H5 Hs HO Hb]
  · isplitr; · iexact HK
    isplitl [H0 H1 H3 H4]
    · unfold insS ins
      isplitl [H0]; · iexact H0
      isplitl [H1]; · iexact H1
      isplitl [H3]; · iexact H3
      iexact H4
    isplitl [H2]; · iexact H2
    isplitl [H5]; · iexists _; iexact H5
    isplitl [Hs]; · iexact Hs
    isplitl [HO]; · unfold owesE; iexists W; iexact HO
    iexact Hb
  unfold insS ins owesE
  iintro ⟨⟨H0, H1, H3, H4⟩, H2, H5, Hs, ⟨%W', HO⟩, Hd⟩
  unfold bodyPost Φ₁ Dat.owesAt Pipeline.owesWithin
  rw [show (dats m ρ 0 c).owed t₀.succ = 0 from rfl]
  isplitl [Hs Hd]
  · isplitl [Hs]; · iexact Hs
    iexact Hd
  isplitl [HO]
  · iexists W'
    isplitr; · ipureintro; exact fun _ _ => Or.inl trivial
    iexact HO
  isplitl [H0]; · iapply (stg_out c cc0_stg0_0 (xst m ρ c)); iexact H0
  isplitl [H1]; · iapply (stg_out c cc0_stg1_0 (qst m ρ c)); iexact H1
  isplitl [H2]; · iapply (stg_out c cc0_stg2_0 (wst m ρ c)); iexact H2
  isplitl [H3]; · iapply (stg_out c cc0_stg3_0 (kst m ρ c)); iexact H3
  isplitl [H4]; · iapply (stg_out c cc0_stg4_0 (vst m ρ c)); iexact H4
  iapply (stg_out c cc0_stg5_0 (k0_pay120 (out m ρ))); iexact H5

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_body m ρ c

end Cert.KernelIdealProof
-- ==== Proof.KernelIdealLaunch.lean ====
/- The launch: what each device starts from, and the run of the whole mesh. -/
module

public import proofs.«01_k».proof.Proof.KernelIdealBody
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells, counted -/

/-- The kernel's own semaphores are distinct and are none of the pipeline's. -/
theorem ownSemFacts : Pipeline.OwnSemFacts cfg0.spec osem := by decide
/-- Every window is held whole. -/
theorem share_eq (c : Dev nD) (w : Fin cfg0.W) : (dats m ρ 0 c).share w = fullShare := by unfold Dat.share; split <;> rfl

/-- Different cell numbers are different semaphores. -/
theorem csem_inj : Function.Injective csem := by decide
/-- Different devices or cell numbers are different cells. -/
theorem kcell_injective : Function.Injective (kcell : Dev nD × Fin 25 → GSem nD τ sig) := by
  rintro ⟨c, k⟩ ⟨c', k'⟩ h
  have h1 : c = c' := congrArg (fun g : GSem nD τ sig => g.1.1) h
  have h2 : k = k' := csem_inj (congrArg Prod.snd h)
  subst h1 h2; rfl
def ringCells : Finset (GSem nD τ sig) := Finset.univ.map ⟨kcell, kcell_injective⟩

def ksE : Fin 12 ↪ Fin 25 := ⟨ks, by decide⟩
def krE : Fin 12 ↪ Fin 25 := ⟨kr, by decide⟩
/-- The barrier's index, the send indices and the receive indices are all. -/
theorem fin25 (Φ : Fin 25 → sProp 𝕄) : bigSep Finset.univ Φ
    = iprop(Φ 0 ∗ bigSep Finset.univ (fun i : Fin 12 => Φ (ks i)) ∗ bigSep Finset.univ (fun i : Fin 12 => Φ (kr i))) := by
  rw [show (Finset.univ : Finset (Fin 25)) = insert 0 ((Finset.univ.map ksE) ∪ (Finset.univ.map krE)) by decide]
  rw [BI.bigSep_insert (by decide), BI.bigSep_union (by decide), BI.bigSep_map, BI.bigSep_map]
  rfl

def snE : Fin 12 ↪ Fin 24 := ⟨fun i => ⟨i.val, by omega⟩, by decide⟩
def rnE : Fin 12 ↪ Fin 24 := ⟨fun i => ⟨12 + i.val, by omega⟩, by decide⟩
/-- A product over the twenty-four copy semaphores: the sends and the receives. -/
theorem fin24 (Φ : Fin 24 → sProp 𝕄) : bigSep Finset.univ Φ
    = iprop(bigSep Finset.univ (fun i : Fin 12 => Φ (snE i)) ∗ bigSep Finset.univ (fun i : Fin 12 => Φ (rnE i))) := by
  rw [show (Finset.univ : Finset (Fin 24)) = (Finset.univ.map snE) ∪ (Finset.univ.map rnE) by decide]
  rw [BI.bigSep_union (by decide), BI.bigSep_map, BI.bigSep_map]
  rfl

/-- The first twelve of the kernel's own semaphores are the send semaphores. -/
theorem osem_s : ∀ i : Fin 12, osem (snE i) = .dma (sS i) := by decide
/-- The other twelve are the receive semaphores. -/
theorem osem_r : ∀ i : Fin 12, osem (rnE i) = .dma (rS i) := by decide

/-- The numbered cell of a send semaphore. -/
theorem kcell_s (c : Dev nD) (i : Fin 12) : kcell (c, ks i) = sendCell i c := by unfold kcell; rw [csem_ks]
/-- The numbered cell of a receive semaphore. -/
theorem kcell_r (c : Dev nD) (i : Fin 12) : kcell (c, kr i) = recvCell i c := by unfold kcell; rw [csem_kr]
/-- The numbered cell of the barrier. -/
theorem kcell_0 (c : Dev nD) : kcell (c, 0) = barCell c := rfl

/-- Something of every cell of device `c`, by kind. -/
theorem cells_eq (Φ : GSem nD τ sig → sProp 𝕄) (c : Dev nD) : (bigSep Finset.univ fun k : Fin 25 => Φ (kcell (c, k)))
    = iprop(Φ (barCell c) ∗ bigSep Finset.univ (fun i : Fin 12 => Φ (sendCell i c)) ∗ bigSep Finset.univ (fun i : Fin 12 => Φ (recvCell i c))) := by
  rw [fin25, kcell_0]
  simp only [kcell_s, kcell_r]

/-- The kernel's own semaphores at zero, as sends and receives. -/
theorem ownSems0_eq (c : Dev nD) : (Pipeline.ownSems0 (Ix := Unit) (Name := ℕ) (U := UU) (Lvl := ℕ) (Val := Elt F) (τ := τ) osem c : sProp 𝕄)
    = iprop(bigSep Finset.univ (fun i : Fin 12 => semVal (sendCell i c) 0) ∗ bigSep Finset.univ (fun i : Fin 12 => semVal (recvCell i c) 0)) := by
  unfold Pipeline.ownSems0
  rw [fin24]
  simp only [osem_s, osem_r]
/-- The only semaphore outside the kernel's own is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The tokens -/

/-- The duties of a device's own cells: its barrier's four, each send cell's and each receive cell's one. -/
abbrev tokOf (cj : Dev nD × (Fin 4 ⊕ (Fin 12 ⊕ Fin 12))) : GSem nD τ sig × ℕ × Fin 4 := match cj.2 with
  | .inl r => (barCell cj.1, 0, r) | .inr (.inl i) => (sendCell i cj.1, 0, 0) | .inr (.inr i) => (recvCell i cj.1, 0, 0)
/-- Different duties sit on different cells or have different numbers. -/
theorem tok_sem_inj : Function.Injective (fun j : Fin 4 ⊕ (Fin 12 ⊕ Fin 12) => ((match j with
    | .inl r => (SemLoc.reg barS, r) | .inr (.inl i) => (.dma (sS i), 0) | .inr (.inr i) => (.dma (rS i), 0)) : SemLoc sig × Fin 4)) := by decide
/-- Different duties of all devices together sit on different cells or have different numbers. -/
theorem tokOf_injective : Function.Injective tokOf := by
  rintro ⟨c, j⟩ ⟨c', j'⟩ h
  have h1 : c = c' := by
    have := congrArg (fun x : GSem nD τ sig × ℕ × Fin 4 => x.1.1.1) h
    rcases j with r | i | i <;> rcases j' with r' | i' | i' <;> exact this
  subst h1
  have : j = j' := tok_sem_inj (by
    have := congrArg (fun x : GSem nD τ sig × ℕ × Fin 4 => (x.1.2, x.2.2)) h
    rcases j with r | i | i <;> rcases j' with r' | i' | i' <;> exact this)
  subst this; rfl
def ringToks : Finset (GSem nD τ sig × ℕ × Fin 4) := Finset.univ.map ⟨tokOf, tokOf_injective⟩

def u₀ : UU :=
  (initOf (Pipeline.cells cfgs cellOf_inj) (Pipeline.launchToks cfgs cellOf_inj), initOf ringCells ringToks)

/-- The duty tokens of device `c`'s own cells, -/
def toks (c : Dev nD) : sProp 𝕄 :=
  iprop(bigSep Finset.univ (fun r : Fin 4 => dutyTok ER (barCell c) 0 r)
    ∗ bigSep Finset.univ (fun i : Fin 12 => dutyTok ER (sendCell i c) 0 0) ∗ bigSep Finset.univ (fun i : Fin 12 => dutyTok ER (recvCell i c) 0 0))
/-- and of the duties it pays. -/
def payToks (c : Dev nD) : sProp 𝕄 :=
  iprop(bigSep Finset.univ (fun r : Fin 4 => dutyTok ER (barCell (pt r c)) 0 r)
    ∗ bigSep Finset.univ (fun i : Fin 12 => dutyTok ER (sendCell i c) 0 0) ∗ bigSep Finset.univ (fun i : Fin 12 => dutyTok ER (recvCell i (pt (par i) c)) 0 0))

/-- What the launch element deals device `c`. -/
def G (c : Dev nD) : sProp 𝕄 :=
  iprop((bigSep Finset.univ fun k : Fin 25 => roundState ER (rd m ρ) (kcell (c, k)) 0)
    ∗ (bigSep Finset.univ fun k : Fin 25 => iprop(atPos ER (kcell (c, k)) 0 ∅ 0 ∗ reached ER (kcell (c, k)) 0)) ∗ toks c)

/-- The positions of its cells and the tokens it pays. -/
def linear (c : Dev nD) : sProp 𝕄 := iprop((bigSep Finset.univ fun k : Fin 25 => atPos ER (kcell (c, k)) 0 ∅ 0) ∗ payToks c)
/-- What the global step makes of it. -/
def G' (c : Dev nD) : sProp 𝕄 := iprop(∃ K, records m ρ K ∗ linear c)

/-- The initial ghost state gives each device its part. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 25 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [BI.bigSep_univ_sum, BI.bigSep_univ_sum]; rfl
  iintro HX
  imod (Rounds.fund ER (rd m ρ) ringCells ringToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device's semaphores at zero, as one product over its cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 25 => semVal (kcell (c, k)) 0 : sProp 𝕄) := by
  rw [ownSems0_eq, unscopedSems0_eq, cells_eq (fun g => (semVal g 0 : sProp 𝕄))]
  iintro ⟨⟨HS, HV⟩, HB⟩
  isplitl [HB]; · iexact HB
  isplitl [HS]; · iexact HS
  iexact HV

/-- A device's cells, opened: their invariants and the duties that go with them. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos]; · iexact Hos
    iexact Hus
  imod (show iprop((bigSep Finset.univ fun k : Fin 25 => semVal (kcell (c, k)) 0) ∗ bigSep Finset.univ fun k : Fin 25 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- The two orders of a double conjunction. -/
theorem bigSep_turn {I J : Type} [Fintype I] [DecidableEq I] [Fintype J] [DecidableEq J] (Φ : I → J → sProp 𝕄) :
    (bigSep Finset.univ fun i => bigSep Finset.univ fun j => Φ i j) = bigSep Finset.univ fun j => bigSep Finset.univ fun i => Φ i j := by
  rw [← bigSep_univ_prod (fun x : I × J => Φ x.1 x.2), ← bigSep_univ_prod (fun x : J × I => Φ x.2 x.1),
    bigSep_univ_equiv (Equiv.prodComm J I) (fun x : I × J => Φ x.1 x.2)]
  rfl

/-- The tokens change hands along the exchanges. -/
theorem toks_around : (bigSep Finset.univ fun c : Dev nD => (toks c : sProp 𝕄)) ⊢ bigSep Finset.univ fun c : Dev nD => payToks c := by
  unfold toks payToks
  simp only [bigSep_sep']
  rw [bigSep_turn (fun (c : Dev nD) (r : Fin 4) => (dutyTok ER (barCell c) 0 r : sProp 𝕄)),
    bigSep_turn (fun (c : Dev nD) (r : Fin 4) => (dutyTok ER (barCell (pt r c)) 0 r : sProp 𝕄)),
    bigSep_turn (fun (c : Dev nD) (i : Fin 12) => (dutyTok ER (recvCell i c) 0 0 : sProp 𝕄)),
    bigSep_turn (fun (c : Dev nD) (i : Fin 12) => (dutyTok ER (recvCell i (pt (par i) c)) 0 0 : sProp 𝕄)),
    bigSep_congr (s := Finset.univ) (fun (r : Fin 4) _ => bigSep_univ_equiv (swap r) (fun c : Dev nD => (dutyTok ER (barCell c) 0 r : sProp 𝕄))),
    bigSep_congr (s := Finset.univ) (fun (i : Fin 12) _ => bigSep_univ_equiv (swap (par i)) (fun c : Dev nD => (dutyTok ER (recvCell i c) 0 0 : sProp 𝕄)))]
  exact .rfl

/-- A persistent fact may be used in every factor of a product. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The devices' parts, dealt out again: each device gets the duties that it will pay. -/
theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 25 => iprop(∃ κ : ℕ, cellInv ER (rd m ρ) κ (kcell ck))),
    bigSep_congr (s := Finset.univ) (fun (c : Dev nD) _ => bigSep_sep' Finset.univ (fun k : Fin 25 => (atPos ER (kcell (c, k)) 0 ∅ 0 : sProp 𝕄)) (fun k => reached ER (kcell (c, k)) 0)),
    bigSep_sep', ← bigSep_univ_prod (fun ck : Dev nD × Fin 25 => (reached ER (kcell ck) 0 : sProp 𝕄))]
  iintro ⟨HI, ⟨Hat, #HR⟩, Htok⟩
  ihave HK := (BI.bigSep_exists_pi Finset.univ (fun (ck : Dev nD × Fin 25) (κ : ℕ) => (cellInv ER (rd m ρ) κ (kcell ck) : sProp 𝕄))) $$ HI
  icases HK with ⟨%K, #HI⟩
  ihave Htk := (toks_around (F := F)) $$ Htok
  iapply (with_persistent (R := records m ρ K) (Φ := linear) fun c _ => show iprop(records m ρ K ∗ linear c) ⊢ G' m ρ c from by
    unfold G'; iintro H; iexists K; iexact H)
  isplitr
  · unfold records; isplitl; · iexact HI
    iexact HR
  · unfold linear
    rw [bigSep_sep']
    isplitl [Hat]; · iexact Hat
    iexact Htk

/-- The global step, over all semaphores of all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- Two barrier cells are equal when their devices are. -/
theorem bar_eq_iff {a b : Dev nD} : barCell a = barCell b ↔ a = b :=
  ⟨fun h => congrArg (fun g : GSem nD τ sig => g.1.1) h, fun h => h ▸ rfl⟩
/-- Different copies have different receive semaphores. -/
theorem rS_inj : Function.Injective (fun i : Fin 12 => (SemLoc.dma (rS i) : SemLoc sig)) := by decide
/-- Two receive cells are equal when copy and device are. -/
theorem recv_eq_iff {i j : Fin 12} {a b : Dev nD} : recvCell i a = recvCell j b ↔ i = j ∧ a = b :=
  ⟨fun h => ⟨rS_inj (congrArg Prod.snd h), congrArg (fun g : GSem nD τ sig => g.1.1) h⟩, fun h => by rw [h.1, h.2]⟩
/-- A receive cell is no barrier cell. -/
theorem recv_ne_bar {i : Fin 12} {a b : Dev nD} : recvCell i a ≠ barCell b := fun h => nomatch (congrArg Prod.snd h)
/-- Being a partner is symmetric. -/
theorem pt_swap {r : Fin 4} {c d : Dev nD} : c = pt r d ↔ d = pt r c := ⟨fun h => by rw [h, pt_pt], fun h => by rw [h, pt_pt]⟩

/-- Owed copies owe nothing to a barrier. -/
theorem owR_bar (d c : Dev nD) (l : List (Fin 12)) : owR d l (barCell c) () = 0 := by
  induction l with
  | nil => rfl
  | cons i l ih => unfold owR; rw [Pi.add_apply, Finsupp.add_apply, ih, tallyAt_ne_cell (fun h => recv_ne_bar h.symm), Finsupp.zero_apply, Nat.add_zero]
/-- What the owed barrier signals owe to a device's barrier. -/
theorem owB_bar (d c : Dev nD) (l : List (Fin 4)) : owB d l (barCell c) () = (l.map fun r => if d = pt r c then 1 else 0).sum := by
  induction l with
  | nil => exact owR_bar d c order
  | cons r l ih =>
    unfold owB; rw [Pi.add_apply, Finsupp.add_apply, ih, tallyAt_apply, List.map_cons, List.sum_cons, Nat.add_comm]
    congr 1
    by_cases h : d = pt r c
    · rw [if_pos h, if_pos ⟨bar_eq_iff.mpr (pt_swap.mpr h), rfl⟩]
    · rw [if_neg h, if_neg fun h' => h (pt_swap.mp (bar_eq_iff.mp h'.1))]
/-- What the owed copies owe to a receive cell. -/
theorem owR_recv (d c : Dev nD) (i : Fin 12) (l : List (Fin 12)) (hl : l.Nodup) : owR d l (recvCell i c) () = if d = pt (par i) c then (if i ∈ l then N i else 0) else 0 := by
  induction l with
  | nil => simp [owR]
  | cons j l ih =>
    unfold owR; rw [Pi.add_apply, Finsupp.add_apply, ih (List.nodup_cons.mp hl).2, tallyAt_apply]
    have hj := (List.nodup_cons.mp hl).1
    by_cases h : d = pt (par i) c
    · by_cases hij : i = j
      · subst hij
        rw [if_pos h, if_neg hj, if_pos ⟨recv_eq_iff.mpr ⟨rfl, pt_swap.mpr h⟩, rfl⟩, if_pos h, if_pos List.mem_cons_self, Nat.zero_add]
      · rw [if_pos h, if_pos h, if_neg (c := recvCell i c = recvCell j (pt (par j) d) ∧ () = ()) fun h' => hij (recv_eq_iff.mp h'.1).1, Nat.add_zero]
        by_cases hm : i ∈ l
        · rw [if_pos hm, if_pos (List.mem_cons_of_mem _ hm)]
        · rw [if_neg hm, if_neg fun h' => (List.mem_cons.mp h').elim hij hm]
    · rw [if_neg h, if_neg h, if_neg fun h' => h (by obtain ⟨rfl, h2⟩ := recv_eq_iff.mp h'.1; exact pt_swap.mp h2)]
/-- The owed barrier signals owe nothing more to a receive cell. -/
theorem owB_recv (d c : Dev nD) (i : Fin 12) (l : List (Fin 4)) : owB d l (recvCell i c) () = owR d order (recvCell i c) () := by
  induction l with
  | nil => rfl
  | cons r l ih => unfold owB; rw [Pi.add_apply, Finsupp.add_apply, ih, tallyAt_ne_cell recv_ne_bar, Finsupp.zero_apply, Nat.add_zero]

/-- All devices together owe four units to each barrier. -/
theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same]
  unfold O₀
  rw [Finset.sum_congr rfl fun d _ => owB_bar d c _]
  simp only [List.map_cons, List.map_nil, List.sum_cons, List.sum_nil, Finset.sum_add_distrib]
  simp only [Finset.sum_ite_eq', Finset.mem_univ, if_true, Finset.sum_const_zero, Nat.reduceAdd]
/-- All devices together owe each receive cell one copy. -/
theorem launch_recv (c : Dev nD) (i : Fin 12) (hi : i ∈ order) :
    tallyOn (recvCell i c) (launchCredit (Pipeline.owing O₀) 0 (recvCell i c)) = (tallyAt (recvCell i c) () (N i) : CellTallies nD τ sig Unit) := by
  unfold tallyAt; refine congrArg _ (Finsupp.ext fun u => ?_); cases u
  rw [Pipeline.launchCredit_owing, Finsupp.single_eq_same]
  unfold O₀
  rw [Finset.sum_congr rfl fun d _ => (owB_recv d c i _).trans (owR_recv d c i order (by decide)), Finset.sum_ite_eq' Finset.univ (pt (par i) c) fun _ => _,
    if_pos (Finset.mem_univ _), if_pos hi]

/-- Every copy but the unused number 8 is in the order. -/
theorem order_mem : ∀ i : Fin 12, i ≠ 8 → i ∈ order := by decide
/-- Every receive cell used, as a set of semaphores. -/
def rsem : Finset (SemLoc sig) := (Finset.univ.erase (8 : Fin 12)).map ⟨fun i => .dma (rS i), rS_inj⟩

/-- The launch's credit of a device: its barrier's and its receive cells'. -/
theorem creds (c : Dev nD) :
    (Pipeline.launchCred O₀ c : sProp 𝕄) ⊢ iprop(cred (tallyAt (barCell c) () 4) ∗ bigSep (Finset.univ.erase (8 : Fin 12)) fun i => cred (tallyAt (recvCell i c) () (N i))) := by
  unfold Pipeline.launchCred
  rw [bigSep_univ_at _ (SemLoc.reg barS), launch_bar]
  refine sep_mono_right ?_
  refine (BI.bigSep_subset (t := rsem) (by decide)).trans ?_
  unfold rsem
  rw [BI.bigSep_map]
  exact bigSep_mono fun i hi => Entails.of_eq (congrArg cred (launch_recv c i (order_mem i (Finset.mem_erase.mp hi).1)))

/-! ## The side conditions of the launch -/

/-- A product over twelve, with number 8 taken out. -/
theorem erase8 (Φ : Fin 12 → sProp 𝕄) : bigSep Finset.univ Φ = iprop(Φ 8 ∗ bigSep (Finset.univ.erase 8) Φ) := BI.bigSep_erase (Finset.mem_univ _)

/-- One transfer's resources: everything but the unused entry's tokens. -/
theorem ghosts (c : Dev nD) : iprop(linear c ∗ cred (tallyAt (barCell c) () 4) ∗ bigSep (Finset.univ.erase (8 : Fin 12)) fun i => cred (tallyAt (recvCell i c) () (N i))) ⊢ (bag c : sProp 𝕄) := by
  unfold linear payToks bag
  rw [cells_eq (fun g => (atPos ER g 0 ∅ 0 : sProp 𝕄)), erase8 (fun i => (atPos ER (sendCell i c) 0 ∅ 0 : sProp 𝕄)),
    erase8 (fun i => (atPos ER (recvCell i c) 0 ∅ 0 : sProp 𝕄)),
    erase8 (fun i => (dutyTok ER (sendCell i c) 0 0 : sProp 𝕄)),
    erase8 (fun i => (dutyTok ER (recvCell i (pt (par i) c)) 0 0 : sProp 𝕄))]
  unfold gh
  simp only [bigSep_sep']
  iintro ⟨⟨⟨HB, ⟨Hs8, Hs⟩, ⟨Hr8, Hr⟩⟩, Hbar, ⟨-, HtS⟩, ⟨-, HtR⟩⟩, Hc4, Hc⟩
  isplitl [Hs Hr HtS HtR Hc]
  · isplitl [HtS]; · iexact HtS
    isplitl [HtR]; · iexact HtR
    isplitl [Hs]; · iexact Hs
    isplitl [Hr]; · iexact Hr
    iexact Hc
  isplitl [Hs8 Hr8]
  · isplitl [Hs8]; · iexact Hs8
    iexact Hr8
  isplitl [HB]; · iexact HB
  isplitl [Hbar]; · iexact Hbar
  iexact Hc4

/-- A device's start, from what the launch gives it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G'
  iintro ⟨-, #Hlev, Hcr, -, ⟨%K, #HK, Hl⟩⟩
  ihave Hc := (creds (F := F) c) $$ Hcr
  icases Hc with ⟨H1, HN⟩
  imodintro
  isplitl
  · isplitr
    · iexists K; unfold know; isplitr; · iexact HK
      iexact Hlev
    iapply (ghosts c)
    isplitl [Hl]; · iexact Hl
    isplitl [H1]; · iexact H1
    iexact HN
  · iempintro

/-- The body's first state, from the start and the scratch buffers. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

/-- The body's last state gives back every semaphore at zero and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scr done gd
  rw [bigSep_sep']
  iintro ⟨Hr, ⟨HzS, HzV⟩, HzB⟩
  isplitl [HzB]; · iexact HzB
  isplitl [HzS HzV]
  · isplitl [HzS]; · iexact HzS
    iexact HzV
  iexact Hr

/-- The pipeline's waits are allowed by the levels. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What window `w`'s array holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of sixteen devices, for any float values and from any memory with zero counters, every fair execution
    terminates with the six arrays of every device at the stated contents and every counter at zero. -/
theorem run_main (𝒱₀ : Variants) : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The five argument arrays hold at the end what they held. -/
theorem finalA_in (c : Dev nD) : finalA m ρ c (0 : Fin 6) = (s₀ m ρ).mem (win0_0.arr.view.loc (c : Thread nD τ)) ∧ finalA m ρ c (1 : Fin 6) = (s₀ m ρ).mem (win0_1.arr.view.loc (c : Thread nD τ))
    ∧ finalA m ρ c (2 : Fin 6) = (s₀ m ρ).mem (win0_2.arr.view.loc (c : Thread nD τ)) ∧ finalA m ρ c (3 : Fin 6) = (s₀ m ρ).mem (win0_3.arr.view.loc (c : Thread nD τ))
    ∧ finalA m ρ c (4 : Fin 6) = (s₀ m ρ).mem (win0_4.arr.view.loc (c : Thread nD τ)) :=
  ⟨(dats (F := F) m ρ 0 c).arrAt_in (0 : Fin 6) rfl _, (dats (F := F) m ρ 0 c).arrAt_in (1 : Fin 6) rfl _, (dats (F := F) m ρ 0 c).arrAt_in (2 : Fin 6) rfl _,
    (dats (F := F) m ρ 0 c).arrAt_in (3 : Fin 6) rfl _, (dats (F := F) m ρ 0 c).arrAt_in (4 : Fin 6) rfl _⟩

end Cert.KernelIdealProof
-- ==== Proof.KernelIdealFrame.lean ====
/- The run's result in terms of the memory at launch. -/
module

public import proofs.«01_k».proof.Proof.KernelIdealLaunch

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The staged blocks are the arguments, the flushed block the result -/

/-- The staged `x` is the argument. -/
theorem xst_eq (c : Dev nD) : xst m ρ c = m ((c : Thread nD τ).loc main_arg0) := by
  have hz : (fun a => (win0_0.index t₀) a * main_arg0.ty.shape.size a) = fun _ => 0 := funext fun a => by fin_cases a <;> decide
  exact Memref.read_access_unit_zero (Elt F) main_arg0 hz (fun a => by fin_cases a <;> decide) _

/-- The staged query projection is the argument. -/
theorem qst_eq (c : Dev nD) : qst m ρ c = m ((c : Thread nD τ).loc main_arg1) := by
  have hz : (fun a => (win0_1.index t₀) a * main_arg1.ty.shape.size a) = fun _ => 0 := funext fun a => by fin_cases a <;> decide
  exact Memref.read_access_unit_zero (Elt F) main_arg1 hz (fun a => by fin_cases a <;> decide) _

/-- The staged output projection is the argument. -/
theorem wst_eq (c : Dev nD) : wst m ρ c = m ((c : Thread nD τ).loc main_arg4) := by
  have hz : (fun a => (win0_2.index t₀) a * main_arg4.ty.shape.size a) = fun _ => 0 := funext fun a => by fin_cases a <;> decide
  exact Memref.read_access_unit_zero (Elt F) main_arg4 hz (fun a => by fin_cases a <;> decide) _

/-- The staged keys are the argument. -/
theorem kst_eq (c : Dev nD) : kst m ρ c = m ((c : Thread nD τ).loc main_arg2) := by
  have hz : (fun a => (win0_3.index t₀) a * main_arg2.ty.shape.size a) = fun _ => 0 := funext fun a => by fin_cases a <;> decide
  exact Memref.read_access_unit_zero (Elt F) main_arg2 hz (fun a => by fin_cases a <;> decide) _

/-- The staged values are the argument. -/
theorem vst_eq (c : Dev nD) : vst m ρ c = m ((c : Thread nD τ).loc main_arg3) := by
  have hz : (fun a => (win0_4.index t₀) a * main_arg3.ty.shape.size a) = fun _ => 0 := funext fun a => by fin_cases a <;> decide
  exact Memref.read_access_unit_zero (Elt F) main_arg3 hz (fun a => by fin_cases a <;> decide) _

/-- The result array of every device after the run. -/
theorem final_out (c : Dev nD) : finalA m ρ c (5 : Fin 6) = k0_pay120 (out m ρ) := by
  have ho : ((cfg0.win (5 : Fin 6)).blk t₀).view.read (Elt F) ((dats (F := F) m ρ 0 c).arrAt (5 : Fin 6) cfg0.N) = (dats (F := F) m ρ 0 c).flushed (5 : Fin 6) t₀ := by
    rw [show cfg0.N = (t₀ : Fin cfg0.N).val + 1 from rfl, (dats (F := F) m ρ 0 c).arrAt_succ (5 : Fin 6) t₀]
    rw [show (cfg0.win (5 : Fin 6)).flush t₀ = true from by decide, if_pos rfl]
    exact View.read_write_univ _ _
  have hz : (fun a => (win0_5.index t₀) a * main_v1.ty.shape.size a) = fun _ => 0 := funext fun a => by fin_cases a <;> decide
  have hr := fun f => Memref.read_access_unit_zero (Elt F) main_v1 hz (fun a => by fin_cases a <;> decide) f
  rw [hr] at ho
  exact ho

/-- What the run leaves: the argument arrays as they were, the result array, every counter at zero. -/
theorem run_all : θ_run defs (onTc (τ := τ) (main (F := F))) ⟨m, fun _ => 0, ρ⟩ (fun r => (∀ c : Dev nD,
    r.2.mem ((c.tc : Thread nD τ).loc main_v1) = k0_pay120 (out m ρ)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) ∧ r.2.sem = fun _ => 0) :=
  (θ_run defs _ _).mono (fun r h => ⟨fun c => by
    obtain ⟨e0, e1, e2, e3, e4⟩ := finalA_in m ρ c
    exact ⟨(h.1 c (5 : Fin 6)).trans (final_out m ρ c), (h.1 c (0 : Fin 6)).trans e0, (h.1 c (1 : Fin 6)).trans e1, (h.1 c (3 : Fin 6)).trans e3,
      (h.1 c (4 : Fin 6)).trans e4, (h.1 c (2 : Fin 6)).trans e2⟩, h.2⟩) (run_main m ρ Variants.none)

end Cert.KernelIdealProof
-- ==== Proof.Attention.lean ====
/-
# Softmax attention over extended reals

The value that the kernel and the reference share: grouped-query attention, its weights `exp` of the scores, over 8192
keys. Then what the reference needs, the running-maximum form of the same quotient; and what the kernel needs, the sum
over the keys cut in blocks.
-/
module

public import Idealize.ShloMosaic.PureOps.Ideal.Laws
public import Idealize.ShloMosaic.Lib.Pointwise

@[expose] public section

noncomputable section

namespace Cert.Attention

open Idealize.ShloMosaic

/-! ## Extended reals -/

/-- A factor that is a nonnegative real goes into a sum of any extended reals. -/
theorem coe_mul_sum {ι : Type} (c : ℝ) (hc : 0 ≤ c) (S : Finset ι) (f : ι → EReal) : (c : EReal) * ∑ t ∈ S, f t = ∑ t ∈ S, (c : EReal) * f t := by
  classical
  induction S using Finset.induction_on with
  | empty => simp
  | insert a S ha ih =>
    rw [Finset.sum_insert ha, Finset.sum_insert ha, EReal.left_distrib_of_nonneg_of_ne_top (EReal.coe_nonneg.mpr hc) (EReal.coe_ne_top c), ih]

/-- Such a factor on the right. -/
theorem sum_mul_coe {ι : Type} (c : ℝ) (hc : 0 ≤ c) (S : Finset ι) (f : ι → EReal) : (∑ t ∈ S, f t) * (c : EReal) = ∑ t ∈ S, f t * (c : EReal) := by
  rw [mul_comm, coe_mul_sum c hc]
  exact Finset.sum_congr rfl fun t _ => mul_comm _ _

/-- A sum of reals is the real sum. -/
theorem sum_coe {ι : Type} (S : Finset ι) (f : ι → EReal) (x : ι → ℝ) (h : ∀ t ∈ S, f t = x t) : ∑ t ∈ S, f t = ((∑ t ∈ S, x t : ℝ) : EReal) := by
  classical
  induction S using Finset.induction_on with
  | empty => simp
  | insert a S ha ih =>
    rw [Finset.sum_insert ha, Finset.sum_insert ha, h a (Finset.mem_insert_self _ _), ih fun t ht => h t (Finset.mem_insert_of_mem ht), EReal.coe_add]

/-- A value is real. -/
def IsReal (x : EReal) : Prop := ∃ r : ℝ, x = r

/-- A product of reals is real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A finite sum of reals is real. -/
theorem IsReal.sum {ι : Type} (S : Finset ι) (f : ι → EReal) (h : ∀ t ∈ S, IsReal (f t)) : IsReal (∑ t ∈ S, f t) := by
  classical
  induction S using Finset.induction_on with
  | empty => exact ⟨0, by simp⟩
  | insert a S ha ih =>
    obtain ⟨x, hx⟩ := h a (Finset.mem_insert_self _ _)
    obtain ⟨y, hy⟩ := ih fun t ht => h t (Finset.mem_insert_of_mem ht)
    exact ⟨x + y, by rw [Finset.sum_insert ha, hx, hy, EReal.coe_add]⟩

/-! ## The running maximum -/

/-- The sum of the weights below `n`, and the weighted sum of the values. -/
def den (s : ℕ → EReal) (n : ℕ) : EReal := ∑ t ∈ Finset.range n, Ideal.exp (s t)
def num (s v : ℕ → EReal) (n : ℕ) : EReal := ∑ t ∈ Finset.range n, Ideal.exp (s t) * v t

/-- The online form after the first `n` keys: nothing yet, or a real `μ` with both sums scaled by `exp (-μ)`. -/
def Inv (s v : ℕ → EReal) (n : ℕ) (m l o : EReal) : Prop :=
  (n = 0 ∧ m = ⊥ ∧ l = 0 ∧ o = 0) ∨
    ∃ μ : ℝ, m = μ ∧ l = (Real.exp (-μ) : EReal) * den s n ∧ o = (Real.exp (-μ) : EReal) * num s v n

/-- The maximum of what was there with finitely many reals, at least one, is real. -/
theorem max_real {k : ℕ} (hk : 0 < k) (f : Fin k → EReal) (hf : ∀ i, IsReal (f i)) (m : EReal) (hm : m ≠ ⊤) :
    IsReal (max m (Finset.univ.fold max ⊥ f)) := by
  have ht : max m (Finset.univ.fold max ⊥ f) < ⊤ :=
    max_lt (lt_top_iff_ne_top.mpr hm) (Finset.fold_max_lt _ |>.mpr ⟨bot_lt_top, fun i _ => by obtain ⟨x, hx⟩ := hf i; rw [hx]; exact EReal.coe_lt_top x⟩)
  have hb : ⊥ < max m (Finset.univ.fold max ⊥ f) :=
    lt_max_of_lt_right (Finset.lt_fold_max _ |>.mpr (.inr ⟨⟨0, hk⟩, Finset.mem_univ _, by obtain ⟨x, hx⟩ := hf ⟨0, hk⟩; rw [hx]; exact EReal.bot_lt_coe x⟩))
  exact ⟨_, (EReal.coe_toReal ht.ne hb.ne').symm⟩

/-- `exp` of a difference of reals is a product. -/
theorem exp_sub (x μ : ℝ) : Ideal.exp ((x : EReal) - (μ : EReal)) = (Real.exp (-μ) : EReal) * Ideal.exp (x : EReal) := by
  rw [← EReal.coe_sub, Ideal.exp_coe, Ideal.exp_coe, ← EReal.coe_mul, ← Real.exp_add]
  congr 2; ring

/-- One more chunk of keys. -/
theorem Inv.step {s v : ℕ → EReal} {n : ℕ} {m l o : EReal} (h : Inv s v n m l o) {k : ℕ} (hk : 0 < k) (hs : ∀ t, IsReal (s t)) {M : EReal}
    (hM : M = max m (Finset.univ.fold max ⊥ fun i : Fin k => s (n + i.val))) :
    Inv s v (n + k) M (l * Ideal.exp (m - M) + ∑ i : Fin k, Ideal.exp (s (n + i.val) - M))
      (o * Ideal.exp (m - M) + ∑ i : Fin k, v (n + i.val) * Ideal.exp (s (n + i.val) - M)) := by
  have hm : m ≠ ⊤ := by
    rcases h with ⟨-, rfl, -⟩ | ⟨μ, rfl, -⟩
    · exact bot_ne_top
    · exact EReal.coe_ne_top μ
  obtain ⟨ν, hν⟩ := max_real hk (fun i : Fin k => s (n + i.val)) (fun i => hs _) m hm
  rw [← hM] at hν
  subst hν
  have ew : ∀ t, Ideal.exp (s t - (ν : EReal)) = (Real.exp (-ν) : EReal) * Ideal.exp (s t) := fun t => by
    obtain ⟨x, hx⟩ := hs t
    rw [hx, exp_sub]
  have nn : 0 ≤ Real.exp (-ν) := (Real.exp_pos _).le
  have eL : ∑ i : Fin k, Ideal.exp (s (n + i.val) - (ν : EReal)) = (Real.exp (-ν) : EReal) * ∑ t ∈ Finset.range k, Ideal.exp (s (n + t)) := by
    rw [coe_mul_sum _ nn, ← Fin.sum_univ_eq_sum_range (fun t => (Real.exp (-ν) : EReal) * Ideal.exp (s (n + t))) k]
    exact Finset.sum_congr rfl fun i _ => ew _
  have eO : ∑ i : Fin k, v (n + i.val) * Ideal.exp (s (n + i.val) - (ν : EReal)) = (Real.exp (-ν) : EReal) * ∑ t ∈ Finset.range k, Ideal.exp (s (n + t)) * v (n + t) := by
    rw [coe_mul_sum _ nn, ← Fin.sum_univ_eq_sum_range (fun t => (Real.exp (-ν) : EReal) * (Ideal.exp (s (n + t)) * v (n + t))) k]
    exact Finset.sum_congr rfl fun i _ => by rw [ew, mul_comm, mul_assoc]
  refine .inr ⟨ν, rfl, ?_, ?_⟩
  · rw [eL, den, Finset.sum_range_add, EReal.left_distrib_of_nonneg_of_ne_top (EReal.coe_nonneg.mpr nn) (EReal.coe_ne_top _)]
    congr 1
    rcases h with ⟨rfl, rfl, rfl, -⟩ | ⟨μ, rfl, rfl, -⟩
    · simp
    · rw [← EReal.coe_sub, Ideal.exp_coe, mul_right_comm, ← EReal.coe_mul, ← Real.exp_add, den]
      congr 3; ring
  · rw [eO, num, Finset.sum_range_add, EReal.left_distrib_of_nonneg_of_ne_top (EReal.coe_nonneg.mpr nn) (EReal.coe_ne_top _)]
    congr 1
    rcases h with ⟨rfl, rfl, -, rfl⟩ | ⟨μ, rfl, -, rfl⟩
    · simp
    · rw [← EReal.coe_sub, Ideal.exp_coe, mul_right_comm, ← EReal.coe_mul, ← Real.exp_add, num]
      congr 3; ring

/-- The quotient at the end is the plain one: the scale cancels. -/
theorem Inv.div {s v : ℕ → EReal} {n : ℕ} {m l o : EReal} (h : Inv s v n m l o) (hn : 0 < n) (hs : ∀ t, IsReal (s t)) :
    Ideal.div o l = Ideal.div (num s v n) (den s n) := by
  rcases h with ⟨rfl, -⟩ | ⟨μ, rfl, rfl, rfl⟩
  · exact absurd hn (lt_irrefl _)
  choose x hx using hs
  have hd : den s n = ((∑ t ∈ Finset.range n, Real.exp (x t) : ℝ) : EReal) :=
    sum_coe _ _ _ fun t _ => by rw [hx, Ideal.exp_coe]
  have hp : 0 < ∑ t ∈ Finset.range n, Real.exp (x t) := Finset.sum_pos (fun t _ => Real.exp_pos _) ⟨0, Finset.mem_range.mpr hn⟩
  have he : (Real.exp (-μ) : EReal) ≠ 0 := EReal.coe_ne_zero.mpr (Real.exp_pos _).ne'
  have h1 : (Real.exp (-μ) : EReal) * (Real.exp (-μ) : EReal)⁻¹ = 1 := by
    rw [← EReal.coe_inv, ← EReal.coe_mul, mul_inv_cancel₀ (Real.exp_pos _).ne', EReal.coe_one]
  have hd0 : den s n ≠ 0 := by rw [hd]; exact EReal.coe_ne_zero.mpr hp.ne'
  have hm0 : (Real.exp (-μ) : EReal) * den s n ≠ 0 := mul_ne_zero he hd0
  unfold Ideal.div
  rw [if_neg hd0, if_neg hm0, EReal.mul_inv, mul_mul_mul_comm, h1, one_mul]

/-! ## The shared value -/

variable (X : (⟨3, ![2, 256, 768]⟩ : Shape).Idx → EReal) (Wq : (⟨2, ![768, 512]⟩ : Shape).Idx → EReal)
  (Wo : (⟨2, ![512, 768]⟩ : Shape).Idx → EReal) (K V : (⟨4, ![2, 8192, 2, 64]⟩ : Shape).Idx → EReal)

/-- The projected query. -/
def query (b : Fin 2) (r : Fin 256) (c : Fin 512) : EReal := ∑ m : Fin 768, X (ix3 b r m) * Wq (ix2 m c)

/-- Key (or value) number `t` of a group at a coordinate. -/
def keyAt (b : Fin 2) (g : Fin 2) (d : Fin 64) (t : ℕ) : EReal := if h : t < 8192 then K (ix4 b ⟨t, h⟩ g d) else 0

/-- The group of a head. -/
def grp (h : Fin 8) : Fin 2 := ⟨h.val / 4, by omega⟩

/-- The column of a head's coordinate. -/
def hcol (h : Fin 8) (d : Fin 64) : Fin 512 := ⟨64 * h.val + d.val, by omega⟩

/-- The scaled score of a query row against key `t`. -/
def score (b : Fin 2) (r : Fin 256) (h : Fin 8) (t : ℕ) : EReal :=
  (∑ d : Fin 64, query X Wq b r (hcol h d) * keyAt K b (grp h) d t) * Ideal.ofBits .f32 0x3E000000#32

/-- The attention output of a head's coordinate. -/
def att (b : Fin 2) (r : Fin 256) (h : Fin 8) (d : Fin 64) : EReal :=
  Ideal.div (num (score X Wq K b r h) (keyAt V b (grp h) d) 8192) (den (score X Wq K b r h) 8192)

/-- The result at batch entry `b`, row `r`, column `c`. -/
def result (b : Fin 2) (r : Fin 256) (c : Fin 768) : EReal :=
  ∑ j : Fin 512, att X Wq K V b r ⟨j.val / 64, by omega⟩ ⟨j.val % 64, by omega⟩ * Wo (ix2 j c)

/-- The score's scale is the real one eighth. -/
theorem eighth : Ideal.ofBits .f32 0x3E000000#32 = (((1 : ℝ) / 8 : ℝ) : EReal) := by
  simp [Ideal.ofBits, Ideal.ieee, -EReal.coe_mul]; norm_num

/-- With `X`, `Wq` and the keys finite every score is real. -/
theorem score_real (hX : ∀ i, IsReal (X i)) (hW : ∀ i, IsReal (Wq i)) (hK : ∀ i, IsReal (K i)) (b : Fin 2) (r : Fin 256) (h : Fin 8) (t : ℕ) :
    IsReal (score X Wq K b r h t) := by
  refine IsReal.mul (IsReal.sum _ _ fun d _ => IsReal.mul (IsReal.sum _ _ fun m _ => IsReal.mul (hX _) (hW _)) ?_) ⟨_, eighth⟩
  unfold keyAt
  split
  · exact hK _
  · exact ⟨0, rfl⟩

/-- The scale may be put on the query instead. -/
theorem score_scaled (b : Fin 2) (r : Fin 256) (h : Fin 8) (t : ℕ) :
    ∑ d : Fin 64, query X Wq b r (hcol h d) * Ideal.ofBits .f32 0x3E000000#32 * keyAt K b (grp h) d t = score X Wq K b r h t := by
  unfold score
  rw [eighth, sum_mul_coe _ (by norm_num)]
  exact Finset.sum_congr rfl fun d _ => mul_right_comm _ _ _

/-- A sum over `N` blocks of `k` is the sum over `N * k`. -/
theorem sum_blocks (f : ℕ → EReal) (k : ℕ) : ∀ N : ℕ, ∑ c : Fin N, ∑ i : Fin k, f (k * c.val + i.val) = ∑ t ∈ Finset.range (k * N), f t
  | 0 => by simp
  | N + 1 => by
    rw [Fin.sum_univ_castSucc, Nat.mul_succ, Finset.sum_range_add, ← sum_blocks f k N]
    refine congrArg₂ (· + ·) rfl ?_
    exact Fin.sum_univ_eq_sum_range (fun t => f (k * N + t)) k

end Cert.Attention

end
-- ==== Proof.KernelIdealCells.lean ====
/-
# The kernel's payloads read at an index, at exact arithmetic
-/
module

public import proofs.«01_k».proof.Proof.KernelIdealProto
public import proofs.«01_k».proof.Proof.Attention

@[expose] public section

noncomputable section

namespace Cert.KernelIdealProof

open Cert.KernelIdeal Cert.KernelIdeal.Gen

open Idealize.ShloMosaic
open Idealize.ShloMosaic.TcCoe

set_option maxRecDepth 16384

/-- The scaled query projection of a batch entry. -/
theorem q_at (x : Vec Ideal S1x256x768 .bf16) (wq : Vec Ideal S768x512 .bf16) (r : Fin 256) (c : Fin 512) :
    k0_pay1 x wq (ix2 r c) = (∑ m : Fin 768, x (ix3 0 r m) * wq (ix2 m c)) * Ideal.ofBits .f32 0x3E000000#32 := by
  pointwise [k0_pay1]

/-- The keys' two groups, side by side. -/
theorem k_at (k : Vec Ideal S1x512x2x64 .bf16) (t : Fin 512) (c : Fin 128) :
    k0_pay2 k (ix2 t c) = k (ix4 0 t ⟨c.val / 64, by omega⟩ ⟨c.val % 64, by omega⟩) := by
  pointwise [k0_pay2]

/-- The values' two groups, side by side. -/
theorem v_at (k : Vec Ideal S1x512x2x64 .bf16) (t : Fin 512) (c : Fin 128) :
    k0_pay3 k (ix2 t c) = k (ix4 0 t ⟨c.val / 64, by omega⟩ ⟨c.val % 64, by omega⟩) := by
  pointwise [k0_pay3]

/-- One head's local weight of key `t`: `exp` of the scaled query against it. -/
def wloc (x : Vec Ideal S1x256x768 .bf16) (wq : Vec Ideal S768x512 .bf16) (k : Vec Ideal S1x512x2x64 .bf16) (r : Fin 256) (h : Fin 8) (t : Fin 512) : EReal :=
  Ideal.exp (∑ d : Fin 64, k0_pay1 x wq (ix2 r (Attention.hcol h d)) * k (ix4 0 t (Attention.grp h) d))

/-- The weights of the first four heads, stacked. -/
theorem p4_at (x : Vec Ideal S1x256x768 .bf16) (wq : Vec Ideal S768x512 .bf16) (k : Vec Ideal S1x512x2x64 .bf16) (h : Fin 4) (r : Fin 256) (t : Fin 512) :
    k0_pay4 x wq k (ix2 ⟨256 * h.val + r.val, by omega⟩ t) = wloc x wq k r ⟨h.val, by omega⟩ t := by
  unfold wloc
  pointwise [k0_pay4]
  refine congrArg Ideal.exp (Finset.sum_congr rfl fun d _ => ?_)
  rw [k_at]
  refine congrArg₂ (· * ·) ?_ ?_
  · have hr := r.isLt
    rcases h with ⟨h, hh⟩
    rcases (by omega : h = 0 ∨ h = 1 ∨ h = 2 ∨ h = 3) with rfl | rfl | rfl | rfl <;> dsimp only [Attention.hcol]
    · rw [dif_pos (by omega)]
      congr 2 <;> (apply Fin.ext; simp only []; omega)
    · rw [dif_neg (by omega), dif_pos (by omega)]
      congr 2 <;> (apply Fin.ext; simp only []; omega)
    · rw [dif_neg (by omega), dif_neg (by omega), dif_pos (by omega)]
      congr 2 <;> (apply Fin.ext; simp only []; omega)
    · rw [dif_neg (by omega), dif_neg (by omega), dif_neg (by omega)]
      congr 2 <;> (apply Fin.ext; simp only []; omega)
  · congr 2 <;> (apply Fin.ext; simp only [Attention.grp]; omega)

/-- The weights of the last four heads, stacked. -/
theorem p16_at (x : Vec Ideal S1x256x768 .bf16) (wq : Vec Ideal S768x512 .bf16) (k : Vec Ideal S1x512x2x64 .bf16) (h : Fin 4) (r : Fin 256) (t : Fin 512) :
    k0_pay16 (k0_pay1 x wq) (k0_pay2 k) (ix2 ⟨256 * h.val + r.val, by omega⟩ t) = wloc x wq k r ⟨4 + h.val, by omega⟩ t := by
  unfold wloc
  pointwise [k0_pay16]
  refine congrArg Ideal.exp (Finset.sum_congr rfl fun d _ => ?_)
  rw [k_at]
  refine congrArg₂ (· * ·) ?_ ?_
  · have hr := r.isLt
    rcases h with ⟨h, hh⟩
    rcases (by omega : h = 0 ∨ h = 1 ∨ h = 2 ∨ h = 3) with rfl | rfl | rfl | rfl <;> dsimp only [Attention.hcol]
    · rw [dif_pos (by omega)]
      congr 2 <;> (apply Fin.ext; simp only []; omega)
    · rw [dif_neg (by omega), dif_pos (by omega)]
      congr 2 <;> (apply Fin.ext; simp only []; omega)
    · rw [dif_neg (by omega), dif_neg (by omega), dif_pos (by omega)]
      congr 2 <;> (apply Fin.ext; simp only []; omega)
    · rw [dif_neg (by omega), dif_neg (by omega), dif_neg (by omega)]
      congr 2 <;> (apply Fin.ext; simp only []; omega)
  · congr 2 <;> (apply Fin.ext; simp only [Attention.grp]; omega)

/-- The first four heads' denominators: sums of weights. -/
theorem p5_at (x : Vec Ideal S1x256x768 .bf16) (wq : Vec Ideal S768x512 .bf16) (k : Vec Ideal S1x512x2x64 .bf16) (R : Fin 1024) :
    k0_pay5 x wq k (ix2 R 0) = ∑ t : Fin 512, k0_pay4 x wq k (ix2 R t) := by
  pointwise [k0_pay5]

/-- The last four heads' denominators. -/
theorem p17_at (q : FVec Ideal S256x512 .f32) (k : FVec Ideal S512x128 .bf16) (R : Fin 1024) :
    k0_pay17 q k (ix2 R 0) = ∑ t : Fin 512, k0_pay16 q k (ix2 R t) := by
  pointwise [k0_pay17]

/-- The first four heads' unnormalised outputs. -/
theorem p6_at (x : Vec Ideal S1x256x768 .bf16) (wq : Vec Ideal S768x512 .bf16) (k v : Vec Ideal S1x512x2x64 .bf16) (R : Fin 1024) (d : Fin 64) :
    k0_pay6 x wq k v (ix2 R d) = ∑ t : Fin 512, k0_pay4 x wq k (ix2 R t) * v (ix4 0 t 0 d) := by
  pointwise [k0_pay6, v_at]
  refine Finset.sum_congr rfl fun t _ => congrArg (_ * ·) (congrArg v ?_)
  congr 1 <;> (apply Fin.ext; simp only []; omega)

/-- The last four heads' unnormalised outputs. -/
theorem p18_at (q : FVec Ideal S256x512 .f32) (k : FVec Ideal S512x128 .bf16) (v : Vec Ideal S1x512x2x64 .bf16) (R : Fin 1024) (d : Fin 64) :
    k0_pay18 q k (k0_pay3 v) (ix2 R d) = ∑ t : Fin 512, k0_pay16 q k (ix2 R t) * v (ix4 0 t 1 d) := by
  pointwise [k0_pay18, v_at]
  refine Finset.sum_congr rfl fun t _ => congrArg (_ * ·) (congrArg v ?_)
  congr 1 <;> (apply Fin.ext; simp only []; omega)

/-- The finished block: quotients, against the output projection. -/
theorem p119_at (a : Vec Ideal S32x520 .f32) (w : Vec Ideal S512x768 .bf16) (r : Fin 32) (c : Fin 768) :
    k0_pay119 a w (ix2 r c) = ∑ j : Fin 512, Ideal.div (a (ix2 r ⟨j.val, by omega⟩)) (a (ix2 r ⟨512 + j.val / 64, by omega⟩)) * w (ix2 j c) := by
  pointwise [k0_pay119]
  refine Finset.sum_congr rfl fun j _ => congrArg (· * _) ?_
  split_ifs <;> (refine congrArg₂ Ideal.div ?_ ?_ <;> refine congrArg a (congrArg (ix2 r) (Fin.ext ?_)) <;> simp only [] <;> omega)

/-! ## A batch entry's partial sums -/

/-- An index from two numbers is the index from two bounded coordinates. -/
theorem mk2_eq {n0 n1 : ℕ} (a b : ℕ) (ha : a < n0) (hb : b < n1) : mk2 a b ha hb = ix2 ⟨a, ha⟩ ⟨b, hb⟩ := by
  funext x; fin_cases x <;> rfl

/-- Column `64 h + d` of the partial sums: the local weights against the values. -/
theorem part_num (x : Vec Ideal S1x256x768 .bf16) (wq : Vec Ideal S768x512 .bf16) (k v : Vec Ideal S1x512x2x64 .bf16) (r : Fin 256) (h : Fin 8) (d : Fin 64)
    (hc : 64 * h.val + d.val < 520) :
    part x wq k v r.val (64 * h.val + d.val) r.isLt hc = ∑ t : Fin 512, wloc x wq k r h t * v (ix4 0 t (Attention.grp h) d) := by
  unfold part
  have hh := h.isLt; have hd := d.isLt
  have e1 : (64 * h.val + d.val) / 64 = h.val := by omega
  have e2 : (64 * h.val + d.val) % 64 = d.val := by omega
  rw [dif_pos (by omega)]
  by_cases h4 : h.val < 4
  · rw [dif_pos (by omega)]
    simp only [mk2_eq, e1, e2]
    rw [p6_at]
    refine Finset.sum_congr rfl fun t _ => congrArg₂ (· * ·) (p4_at x wq k ⟨h.val, h4⟩ r t) (congrArg v ?_)
    congr 1; apply Fin.ext; simp only [Attention.grp]; symm; exact Nat.div_eq_of_lt h4
  · rw [dif_neg (by omega)]
    simp only [mk2_eq, e1, e2]
    rw [p18_at]
    refine Finset.sum_congr rfl fun t _ => congrArg₂ (· * ·) ((p16_at x wq k ⟨h.val - 4, by omega⟩ r t).trans ?_) (congrArg v ?_)
    · congr 1; apply Fin.ext; simp only []; omega
    · congr 1; apply Fin.ext; simp only [Attention.grp]; show 1 = h.val / 4; omega

/-- Column `512 + h`: the sum of the local weights. -/
theorem part_den (x : Vec Ideal S1x256x768 .bf16) (wq : Vec Ideal S768x512 .bf16) (k v : Vec Ideal S1x512x2x64 .bf16) (r : Fin 256) (h : Fin 8)
    (hc : 512 + h.val < 520) :
    part x wq k v r.val (512 + h.val) r.isLt hc = ∑ t : Fin 512, wloc x wq k r h t := by
  unfold part
  have hh := h.isLt
  rw [dif_neg (by omega)]
  by_cases h4 : h.val < 4
  · rw [dif_pos (by omega)]
    have e : 512 + h.val - 512 = h.val := by omega
    simp only [mk2_eq, e]
    exact (p5_at x wq k _).trans (Finset.sum_congr rfl fun t _ => p4_at x wq k ⟨h.val, h4⟩ r t)
  · rw [dif_neg (by omega)]
    have e : 512 + h.val - 516 = h.val - 4 := by omega
    simp only [mk2_eq, e]
    refine (p17_at _ _ _).trans (Finset.sum_congr rfl fun t _ => (p16_at x wq k ⟨h.val - 4, by omega⟩ r t).trans ?_)
    congr 1; apply Fin.ext; simp only []; omega

/-! ## The loads -/

/-- The load of a batch entry of `x`, read at an index. -/
theorem xld_at (b : Fin 2) (f : Vec Ideal S2x256x768 .bf16) (r : Fin 256) (j : Fin 768) : xld b.val (inbX b.val b.isLt) f (ix3 0 r j) = f (ix3 b r j) := by
  refine congrArg f (funext fun a => Fin.ext ?_)
  fin_cases a
  · show b.val + 1 * 0 = b.val; omega
  · show 0 + 1 * r.val = r.val; omega
  · show 0 + 1 * j.val = j.val; omega

/-- The load of a batch entry of the keys, read at an index. -/
theorem kld_at (b : Fin 2) (f : Vec Ideal S2x512x2x64 .bf16) (t : Fin 512) (g : Fin 2) (d : Fin 64) : kld b.val (inbK b.val b.isLt) f (ix4 0 t g d) = f (ix4 b t g d) := by
  refine congrArg f (funext fun a => Fin.ext ?_)
  fin_cases a
  · show b.val + 1 * 0 = b.val; omega
  · show 0 + 1 * t.val = t.val; omega
  · show 0 + 1 * g.val = g.val; omega
  · show 0 + 1 * d.val = d.val; omega

/-- The load of a batch entry of the values, read at an index. -/
theorem vld_at (b : Fin 2) (f : Vec Ideal S2x512x2x64 .bf16) (t : Fin 512) (g : Fin 2) (d : Fin 64) : vld b.val (inbK b.val b.isLt) f (ix4 0 t g d) = f (ix4 b t g d) :=
  kld_at b f t g d

/-- The load of the query projection is the whole array. -/
theorem qld_eq (f : Vec Ideal S768x512 .bf16) : qld f = f := by
  funext j
  refine congrArg f (funext fun a => Fin.ext ?_)
  fin_cases a
  · show 0 + 1 * (j 0).val = (j 0).val; omega
  · show 0 + 1 * (j 1).val = (j 1).val; omega

/-- The load of the output projection is the whole array. -/
theorem wld_eq (f : Vec Ideal S512x768 .bf16) : wld f = f := by
  funext j
  refine congrArg f (funext fun a => Fin.ext ?_)
  fin_cases a
  · show 0 + 1 * (j 0).val = (j 0).val; omega
  · show 0 + 1 * (j 1).val = (j 1).val; omega

end Cert.KernelIdealProof
-- ==== Proof.KernelIdealValue.lean ====
/-
# What the kernel's buffers hold, at exact arithmetic

A device's accumulator holds its own keys' share of every sum. Each exchange step adds the partner's share on the rows
that are kept, so that after four steps a device's block holds the sums over all keys.
-/
module

public import proofs.«01_k».proof.Proof.KernelIdealCells
public import proofs.«01_k».proof.Proof.KernelIdealPartial

@[expose] public section

noncomputable section

namespace Cert.KernelIdealProof

open Cert.KernelIdeal Cert.KernelIdeal.Gen

open Idealize.ShloMosaic
open Idealize.ShloMosaic.TcCoe
open Cert.Attention (query keyAt grp hcol score att result num den)

variable (m : (ℓ : Loc nD τ sig) → Buf (Elt Ideal) ℓ) (ρ : Dev nD → PrngReg)

/-! ## The four exchange steps -/

/-- A read of whole rows of the accumulator, at an index. -/
theorem rdA_at {off sz : Fin 2 → ℕ} (inb : ∀ a, off a + sz a ≤ S512x520.size a) (f : Vec Ideal S512x520 .f32) (j : (⟨2, sz⟩ : Shape).Idx)
    (i : S512x520.Idx) (h : ∀ a, (i a).val = off a + (j a).val) : rdA off sz inb f j = f i := by
  refine congrArg f (funext fun a => Fin.ext ?_)
  refine Eq.trans ?_ (h a).symm
  show off a + 1 * (j a).val = off a + (j a).val
  omega

/-- A write of whole rows, inside them. -/
theorem wrA_at {off sz : Fin 2 → ℕ} (inb : ∀ a, off a + sz a ≤ S512x520.size a) (f : Vec Ideal S512x520 .f32) (w : (⟨2, sz⟩ : Shape).Idx → EReal)
    (j : (⟨2, sz⟩ : Shape).Idx) (i : S512x520.Idx) (h : ∀ a, (i a).val = off a + (j a).val) : wrA off sz inb f w i = w j := by
  have e : (accM.access (Rect.unit (s := S512x520) off sz inb)).emb j = i := by
    funext a
    apply Fin.ext
    refine Eq.trans ?_ (h a).symm
    show off a + 1 * (j a).val = off a + (j a).val
    omega
  rw [← e]
  exact View.write_emb_of_mem (Val := Elt Ideal) (v := accM.access (Rect.unit (s := S512x520) off sz inb)) f w (M := Finset.univ) (Finset.mem_univ j)

/-- Kept rows, overwritten with themselves plus the partner's, hold the sum. -/
theorem add_at {n : ℕ} {o o' : Fin 2 → ℕ} (inb : ∀ a, o a + (![n, 520] : Fin 2 → ℕ) a ≤ S512x520.size a) (inb' : ∀ a, o' a + (![n, 520] : Fin 2 → ℕ) a ≤ S512x520.size a)
    (ho : o' = o) (h1 : o 1 = 0) (f g : Vec Ideal S512x520 .f32) (w : (⟨2, ![n, 520]⟩ : Shape).Idx → EReal)
    (hw : ∀ j, w j = (rdA o ![n, 520] inb f j + rdA o' ![n, 520] inb' g j : EReal)) (i : S512x520.Idx) (hl : o 0 ≤ (i 0).val) (hr : (i 0).val < o 0 + n) :
    wrA o ![n, 520] inb f w i = (f i + g i : EReal) := by
  subst ho
  have hj : ∀ a, (i a).val = o' a + ((mk2 ((i 0).val - o' 0) (i 1).val (by omega) (i 1).isLt : (⟨2, ![n, 520]⟩ : Shape).Idx) a).val := by
    intro a
    fin_cases a
    · show (i 0).val = o' 0 + ((i 0).val - o' 0); omega
    · show (i 1).val = o' 1 + (i 1).val; omega
  rw [wrA_at inb f w _ i hj, hw, rdA_at inb f _ i hj, rdA_at inb' g _ i hj]

/-- The block of an accumulator row. -/
def ablk (i : S512x520.Idx) : Fin 16 := ⟨(i 0).val / 32, by have h : (i 0).val < 512 := (i 0).isLt; omega⟩

/-- The rows kept in step 0 begin at the half that holds the device's block. -/
theorem keep0 (c : Dev nD) (b : Fin 16) (h : (pos c).val / 8 = b.val / 8) : 256 * (c.val % 2) = 256 * (b.val / 8) := by revert c b; decide +kernel
/-- In step 0 the partner sends the rows that the device keeps. -/
theorem off12 (c : Dev nD) : k0_off1 (pt 0 c) = k0_off2 c := by revert c; decide +kernel
/-- The same in step 1. -/
theorem off34 (c : Dev nD) : k0_off3 (pt 1 c) = k0_off4 c := by revert c; decide +kernel
/-- The same in step 2. -/
theorem off56 (c : Dev nD) : k0_off5 (pt 2 c) = k0_off6 c := by revert c; decide +kernel
/-- The same in step 3. -/
theorem off78 (c : Dev nD) : k0_off7 (pt 3 c) = k0_off8 c := by revert c; decide +kernel

/-- After step 0, on the rows kept: the sum of the device's and the partner's accumulators. -/
theorem step0 (c : Dev nD) (i : S512x520.Idx) (h : (pos c).val / 8 = (ablk i).val / 8) :
    acc1 m ρ c i = (acc0 m ρ c i + acc0 m ρ (pt 0 c) i : EReal) := by
  have k := keep0 c (ablk i) h
  have e : (ablk i).val = (i 0).val / 32 := rfl
  refine add_at (n := 256) (k0_off2_inb c) (k0_off1_inb (pt 0 c)) (off12 c) (by rw [off2_eq]; rfl) _ (acc0 m ρ (pt 0 c)) _ (fun j => ?_) i ?_ ?_
  · pointwise [k0_pay110, snd0, k0_pay93]
  · rw [off2_eq]; show 256 * (c.val % 2) ≤ _; omega
  · rw [off2_eq]; show _ < 256 * (c.val % 2) + 256; omega

/-- After step 1, on the rows kept. -/
theorem step1 (c : Dev nD) (i : S512x520.Idx) (h : (pos c).val / 4 = (ablk i).val / 4) :
    acc2 m ρ c i = (acc1 m ρ c i + acc1 m ρ (pt 1 c) i : EReal) := by
  have e : (ablk i).val = (i 0).val / 32 := rfl
  refine add_at (n := 128) (k0_off4_inb c) (k0_off3_inb (pt 1 c)) (off34 c) (by rw [off4_eq]; rfl) _ (acc1 m ρ (pt 1 c)) _ (fun j => ?_) i ?_ ?_
  · pointwise [k0_pay112, snd1, k0_pay111]
  · rw [off4_eq]; show 32 * (4 * ((pos c).val / 4)) ≤ _; omega
  · rw [off4_eq]; show _ < 32 * (4 * ((pos c).val / 4)) + 128; omega

/-- After step 2, on the rows kept. -/
theorem step2 (c : Dev nD) (i : S512x520.Idx) (h : (pos c).val / 2 = (ablk i).val / 2) :
    acc3 m ρ c i = (acc2 m ρ c i + acc2 m ρ (pt 2 c) i : EReal) := by
  have e : (ablk i).val = (i 0).val / 32 := rfl
  refine add_at (n := 64) (k0_off6_inb c) (k0_off5_inb (pt 2 c)) (off56 c) (by rw [off6_eq]; rfl) _ (acc2 m ρ (pt 2 c)) _ (fun j => ?_) i ?_ ?_
  · pointwise [k0_pay115, snd2, k0_pay113, k0_pay114]
  · rw [off6_eq]; show 32 * (2 * ((pos c).val / 2)) ≤ _; omega
  · rw [off6_eq]; show _ < 32 * (2 * ((pos c).val / 2)) + 64; omega

/-- After step 3, on the device's own rows. -/
theorem step3 (c : Dev nD) (i : S512x520.Idx) (h : (pos c).val = (ablk i).val) :
    acc4 m ρ c i = (acc3 m ρ c i + acc3 m ρ (pt 3 c) i : EReal) := by
  have e : (ablk i).val = (i 0).val / 32 := rfl
  refine add_at (n := 32) (k0_off8_inb c) (k0_off7_inb (pt 3 c)) (off78 c) (by rw [off8_eq]; rfl) _ (acc3 m ρ (pt 3 c)) _ (fun j => ?_) i ?_ ?_
  · pointwise [k0_pay117, k0_pay118, snd3, k0_pay116]
  · rw [off8_eq]; show 32 * (pos c).val ≤ _; omega
  · rw [off8_eq]; show _ < 32 * (pos c).val + 32; omega

/-- Of a pair of devices exchanging in a later step both keep the rows kept later. -/
theorem pos_pt (r : Fin 4) (c : Dev nD) : (pos (pt r c)).val / 2 ^ (4 - r.val) = (pos c).val / 2 ^ (4 - r.val) := by revert r c; decide +kernel

/-- A device and the fifteen it reaches through the four steps. -/
def reach (c : Dev nD) : List (Dev nD) :=
  [c, pt 0 c, pt 1 c, pt 0 (pt 1 c), pt 2 c, pt 0 (pt 2 c), pt 1 (pt 2 c), pt 0 (pt 1 (pt 2 c)),
   pt 3 c, pt 0 (pt 3 c), pt 1 (pt 3 c), pt 0 (pt 1 (pt 3 c)), pt 2 (pt 3 c), pt 0 (pt 2 (pt 3 c)), pt 1 (pt 2 (pt 3 c)), pt 0 (pt 1 (pt 2 (pt 3 c)))]

/-- These are all sixteen devices, each once. -/
theorem reach_perm (c : Dev nD) : (reach c).Perm (List.finRange 16) := by revert c; decide +kernel

/-- Sixteen devices' values, paired as the steps pair them. -/
theorem sum_steps (g : Dev nD → EReal) (c : Dev nD) : ∑ d : Dev nD, g d =
    (((g c + g (pt 0 c)) + (g (pt 1 c) + g (pt 0 (pt 1 c)))) + ((g (pt 2 c) + g (pt 0 (pt 2 c))) + (g (pt 1 (pt 2 c)) + g (pt 0 (pt 1 (pt 2 c))))))
    + (((g (pt 3 c) + g (pt 0 (pt 3 c))) + (g (pt 1 (pt 3 c)) + g (pt 0 (pt 1 (pt 3 c))))) + ((g (pt 2 (pt 3 c)) + g (pt 0 (pt 2 (pt 3 c)))) + (g (pt 1 (pt 2 (pt 3 c))) + g (pt 0 (pt 1 (pt 2 (pt 3 c))))))) := by
  have e : ∑ d : Dev nD, g d = ((reach c).map g).sum :=
    (Fin.sum_univ_def (n := 16) g).trans ((reach_perm c).map g).sum_eq.symm
  rw [e, reach]
  simp only [List.map_cons, List.map_nil, List.sum_cons, List.sum_nil]
  abel

/-- After the four steps a device's block holds the sums over all devices. -/
theorem acc4_sum (c : Dev nD) (i : S512x520.Idx) (h : (pos c).val = (ablk i).val) : acc4 m ρ c i = (∑ d : Dev nD, acc0 m ρ d i : EReal) := by
  have k3 : ∀ d : Dev nD, (pos (pt 3 d)).val / 2 = (pos d).val / 2 := pos_pt 3
  have k2 : ∀ d : Dev nD, (pos (pt 2 d)).val / 4 = (pos d).val / 4 := pos_pt 2
  have k1 : ∀ d : Dev nD, (pos (pt 1 d)).val / 8 = (pos d).val / 8 := pos_pt 1
  have up2 : ∀ {a b : ℕ}, a / 2 = b / 2 → a / 4 = b / 4 := by intro a b h; omega
  have up1 : ∀ {a b : ℕ}, a / 4 = b / 4 → a / 8 = b / 8 := by intro a b h; omega
  have s1 : ∀ d : Dev nD, (pos d).val / 4 = (ablk i).val / 4 →
      acc2 m ρ d i = ((acc0 m ρ d i + acc0 m ρ (pt 0 d) i) + (acc0 m ρ (pt 1 d) i + acc0 m ρ (pt 0 (pt 1 d)) i) : EReal) := fun d hd => by
    rw [step1 m ρ d i hd, step0 m ρ d i (up1 hd), step0 m ρ (pt 1 d) i ((k1 d).trans (up1 hd))]
  have s2 : ∀ d : Dev nD, (pos d).val / 2 = (ablk i).val / 2 →
      acc3 m ρ d i = (acc2 m ρ d i + acc2 m ρ (pt 2 d) i : EReal) := fun d hd => step2 m ρ d i hd
  have h2 : (pos c).val / 2 = (ablk i).val / 2 := congrArg (· / 2) h
  have h2' : (pos (pt 3 c)).val / 2 = (ablk i).val / 2 := (k3 c).trans h2
  rw [step3 m ρ c i h, s2 c h2, s2 (pt 3 c) h2', s1 c (up2 h2), s1 (pt 3 c) (up2 h2'), s1 (pt 2 c) ((k2 c).trans (up2 h2)),
    s1 (pt 2 (pt 3 c)) ((k2 (pt 3 c)).trans (up2 h2'))]
  exact (sum_steps (fun d => acc0 m ρ d i) c).symm

/-! ## The sums over the keys -/

section Keys

variable (X : (⟨3, ![2, 256, 768]⟩ : Shape).Idx → EReal) (Wq : (⟨2, ![768, 512]⟩ : Shape).Idx → EReal)
  (Wo : (⟨2, ![512, 768]⟩ : Shape).Idx → EReal) (K V : (⟨4, ![2, 8192, 2, 64]⟩ : Shape).Idx → EReal)
  (hx : ∀ c, xst m ρ c = X) (hq : ∀ c, qst m ρ c = Wq) (hw : ∀ c, wst m ρ c = Wo)
  (hk : ∀ c b t g d, kst m ρ c (ix4 b t g d) = keyAt K b g d (512 * c.val + t.val))
  (hv : ∀ c b t g d, vst m ρ c (ix4 b t g d) = keyAt V b g d (512 * c.val + t.val))

include hx hq hk in
/-- A device's local weight is the weight of its key. -/
theorem wloc_eq (c : Dev nD) (b : Fin 2) (r : Fin 256) (h : Fin 8) (t : Fin 512) :
    wloc (xld b.val (inbX b.val b.isLt) (xst m ρ c)) (qld (qst m ρ c)) (kld b.val (inbK b.val b.isLt) (kst m ρ c)) r h t
      = Ideal.exp (score X Wq K b r h (512 * c.val + t.val)) := by
  unfold wloc
  rw [← Attention.score_scaled]
  refine congrArg Ideal.exp (Finset.sum_congr rfl fun d _ => ?_)
  rw [q_at, kld_at, hk, qld_eq, hq, hx]
  refine congrArg (fun z : EReal => z * _ * _) (Finset.sum_congr rfl fun j _ => ?_)
  rw [xld_at]

include hx hq hk hv in
/-- A device's unnormalised output: the sum over its keys. -/
theorem acc0_num (c : Dev nD) (b : Fin 2) (r : Fin 256) (h : Fin 8) (d : Fin 64) (i : S512x520.Idx) (h0 : (i 0).val = 256 * b.val + r.val)
    (h1 : (i 1).val = 64 * h.val + d.val) :
    acc0 m ρ c i = (∑ t : Fin 512, Ideal.exp (score X Wq K b r h (512 * c.val + t.val)) * keyAt V b (grp h) d (512 * c.val + t.val) : EReal) := by
  unfold acc0
  rw [accOf_at _ _ _ _ b.val b.isLt i r.val (64 * h.val + d.val) r.isLt (by omega) h0 h1, partB, part_num]
  refine Finset.sum_congr rfl fun t _ => ?_
  rw [wloc_eq m ρ X Wq K hx hq hk, vld_at, hv]

include hx hq hk in
/-- A device's denominator: the sum over its keys. -/
theorem acc0_den (c : Dev nD) (b : Fin 2) (r : Fin 256) (h : Fin 8) (i : S512x520.Idx) (h0 : (i 0).val = 256 * b.val + r.val)
    (h1 : (i 1).val = 512 + h.val) :
    acc0 m ρ c i = (∑ t : Fin 512, Ideal.exp (score X Wq K b r h (512 * c.val + t.val)) : EReal) := by
  unfold acc0
  rw [accOf_at _ _ _ _ b.val b.isLt i r.val (512 + h.val) r.isLt (by omega) h0 h1, partB, part_den]
  exact Finset.sum_congr rfl fun t _ => wloc_eq m ρ X Wq K hx hq hk c b r h t

include hx hq hw hk hv in
/-- The published block buffer holds the attention result. -/
theorem out_at (b : Fin 2) (r : Fin 256) (col : Fin 768) :
    out m ρ (ix2 ⟨256 * b.val + r.val, by omega⟩ col) = result X Wq Wo K V b r col := by
  set R : Fin 512 := ⟨256 * b.val + r.val, by omega⟩ with hR
  show fin m ρ (ofPos (blk (ix2 R col))) (mk2 (R.val % 32) col.val (by omega) col.isLt) = _
  set c : Dev nD := ofPos (blk (ix2 R col)) with hc
  have hp : (pos c).val = R.val / 32 := by rw [hc, pos_ofPos]; rfl
  rw [mk2_eq, fin, p119_at, wld_eq, hw, result]
  have rd : ∀ (x : ℕ) (hx : x < 520), rdA (k0_off9 c) S32x520.size (k0_off9_inb c) (acc4 m ρ c) (ix2 ⟨R.val % 32, by omega⟩ ⟨x, hx⟩)
      = (∑ d : Dev nD, acc0 m ρ d (ix2 R ⟨x, hx⟩) : EReal) := fun x hx => by
    rw [← acc4_sum m ρ c (ix2 R ⟨x, hx⟩) hp]
    refine rdA_at _ _ _ _ fun a => ?_
    rw [off9_eq, hp]
    fin_cases a
    · show R.val = 32 * (R.val / 32) + R.val % 32; omega
    · show x = 0 + x; omega
  refine Finset.sum_congr rfl fun j _ => congrArg (· * _) ?_
  have hj := j.isLt
  rw [rd j.val (by omega), rd (512 + j.val / 64) (by omega), att]
  refine congrArg₂ Ideal.div ?_ ?_
  · rw [num, ← Attention.sum_blocks _ 512 16]
    exact Finset.sum_congr rfl fun d _ => acc0_num m ρ X Wq K V hx hq hk hv d b r ⟨j.val / 64, by omega⟩ ⟨j.val % 64, by omega⟩ _ rfl
      (by show j.val = 64 * (j.val / 64) + j.val % 64; omega)
  · rw [den, ← Attention.sum_blocks _ 512 16]
    exact Finset.sum_congr rfl fun d _ => acc0_den m ρ X Wq K hx hq hk d b r ⟨j.val / 64, by omega⟩ _ rfl rfl

end Keys

end Cert.KernelIdealProof
-- ==== Proof.ReferenceIdealValue.lean ====
/-
# The reference's result: plain attention

The reference walks over eight chunks of 1024 keys with a running maximum. After each chunk its three arrays hold, at
every head and row, the running form of the plain softmax sums; the last quotient is the plain one.
-/
module

public import proofs.«01_k».proof.Proof.Gen.ReferenceIdeal.Run
public import proofs.«01_k».proof.Proof.Attention

@[expose] public section

noncomputable section

namespace Cert.ReferenceIdealProof

open Cert.ReferenceIdeal Cert.ReferenceIdeal.Gen Cert.ReferenceIdeal.Value Cert.Attention
open Idealize.ShloMosaic Idealize.ShloMosaic.TcCoe Idealize.SL.Sem

set_option maxRecDepth 16384

/-! ## One chunk -/

/-- The scores of a chunk. -/
def sc (q : FVec Ideal S2x256x8x64 .bf16) (k : FVec Ideal S2x1024x8x64 .bf16) : FVec Ideal S2x8x256x1024 .f32 :=
  mulf (extf .f32 (truncf .bf16 (Host.dotGeneral dot_S2x256x8x64_S2x1024x8x64_S2x8x256x1024_3_3_1_1_02_02 none q k) bitsLt_bf16_f32) bitsLt_bf16_f32) (broadcastInDim S2x8x256x1024 ![] bcast_S_S2x8x256x1024 (constant S_ .f32 0x3E000000#32))

/-- The new maximum. -/
def mx (m : FVec Ideal S2x8x256x1 .f32) (s : FVec Ideal S2x8x256x1024 .f32) : FVec Ideal S2x8x256x1 .f32 :=
  maximumf m (broadcastInDim S2x8x256x1 ![0, 1, 2] bcast_S2x8x256_S2x8x256x1_0_1_2 (Host.reduce FloatOps.maximumf s (constant S_ .f32 0xFF800000#32) reducesTo_S2x8x256x1024_S2x8x256_d3 h_S_))

/-- The factor that rescales what was summed before. -/
def co (m M : FVec Ideal S2x8x256x1 .f32) : FVec Ideal S2x8x256x1 .f32 := Host.exp (subf m M)

/-- The weights of a chunk. -/
def pr (s : FVec Ideal S2x8x256x1024 .f32) (M : FVec Ideal S2x8x256x1 .f32) : FVec Ideal S2x8x256x1024 .f32 :=
  Host.exp (subf s (broadcastInDim S2x8x256x1024 ![0, 1, 2, 3] bcast_S2x8x256x1_S2x8x256x1024_0_1_2_3 M))

/-- The new denominator. -/
def dn (l c : FVec Ideal S2x8x256x1 .f32) (p : FVec Ideal S2x8x256x1024 .f32) : FVec Ideal S2x8x256x1 .f32 :=
  addf (mulf l c) (broadcastInDim S2x8x256x1 ![0, 1, 2] bcast_S2x8x256_S2x8x256x1_0_1_2 (Host.reduceAdd p (constant S_ .f32 0x00000000#32) reducesTo_S2x8x256x1024_S2x8x256_d3 h_S_))

/-- The new unnormalised output. -/
def ou (O : FVec Ideal S2x256x8x64 .f32) (c : FVec Ideal S2x8x256x1 .f32) (v : FVec Ideal S2x1024x8x64 .bf16) (p : FVec Ideal S2x8x256x1024 .f32) : FVec Ideal S2x256x8x64 .f32 :=
  addf (mulf O (broadcastInDim S2x256x8x64 ![0, 1, 2, 3] bcast_S2x256x8x1_S2x256x8x64_0_1_2_3 (transpose S2x256x8x1 [0, 2, 1, 3] c transposes_S2x8x256x1_S2x256x8x1_0_2_1_3))) (transpose S2x256x8x64 [0, 3, 1, 2] (Host.dotGeneral dot_S2x1024x8x64_S2x8x256x1024_S2x8x64x256_1_3_3_2_02_01 none v p) transposes_S2x8x64x256_S2x256x8x64_0_3_1_2)

/-- The scores, read at an index. -/
theorem sc_at (q : FVec Ideal S2x256x8x64 .bf16) (k : FVec Ideal S2x1024x8x64 .bf16) (b : Fin 2) (h : Fin 8) (r : Fin 256) (t : Fin 1024) :
    sc q k (ix4 b h r t) = (∑ d : Fin 64, q (ix4 b r h d) * k (ix4 b t h d)) * Ideal.ofBits .f32 0x3E000000#32 := by
  pointwise [sc]

/-- The bits of minus infinity. -/
theorem ninf : Ideal.ofBits .f32 0xFF800000#32 = ⊥ := by
  simp [Ideal.ofBits, Ideal.ieee]

/-- The maximum over the last axis, at any extents. -/
theorem max_last {n0 n1 n2 n3 : ℕ} (s : FVec Ideal ⟨4, ![n0, n1, n2, n3]⟩ .f32) (i : FVec Ideal S_ .f32)
    (h' : (⟨4, ![n0, n1, n2, n3]⟩ : Shape).ReducesTo [3] ⟨3, ![n0, n1, n2]⟩) (hu : 0 < S_.numel) (b : Fin n0) (h : Fin n1) (r : Fin n2) :
    Host.reduce FloatOps.maximumf s i h' hu (ix3 b h r) = Finset.univ.fold max (i (Shape.Idx.first hu)) fun t : Fin n3 => s (ix4 b h r t) := by
  simp only [pointwise]

/-- A maximum with a column, read at a row. -/
theorem max_at (m : FVec Ideal S2x8x256x1 .f32) (z : FVec Ideal S2x8x256 .f32) (b : Fin 2) (h : Fin 8) (r : Fin 256) :
    maximumf m (broadcastInDim S2x8x256x1 ![0, 1, 2] bcast_S2x8x256_S2x8x256x1_0_1_2 z) (ix4 b h r 0) = max (m (ix4 b h r 0)) (z (ix3 b h r)) := by
  pointwise

/-- The fold starts from minus infinity. -/
theorem start_at : (constant S_ .f32 0xFF800000#32 : FVec Ideal S_ .f32) (Shape.Idx.first h_S_) = ⊥ := ninf

/-- The chunk's maximum, read at a row. -/
theorem red_at (s : FVec Ideal S2x8x256x1024 .f32) (b : Fin 2) (h : Fin 8) (r : Fin 256) :
    Host.reduce FloatOps.maximumf s (constant S_ .f32 0xFF800000#32) reducesTo_S2x8x256x1024_S2x8x256_d3 h_S_ (ix3 b h r) = Finset.univ.fold max ⊥ fun t : Fin 1024 => s (ix4 b h r t) := by
  have e := max_last s (constant S_ .f32 0xFF800000#32) reducesTo_S2x8x256x1024_S2x8x256_d3 h_S_ b h r
  rw [start_at] at e
  exact e

/-- The new maximum, read at a row. -/
theorem mx_at (m : FVec Ideal S2x8x256x1 .f32) (s : FVec Ideal S2x8x256x1024 .f32) (b : Fin 2) (h : Fin 8) (r : Fin 256) :
    mx m s (ix4 b h r 0) = max (m (ix4 b h r 0)) (Finset.univ.fold max ⊥ fun t : Fin 1024 => s (ix4 b h r t)) := by
  rw [mx, max_at, red_at]

/-- The factor, read at a row. -/
theorem co_at (m M : FVec Ideal S2x8x256x1 .f32) (b : Fin 2) (h : Fin 8) (r : Fin 256) :
    co m M (ix4 b h r 0) = Ideal.exp (m (ix4 b h r 0) - M (ix4 b h r 0)) := by
  pointwise [co]

/-- The weights, read at an index. -/
theorem pr_at (s : FVec Ideal S2x8x256x1024 .f32) (M : FVec Ideal S2x8x256x1 .f32) (b : Fin 2) (h : Fin 8) (r : Fin 256) (t : Fin 1024) :
    pr s M (ix4 b h r t) = Ideal.exp (s (ix4 b h r t) - M (ix4 b h r 0)) := by
  pointwise [pr]

/-- The new denominator, read at a row. -/
theorem dn_at (l c : FVec Ideal S2x8x256x1 .f32) (p : FVec Ideal S2x8x256x1024 .f32) (b : Fin 2) (h : Fin 8) (r : Fin 256) :
    dn l c p (ix4 b h r 0) = l (ix4 b h r 0) * c (ix4 b h r 0) + ∑ t : Fin 1024, p (ix4 b h r t) := by
  pointwise [dn]

/-- The new unnormalised output, read at an index. -/
theorem ou_at (O : FVec Ideal S2x256x8x64 .f32) (c : FVec Ideal S2x8x256x1 .f32) (v : FVec Ideal S2x1024x8x64 .bf16) (p : FVec Ideal S2x8x256x1024 .f32)
    (b : Fin 2) (r : Fin 256) (h : Fin 8) (d : Fin 64) :
    ou O c v p (ix4 b r h d) = O (ix4 b r h d) * c (ix4 b h r 0) + ∑ t : Fin 1024, v (ix4 b t h d) * p (ix4 b h r t) := by
  pointwise [ou]

/-! ## The walk -/

section Walk

variable (X : (⟨3, ![2, 256, 768]⟩ : Shape).Idx → EReal) (Wq : (⟨2, ![768, 512]⟩ : Shape).Idx → EReal)
  (Wo : (⟨2, ![512, 768]⟩ : Shape).Idx → EReal) (K V : (⟨4, ![2, 8192, 2, 64]⟩ : Shape).Idx → EReal)

/-- After the first `n` keys. -/
def Good (n : ℕ) (m l : FVec Ideal S2x8x256x1 .f32) (O : FVec Ideal S2x256x8x64 .f32) : Prop :=
  ∀ b h r d, Inv (score X Wq K b r h) (keyAt V b (grp h) d) n (m (ix4 b h r 0)) (l (ix4 b h r 0)) (O (ix4 b r h d))

variable (hX : ∀ i, IsReal (X i)) (hW : ∀ i, IsReal (Wq i)) (hK : ∀ i, IsReal (K i))

include hX hW hK in
/-- One chunk further. -/
theorem Good.chunk {n : ℕ} {m l : FVec Ideal S2x8x256x1 .f32} {O : FVec Ideal S2x256x8x64 .f32} (g : Good X Wq K V n m l O)
    {q : FVec Ideal S2x256x8x64 .bf16} {k v : FVec Ideal S2x1024x8x64 .bf16} {s p : FVec Ideal S2x8x256x1024 .f32} {M c : FVec Ideal S2x8x256x1 .f32}
    (hq : ∀ b r h d, q (ix4 b r h d) = query X Wq b r (hcol h d))
    (hk : ∀ b t h d, k (ix4 b t h d) = keyAt K b (grp h) d (n + t.val))
    (hv : ∀ b t h d, v (ix4 b t h d) = keyAt V b (grp h) d (n + t.val))
    (hs : s = sc q k) (hM : M = mx m s) (hc : c = co m M) (hp : p = pr s M) :
    Good X Wq K V (n + 1024) M (dn l c p) (ou O c v p) := by
  intro b h r d
  have es : ∀ t : Fin 1024, s (ix4 b h r t) = score X Wq K b r h (n + t.val) := fun t => by
    rw [hs, sc_at, score]
    refine congrArg (· * _) (Finset.sum_congr rfl fun d _ => ?_)
    rw [hq, hk]
  have eM : M (ix4 b h r 0) = max (m (ix4 b h r 0)) (Finset.univ.fold max ⊥ fun t : Fin 1024 => score X Wq K b r h (n + t.val)) := by
    rw [hM, mx_at]
    simp only [es]
  have st := (g b h r d).step (k := 1024) (by norm_num) (score_real X Wq K hX hW hK b r h) eM
  rw [dn_at, ou_at, hc, co_at]
  simp only [hp, pr_at, es, hv]
  exact st

/-- Before the first chunk. -/
theorem Good.start : Good X Wq K V 0 (broadcastInDim S2x8x256x1 ![] bcast_S_S2x8x256x1 (constant S_ .f32 0xFF800000#32))
    (broadcastInDim S2x8x256x1 ![] bcast_S_S2x8x256x1 (constant S_ .f32 0x00000000#32)) (broadcastInDim S2x256x8x64 ![] bcast_S_S2x256x8x64 (constant S_ .f32 0x00000000#32)) := by
  intro b h r d
  refine .inl ⟨rfl, ?_, ?_, ?_⟩
  · exact ninf
  · pointwise
  · pointwise

end Walk

/-! ## The operands -/

/-- The projected query, split by head. -/
theorem qrow_at (x : FVec Ideal S2x256x768 .bf16) (w : FVec Ideal S768x512 .bf16) (b : Fin 2) (r : Fin 256) (h : Fin 8) (d : Fin 64) :
    (shapeCast _ (truncf .bf16 (Host.dotGeneral dot_S2x256x768_S768x512_S2x256x512_2_0_01_1_n_n none x w) bitsLt_bf16_f32) shapeCasts_S2x256x512_S2x256x8x64 : FVec Ideal S2x256x8x64 .bf16) (ix4 b r h d)
      = query x w b r (hcol h d) := by
  pointwise
  refine Finset.sum_congr rfl fun m _ => congrArg (fun z => _ * w (ix2 m z)) (Fin.ext ?_)
  show h.val * 64 + d.val = 64 * h.val + d.val
  omega

/-- The keys (or values), each group repeated for its four heads. -/
theorem krow_at (k : FVec Ideal S2x8192x2x64 .bf16) (b : Fin 2) (t : Fin 8192) (h : Fin 8) (d : Fin 64) :
    (shapeCast _ (broadcastInDim S2x8192x2x4x64 ![0, 1, 2, 4] bcast_S2x8192x2x64_S2x8192x2x4x64_0_1_2_4 k) shapeCasts_S2x8192x2x4x64_S2x8192x8x64 : FVec Ideal S2x8192x8x64 .bf16) (ix4 b t h d)
      = keyAt k b (grp h) d t.val := by
  rw [keyAt, dif_pos t.isLt]
  pointwise
  rfl

/-- A chunk of the keys. -/
theorem slice_at (o : ℕ) (x : FVec Ideal S2x8192x8x64 .bf16) (hs : S2x8192x8x64.Slices ![0, o, 0, 0] S2x1024x8x64) (ho : o + 1024 ≤ 8192)
    (b : Fin 2) (t : Fin 1024) (h : Fin 8) (d : Fin 64) :
    extractStridedSlice S2x1024x8x64 ![0, o, 0, 0] x hs (ix4 b t h d) = x (ix4 b ⟨o + t.val, by omega⟩ h d) := by
  pointwise

/-- The quotient, read at an index. -/
theorem quot_at (O : FVec Ideal S2x256x8x64 .f32) (l : FVec Ideal S2x8x256x1 .f32) (b : Fin 2) (r : Fin 256) (h : Fin 8) (d : Fin 64) :
    Host.divf O (broadcastInDim S2x256x8x64 ![0, 1, 2, 3] bcast_S2x256x8x1_S2x256x8x64_0_1_2_3 (transpose S2x256x8x1 [0, 2, 1, 3] l transposes_S2x8x256x1_S2x256x8x1_0_2_1_3)) (ix4 b r h d)
      = Ideal.div (O (ix4 b r h d)) (l (ix4 b h r 0)) := by
  pointwise

/-- The output projection. -/
theorem final_at (a : FVec Ideal S2x256x8x64 .f32) (w : FVec Ideal S512x768 .bf16) (b : Fin 2) (r : Fin 256) (c : Fin 768) :
    (shapeCast _ (Host.dotGeneral dot_S2x256x512_S512x768_S2x256x768_2_0_01_1_n_n none (shapeCast _ a shapeCasts_S2x256x8x64_S2x256x512) w) shapeCasts_S2x256x768_S512x768 : FVec Ideal S512x768 .f32)
      (ix2 ⟨256 * b.val + r.val, by omega⟩ c) = ∑ j : Fin 512, a (ix4 b r ⟨j.val / 64, by omega⟩ ⟨j.val % 64, by omega⟩) * w (ix2 j c) := by
  pointwise

/-! ## The reference's result -/

section Result

variable (U : Valuation τ sig (Elt Ideal))

/-- The reference's arguments. -/
abbrev argX : FVec Ideal S2x256x768 .bf16 := U (Proc.devRef .tc main_arg0)
abbrev argWq : FVec Ideal S768x512 .bf16 := U (Proc.devRef .tc main_arg1)
abbrev argK : FVec Ideal S2x8192x2x64 .bf16 := U (Proc.devRef .tc main_arg2)
abbrev argV : FVec Ideal S2x8192x2x64 .bf16 := U (Proc.devRef .tc main_arg3)
abbrev argWo : FVec Ideal S512x768 .bf16 := U (Proc.devRef .tc main_arg4)

/-- A chunk of the keys (or values) at an index. -/
theorem chunk_at (o : ℕ) (k : FVec Ideal S2x8192x2x64 .bf16) (hs : S2x8192x8x64.Slices ![0, o, 0, 0] S2x1024x8x64) (ho : o + 1024 ≤ 8192)
    (b : Fin 2) (t : Fin 1024) (h : Fin 8) (d : Fin 64) :
    extractStridedSlice S2x1024x8x64 ![0, o, 0, 0] (shapeCast _ (broadcastInDim S2x8192x2x4x64 ![0, 1, 2, 4] bcast_S2x8192x2x64_S2x8192x2x4x64_0_1_2_4 k) shapeCasts_S2x8192x2x4x64_S2x8192x8x64 : FVec Ideal S2x8192x8x64 .bf16) hs (ix4 b t h d)
      = keyAt k b (grp h) d (o + t.val) := by
  rw [slice_at o _ hs ho, krow_at]

variable (hX : ∀ i, IsReal (argX U i)) (hW : ∀ i, IsReal (argWq U i)) (hK : ∀ i, IsReal (argK U i))

include hX hW hK in
/-- One chunk further, on the reference's operands. -/
theorem walk {n : ℕ} {m l : FVec Ideal S2x8x256x1 .f32} {O : FVec Ideal S2x256x8x64 .f32} (g : Good (argX U) (argWq U) (argK U) (argV U) n m l O)
    (ho : n + 1024 ≤ 8192) (sl : S2x8192x8x64.Slices ![0, n, 0, 0] S2x1024x8x64) {s p : FVec Ideal S2x8x256x1024 .f32} {M c : FVec Ideal S2x8x256x1 .f32}
    (hs : s = sc (res_main_v2 U) (extractStridedSlice S2x1024x8x64 ![0, n, 0, 0] (res_main_v4 U) sl)) (hM : M = mx m s) (hc : c = co m M) (hp : p = pr s M) :
    Good (argX U) (argWq U) (argK U) (argV U) (n + 1024) M (dn l c p) (ou O c (extractStridedSlice S2x1024x8x64 ![0, n, 0, 0] (res_main_v6 U) sl) p) :=
  g.chunk _ _ _ _ hX hW hK (qrow_at (argX U) (argWq U)) (chunk_at n (argK U) sl ho) (chunk_at n (argV U) sl ho) hs hM hc hp

include hX hW hK in
/-- The attention output before the output projection. -/
theorem att_at (b : Fin 2) (r : Fin 256) (h : Fin 8) (d : Fin 64) :
    (res_main_v212 U : FVec Ideal S2x256x8x64 .f32) (ix4 b r h d) = att (argX U) (argWq U) (argK U) (argV U) b r h d := by
  have g0 := Good.start (argX U) (argWq U) (argK U) (argV U)
  have g1 := walk U hX hW hK g0 (by norm_num) slices_S2x8192x8x64_S2x1024x8x64_0_0_0_0 (s := res_main_v16 U) (M := res_main_v19 U) (c := res_main_v21 U) (p := res_main_v24 U) rfl rfl rfl rfl
  have g2 := walk U hX hW hK g1 (by norm_num) slices_S2x8192x8x64_S2x1024x8x64_0_1024_0_0 (s := res_main_v41 U) (M := res_main_v44 U) (c := res_main_v46 U) (p := res_main_v49 U) rfl rfl rfl rfl
  have g3 := walk U hX hW hK g2 (by norm_num) slices_S2x8192x8x64_S2x1024x8x64_0_2048_0_0 (s := res_main_v66 U) (M := res_main_v69 U) (c := res_main_v71 U) (p := res_main_v74 U) rfl rfl rfl rfl
  have g4 := walk U hX hW hK g3 (by norm_num) slices_S2x8192x8x64_S2x1024x8x64_0_3072_0_0 (s := res_main_v91 U) (M := res_main_v94 U) (c := res_main_v96 U) (p := res_main_v99 U) rfl rfl rfl rfl
  have g5 := walk U hX hW hK g4 (by norm_num) slices_S2x8192x8x64_S2x1024x8x64_0_4096_0_0 (s := res_main_v116 U) (M := res_main_v119 U) (c := res_main_v121 U) (p := res_main_v124 U) rfl rfl rfl rfl
  have g6 := walk U hX hW hK g5 (by norm_num) slices_S2x8192x8x64_S2x1024x8x64_0_5120_0_0 (s := res_main_v141 U) (M := res_main_v144 U) (c := res_main_v146 U) (p := res_main_v149 U) rfl rfl rfl rfl
  have g7 := walk U hX hW hK g6 (by norm_num) slices_S2x8192x8x64_S2x1024x8x64_0_6144_0_0 (s := res_main_v166 U) (M := res_main_v169 U) (c := res_main_v171 U) (p := res_main_v174 U) rfl rfl rfl rfl
  have g8 := walk U hX hW hK g7 (by norm_num) slices_S2x8192x8x64_S2x1024x8x64_0_7168_0_0 (s := res_main_v191 U) (M := res_main_v194 U) (c := res_main_v196 U) (p := res_main_v199 U) rfl rfl rfl rfl
  refine Eq.trans ?_ ((g8 b h r d).div (by norm_num) (score_real _ _ _ hX hW hK b r h))
  exact quot_at _ _ b r h d

include hX hW hK in
/-- The reference's result. -/
theorem result_at (a : FVec Ideal S2x256x8x64 .f32) (ha : a = res_main_v212 U) (b : Fin 2) (r : Fin 256) (c : Fin 768) :
    (shapeCast _ (Host.dotGeneral dot_S2x256x512_S512x768_S2x256x768_2_0_01_1_n_n none (shapeCast _ a shapeCasts_S2x256x8x64_S2x256x512) (argWo U)) shapeCasts_S2x256x768_S512x768 : FVec Ideal S512x768 .f32)
      (ix2 ⟨256 * b.val + r.val, by omega⟩ c) = result (argX U) (argWq U) (argWo U) (argK U) (argV U) b r c := by
  rw [final_at, result, ha]
  exact Finset.sum_congr rfl fun j _ => congrArg (· * _) (att_at U hX hW hK b r _ _)

end Result

end Cert.ReferenceIdealProof

end
-- ==== Proof.Equal.lean ====
/-
# Kernel and reference end with the same array

The precondition is read back as "real at every index"; each device's blocks are read as parts of the whole arrays; both
results are then the shared attention value.
-/
module

public import proofs.«01_k».proof.Defs
public import proofs.«01_k».proof.Proof.KernelIdealFrame
public import proofs.«01_k».proof.Proof.KernelIdealValue
public import proofs.«01_k».proof.Proof.ReferenceIdealValue
public import proofs.«01_k».proof.Proof.Gen.Pre_finite_KernelIdeal
public import Idealize.ShloMosaic.Lib.ReduceAll

@[expose] public section

noncomputable section

namespace Cert.Proof

open Idealize.ShloMosaic Idealize.ShloMosaic.TcCoe Idealize.SL.Sem
open Cert.Attention

/-- A value whose absolute value is below the f32 infinity is real. -/
theorem real_of_lt (x : EReal) (h : Ideal.cmp .olt (max x (-x)) (Ideal.ofBits .f32 0x7F800000#32) = 1#1) : IsReal x := by
  have e : Ideal.ofBits .f32 0x7F800000#32 = ⊤ := by simp [Ideal.ofBits, Ideal.ieee]
  rw [e] at h
  have hlt : max x (-x) < ⊤ := by
    by_contra hn
    simp [Ideal.cmp, hn] at h
  have h1 : x < ⊤ := lt_of_le_of_lt (le_max_left _ _) hlt
  have h2 : -x < ⊤ := lt_of_le_of_lt (le_max_right _ _) hlt
  have h3 : x ≠ ⊥ := fun hb => by rw [hb, EReal.neg_bot] at h2; exact lt_irrefl _ h2
  exact ⟨_, (EReal.coe_toReal h1.ne h3).symm⟩

instance : Subsingleton (Cert.Pre_finite_KernelIdeal.S_).Idx := ⟨fun a b => funext fun i => i.elim0⟩

/-- The precondition on one device's blocks: `x`, `Wq` and the keys are real at every index. -/
theorem pre_real (x : FVec Ideal ⟨3, ![2, 256, 768]⟩ .bf16) (wq : FVec Ideal ⟨2, ![768, 512]⟩ .bf16) (k v : FVec Ideal ⟨4, ![2, 512, 2, 64]⟩ .bf16)
    (wo : FVec Ideal ⟨2, ![512, 768]⟩ .bf16) (h : Cert.Pre_finite_KernelIdeal.fn (F := Ideal) x wq k v wo = fun _ => 1#1) :
    (∀ i, IsReal (x i)) ∧ (∀ i, IsReal (wq i)) ∧ ∀ i, IsReal (k i) := by
  have h0 := congrFun h (Shape.Idx.first Cert.Pre_finite_KernelIdeal.Gen.h_S_)
  simp only [Cert.Pre_finite_KernelIdeal.fn] at h0
  obtain ⟨h01, h2⟩ := IntOp.andi_eq_one.mp h0
  obtain ⟨h0, h1⟩ := IntOp.andi_eq_one.mp h01
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i)⟩

/-- Device `c`'s block of the keys (or values) is keys `512 c` to `512 c + 511`. -/
theorem block_key (A : (⟨4, ![2, 8192, 2, 64]⟩ : Shape).Idx → EReal) (c : Fin 16) (b : Fin 2) (t : Fin 512) (g : Fin 2) (d : Fin 64) :
    Layout.block ⟨4, ![2, 512, 2, 64]⟩ ⟨4, ![2, 8192, 2, 64]⟩ 1 16 c A (by decide) (ix4 b t g d) = keyAt A b g d (512 * c.val + t.val) := by
  rw [keyAt, dif_pos (by omega), Layout.block_apply]
  refine congrArg A (funext fun a => Fin.ext ?_)
  rw [Layout.Tiles.idx_val]
  fin_cases a
  · rfl
  · show c.val * 512 + t.val = 512 * c.val + t.val
    omega
  · rfl
  · rfl

/-- Every key lies in one device's block. -/
theorem real_of_blocks (A : (⟨4, ![2, 8192, 2, 64]⟩ : Shape).Idx → EReal)
    (h : ∀ c : Fin 16, ∀ i, IsReal (Layout.block ⟨4, ![2, 512, 2, 64]⟩ ⟨4, ![2, 8192, 2, 64]⟩ 1 16 c A (by decide) i)) (i : (⟨4, ![2, 8192, 2, 64]⟩ : Shape).Idx) :
    IsReal (A i) := by
  obtain ⟨b, t, g, d, rfl⟩ : ∃ (b : Fin 2) (t : Fin 8192) (g : Fin 2) (d : Fin 64), i = ix4 b t g d := ⟨_, _, _, _, eq_ix4 i⟩
  have e := h ⟨t.val / 512, by omega⟩ (ix4 b ⟨t.val % 512, by omega⟩ g d)
  rw [block_key, keyAt, dif_pos (by simp only []; omega)] at e
  have et : (⟨512 * (t.val / 512) + t.val % 512, by omega⟩ : Fin 8192) = t := Fin.ext (by simp only []; omega)
  rw [← et]
  exact e

open Cert.ReferenceIdeal Cert.ReferenceIdeal.Gen in
/-- The kernel's result on every device is the reference's. -/
theorem meet (m : (ℓ : Loc Cert.KernelIdeal.nD Cert.KernelIdeal.τ Cert.KernelIdeal.sig) → Buf (Elt Ideal) ℓ) (ρ : Dev Cert.KernelIdeal.nD → PrngReg)
    (U : Valuation Cert.ReferenceIdeal.τ Cert.ReferenceIdeal.sig (Elt Ideal))
    (hpre : ∀ c : Dev Cert.KernelIdeal.nD, Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) = fun _ => 1#1)
    (hargs : ∀ c : Dev Cert.KernelIdeal.nD,
      m ((c.tc : Thread Cert.KernelIdeal.nD Cert.KernelIdeal.τ).loc Cert.KernelIdeal.main_arg0) = Cert.ReferenceIdealProof.argX U
      ∧ m ((c.tc : Thread Cert.KernelIdeal.nD Cert.KernelIdeal.τ).loc Cert.KernelIdeal.main_arg1) = Cert.ReferenceIdealProof.argWq U
      ∧ m ((c.tc : Thread Cert.KernelIdeal.nD Cert.KernelIdeal.τ).loc Cert.KernelIdeal.main_arg2) = Layout.block ⟨4, ![2, 512, 2, 64]⟩ ⟨4, ![2, 8192, 2, 64]⟩ 1 16 c (Cert.ReferenceIdealProof.argK U)
      ∧ m ((c.tc : Thread Cert.KernelIdeal.nD Cert.KernelIdeal.τ).loc Cert.KernelIdeal.main_arg3) = Layout.block ⟨4, ![2, 512, 2, 64]⟩ ⟨4, ![2, 8192, 2, 64]⟩ 1 16 c (Cert.ReferenceIdealProof.argV U)
      ∧ m ((c.tc : Thread Cert.KernelIdeal.nD Cert.KernelIdeal.τ).loc Cert.KernelIdeal.main_arg4) = Cert.ReferenceIdealProof.argWo U)
    (a : FVec Ideal Cert.ReferenceIdeal.S2x256x8x64 .f32) (ha : a = Cert.ReferenceIdeal.Value.res_main_v212 U) :
    Cert.KernelIdeal.Gen.k0_pay120 (F := Ideal) (Cert.KernelIdealProof.out m ρ)
      = (shapeCast _ (Host.dotGeneral dot_S2x256x512_S512x768_S2x256x768_2_0_01_1_n_n none (shapeCast _ a shapeCasts_S2x256x8x64_S2x256x512) (Cert.ReferenceIdealProof.argWo U)) shapeCasts_S2x256x768_S512x768 : FVec Ideal Cert.ReferenceIdeal.S512x768 .f32) := by
  have hX : ∀ i, IsReal (Cert.ReferenceIdealProof.argX U i) := fun i => by
    rw [← (hargs 0).1]; exact (pre_real _ _ _ _ _ (hpre 0)).1 i
  have hW : ∀ i, IsReal (Cert.ReferenceIdealProof.argWq U i) := fun i => by
    rw [← (hargs 0).2.1]; exact (pre_real _ _ _ _ _ (hpre 0)).2.1 i
  have hK : ∀ i, IsReal (Cert.ReferenceIdealProof.argK U i) := fun i => real_of_blocks _ (fun c i => by
    rw [← (hargs c).2.2.1]; exact (pre_real _ _ _ _ _ (hpre c)).2.2 i) i
  funext i
  obtain ⟨R, col, rfl⟩ : ∃ (R : Fin 512) (col : Fin 768), i = ix2 R col := ⟨_, _, eq_ix2 i⟩
  have eR : R = ⟨256 * (⟨R.val / 256, by omega⟩ : Fin 2).val + (⟨R.val % 256, by omega⟩ : Fin 256).val, by simp only []; omega⟩ := Fin.ext (by simp only []; omega)
  rw [eR]
  refine Eq.trans ?_ (Cert.ReferenceIdealProof.result_at U hX hW hK a ha _ _ col).symm
  exact Cert.KernelIdealProof.out_at m ρ _ _ _ _ _
    (fun c => (Cert.KernelIdealProof.xst_eq m ρ c).trans (hargs c).1)
    (fun c => (Cert.KernelIdealProof.qst_eq m ρ c).trans (hargs c).2.1)
    (fun c => (Cert.KernelIdealProof.wst_eq m ρ c).trans (hargs c).2.2.2.2)
    (fun c b t g d => (congrFun ((Cert.KernelIdealProof.kst_eq m ρ c).trans (hargs c).2.2.1) _).trans (block_key _ c b t g d))
    (fun c b t g d => (congrFun ((Cert.KernelIdealProof.vst_eq m ρ c).trans (hargs c).2.2.2.1) _).trans (block_key _ c b t g d)) _ _ col

end Cert.Proof

end
-- ==== Proof.lean ====
module

public import proofs.«01_k».proof.Defs
public import proofs.«01_k».proof.Proof.KernelFrame
public import proofs.«01_k».proof.Proof.KernelIdealFrame
public import proofs.«01_k».proof.Proof.Equal
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal

@[expose] public section

noncomputable section

namespace Cert.Proof

open Idealize.ShloMosaic Idealize.SL.Sem

/-- The kernel's run, at machine floats. -/
theorem frame_kernel : Cert.quiescent_Kernel := fun m g _ =>
  (θ_run (Cert.Kernel.defs (F := Bits)) _ _).mono (fun _ h => ⟨fun c => (h.1 c).2, h.2⟩) (Cert.KernelProof.run_all (F := Bits) m g)

/-- The kernel's run, at exact arithmetic. -/
theorem frame_ideal : Cert.quiescent_KernelIdeal := fun m g _ =>
  (θ_run (Cert.KernelIdeal.defs (F := Ideal)) _ _).mono (fun _ h => ⟨fun c => (h.1 c).2, h.2⟩) (Cert.KernelIdealProof.run_all (F := Ideal) m g)

/-- The reference's run: no semaphore, so every counter is zero. -/
theorem frame_reference : Cert.quiescent_ReferenceIdeal := fun m g _ =>
  (θ_run (Cert.ReferenceIdeal.defs (F := Ideal)) _ _).mono (fun r h => ⟨fun c => (h c).2, sem_eq_zero_of_no_sems rfl r.2⟩) (Cert.ReferenceIdeal.Value.run (F := Ideal) m g)

/-- Both runs end with the same values, wherever x, Wq and the keys are finite. -/
theorem value : Cert.algebraic_KernelIdeal_ReferenceIdeal_pre_finite_KernelIdeal := fun m g m' g' hpre hargs =>
  ⟨_, (θ_run (Cert.KernelIdeal.defs (F := Ideal)) _ _).mono (fun _ h c => ⟨(h.1 c).1.trans (Cert.Proof.meet m g (StableHlo.launchContents m' 0) hpre hargs _ rfl), (h.1 c).2⟩)
      (Cert.KernelIdealProof.run_all (F := Ideal) m g),
    (θ_run (Cert.ReferenceIdeal.defs (F := Ideal)) _ _).mono (fun _ h => h 0) (Cert.ReferenceIdeal.Value.run (F := Ideal) m' g')⟩

/-- The certificate's claim. -/
theorem claim : Cert.Claim := ⟨Cert.Kernel.Gen.facts, Cert.KernelIdeal.Gen.facts, Cert.ReferenceIdeal.Gen.facts, Cert.Pre_finite_KernelIdeal.Gen.facts, Cert.Pre_finite_ReferenceIdeal.Gen.facts,
  frame_kernel, frame_ideal, fun m g _ => frame_ideal m g trivial, frame_reference, fun m g _ => frame_reference m g trivial, trivial, value⟩

end Cert.Proof

end
